-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnRefIdeal (m : (ℓ : Loc Cert.FfnRefIdeal.nD Cert.FfnRefIdeal.τ Cert.FfnRefIdeal.sig) → Buf (Elt Ideal) ℓ) : Prop :=
  True

def Pre_Mix (m : (ℓ : Loc Cert.Mix.nD Cert.Mix.τ Cert.Mix.sig) → Buf (Elt Bits) ℓ) : Prop :=
  True

def Pre_MixIdeal (m : (ℓ : Loc Cert.MixIdeal.nD Cert.MixIdeal.τ Cert.MixIdeal.sig) → Buf (Elt Ideal) ℓ) : Prop :=
  True

def Pre_MixRefIdeal (m : (ℓ : Loc Cert.MixRefIdeal.nD Cert.MixRefIdeal.τ Cert.MixRefIdeal.sig) → Buf (Elt Ideal) ℓ) : Prop :=
  True

def Pre_Pre (m : (ℓ : Loc Cert.Pre.nD Cert.Pre.τ Cert.Pre.sig) → Buf (Elt Bits) ℓ) : Prop :=
  True

def Pre_PreIdeal (m : (ℓ : Loc Cert.PreIdeal.nD Cert.PreIdeal.τ Cert.PreIdeal.sig) → Buf (Elt Ideal) ℓ) : Prop :=
  True

def Pre_PreRefIdeal (m : (ℓ : Loc Cert.PreRefIdeal.nD Cert.PreRefIdeal.τ Cert.PreRefIdeal.sig) → Buf (Elt Ideal) ℓ) : Prop :=
  True

def Pre_PreRes (m : (ℓ : Loc Cert.PreRes.nD Cert.PreRes.τ Cert.PreRes.sig) → Buf (Elt Bits) ℓ) : Prop :=
  True

def Pre_PreResIdeal (m : (ℓ : Loc Cert.PreResIdeal.nD Cert.PreResIdeal.τ Cert.PreResIdeal.sig) → Buf (Elt Ideal) ℓ) : Prop :=
  True

def Pre_PreResRefIdeal (m : (ℓ : Loc Cert.PreResRefIdeal.nD Cert.PreResRefIdeal.τ Cert.PreResRefIdeal.sig) → Buf (Elt Ideal) ℓ) : Prop :=
  True

def Pre_Wkv (m : (ℓ : Loc Cert.Wkv.nD Cert.Wkv.τ Cert.Wkv.sig) → Buf (Elt Bits) ℓ) : Prop :=
  True

def Pre_WkvIdeal (m : (ℓ : Loc Cert.WkvIdeal.nD Cert.WkvIdeal.τ Cert.WkvIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ r.2.sem = fun _ => 0)

def quiescent_FfnRefIdeal [hFfnRefIdeal : Cert.FfnRefIdeal.Facts] : Prop :=
  ∀ (m : (ℓ : Loc Cert.FfnRefIdeal.nD Cert.FfnRefIdeal.τ Cert.FfnRefIdeal.sig) → Buf (Elt Ideal) ℓ) (g : Dev Cert.FfnRefIdeal.nD → PrngReg), Pre_FfnRefIdeal m →
    θ_run (Cert.FfnRefIdeal.defs (F := Ideal)) (onTc (τ := Cert.FfnRefIdeal.τ) (Cert.FfnRefIdeal.main (F := Ideal))) ⟨m, fun _ => 0, g⟩ (fun r => (∀ c : Dev Cert.FfnRefIdeal.nD,
      r.2.mem ((c.tc : Thread Cert.FfnRefIdeal.nD Cert.FfnRefIdeal.τ).loc Cert.FfnRefIdeal.main_arg0) = m ((c.tc : Thread Cert.FfnRefIdeal.nD Cert.FfnRefIdeal.τ).loc Cert.FfnRefIdeal.main_arg0)
      ∧ r.2.mem ((c.tc : Thread Cert.FfnRefIdeal.nD Cert.FfnRefIdeal.τ).loc Cert.FfnRefIdeal.main_arg1) = m ((c.tc : Thread Cert.FfnRefIdeal.nD Cert.FfnRefIdeal.τ).loc Cert.FfnRefIdeal.main_arg1)
      ∧ r.2.mem ((c.tc : Thread Cert.FfnRefIdeal.nD Cert.FfnRefIdeal.τ).loc Cert.FfnRefIdeal.main_arg2) = m ((c.tc : Thread Cert.FfnRefIdeal.nD Cert.FfnRefIdeal.τ).loc Cert.FfnRefIdeal.main_arg2)
      ∧ r.2.mem ((c.tc : Thread Cert.FfnRefIdeal.nD Cert.FfnRefIdeal.τ).loc Cert.FfnRefIdeal.main_arg3) = m ((c.tc : Thread Cert.FfnRefIdeal.nD Cert.FfnRefIdeal.τ).loc Cert.FfnRefIdeal.main_arg3)
      ∧ r.2.mem ((c.tc : Thread Cert.FfnRefIdeal.nD Cert.FfnRefIdeal.τ).loc Cert.FfnRefIdeal.main_arg4) = m ((c.tc : Thread Cert.FfnRefIdeal.nD Cert.FfnRefIdeal.τ).loc Cert.FfnRefIdeal.main_arg4))
      ∧ r.2.sem = fun _ => 0)

def quiescent_Mix [hMix : Cert.Mix.Facts] : Prop :=
  ∀ (m : (ℓ : Loc Cert.Mix.nD Cert.Mix.τ Cert.Mix.sig) → Buf (Elt Bits) ℓ) (g : Dev Cert.Mix.nD → PrngReg), Pre_Mix m →
    θ_run (Cert.Mix.defs (F := Bits)) (onTc (τ := Cert.Mix.τ) (Cert.Mix.main (F := Bits))) ⟨m, fun _ => 0, g⟩ (fun r => (∀ c : Dev Cert.Mix.nD,
      r.2.mem ((c.tc : Thread Cert.Mix.nD Cert.Mix.τ).loc Cert.Mix.main_arg0) = m ((c.tc : Thread Cert.Mix.nD Cert.Mix.τ).loc Cert.Mix.main_arg0)
      ∧ r.2.mem ((c.tc : Thread Cert.Mix.nD Cert.Mix.τ).loc Cert.Mix.main_arg1) = m ((c.tc : Thread Cert.Mix.nD Cert.Mix.τ).loc Cert.Mix.main_arg1)
      ∧ r.2.mem ((c.tc : Thread Cert.Mix.nD Cert.Mix.τ).loc Cert.Mix.main_arg2) = m ((c.tc : Thread Cert.Mix.nD Cert.Mix.τ).loc Cert.Mix.main_arg2)
      ∧ r.2.mem ((c.tc : Thread Cert.Mix.nD Cert.Mix.τ).loc Cert.Mix.main_arg3) = m ((c.tc : Thread Cert.Mix.nD Cert.Mix.τ).loc Cert.Mix.main_arg3)
      ∧ r.2.mem ((c.tc : Thread Cert.Mix.nD Cert.Mix.τ).loc Cert.Mix.main_arg4) = m ((c.tc : Thread Cert.Mix.nD Cert.Mix.τ).loc Cert.Mix.main_arg4)
      ∧ r.2.mem ((c.tc : Thread Cert.Mix.nD Cert.Mix.τ).loc Cert.Mix.main_arg5) = m ((c.tc : Thread Cert.Mix.nD Cert.Mix.τ).loc Cert.Mix.main_arg5)
      ∧ r.2.mem ((c.tc : Thread Cert.Mix.nD Cert.Mix.τ).loc Cert.Mix.main_arg6) = m ((c.tc : Thread Cert.Mix.nD Cert.Mix.τ).loc Cert.Mix.main_arg6)
      ∧ r.2.mem ((c.tc : Thread Cert.Mix.nD Cert.Mix.τ).loc Cert.Mix.main_arg7) = m ((c.tc : Thread Cert.Mix.nD Cert.Mix.τ).loc Cert.Mix.main_arg7)
      ∧ r.2.mem ((c.tc : Thread Cert.Mix.nD Cert.Mix.τ).loc Cert.Mix.main_arg8) = m ((c.tc : Thread Cert.Mix.nD Cert.Mix.τ).loc Cert.Mix.main_arg8)
      ∧ r.2.mem ((c.tc : Thread Cert.Mix.nD Cert.Mix.τ).loc Cert.Mix.main_arg9) = m ((c.tc : Thread Cert.Mix.nD Cert.Mix.τ).loc Cert.Mix.main_arg9))
      ∧ r.2.sem = fun _ => 0)

def quiescent_MixIdeal [hMixIdeal : Cert.MixIdeal.Facts] : Prop :=
  ∀ (m : (ℓ : Loc Cert.MixIdeal.nD Cert.MixIdeal.τ Cert.MixIdeal.sig) → Buf (Elt Ideal) ℓ) (g : Dev Cert.MixIdeal.nD → PrngReg), Pre_MixIdeal m →
    θ_run (Cert.MixIdeal.defs (F := Ideal)) (onTc (τ := Cert.MixIdeal.τ) (Cert.MixIdeal.main (F := Ideal))) ⟨m, fun _ => 0, g⟩ (fun r => (∀ c : Dev Cert.MixIdeal.nD,
      r.2.mem ((c.tc : Thread Cert.MixIdeal.nD Cert.MixIdeal.τ).loc Cert.MixIdeal.main_arg0) = m ((c.tc : Thread Cert.MixIdeal.nD Cert.MixIdeal.τ).loc Cert.MixIdeal.main_arg0)
      ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
      ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
      ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
      ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
      ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
      ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
      ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
      ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
      ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ r.2.sem = fun _ => 0)

def quiescent_MixRefIdeal [hMixRefIdeal : Cert.MixRefIdeal.Facts] : Prop :=
  ∀ (m : (ℓ : Loc Cert.MixRefIdeal.nD Cert.MixRefIdeal.τ Cert.MixRefIdeal.sig) → Buf (Elt Ideal) ℓ) (g : Dev Cert.MixRefIdeal.nD → PrngReg), Pre_MixRefIdeal m →
    θ_run (Cert.MixRefIdeal.defs (F := Ideal)) (onTc (τ := Cert.MixRefIdeal.τ) (Cert.MixRefIdeal.main (F := Ideal))) ⟨m, fun _ => 0, g⟩ (fun r => (∀ c : Dev Cert.MixRefIdeal.nD,
      r.2.mem ((c.tc : Thread Cert.MixRefIdeal.nD Cert.MixRefIdeal.τ).loc Cert.MixRefIdeal.main_arg0) = m ((c.tc : Thread Cert.MixRefIdeal.nD Cert.MixRefIdeal.τ).loc Cert.MixRefIdeal.main_arg0)
      ∧ r.2.mem ((c.tc : Thread Cert.MixRefIdeal.nD Cert.MixRefIdeal.τ).loc Cert.MixRefIdeal.main_arg1) = m ((c.tc : Thread Cert.MixRefIdeal.nD Cert.MixRefIdeal.τ).loc Cert.MixRefIdeal.main_arg1)
      ∧ r.2.mem ((c.tc : Thread Cert.MixRefIdeal.nD Cert.MixRefIdeal.τ).loc Cert.MixRefIdeal.main_arg2) = m ((c.tc : Thread Cert.MixRefIdeal.nD Cert.MixRefIdeal.τ).loc Cert.MixRefIdeal.main_arg2)
      ∧ r.2.mem ((c.tc : Thread Cert.MixRefIdeal.nD Cert.MixRefIdeal.τ).loc Cert.MixRefIdeal.main_arg3) = m ((c.tc : Thread Cert.MixRefIdeal.nD Cert.MixRefIdeal.τ).loc Cert.MixRefIdeal.main_arg3)
      ∧ r.2.mem ((c.tc : Thread Cert.MixRefIdeal.nD Cert.MixRefIdeal.τ).loc Cert.MixRefIdeal.main_arg4) = m ((c.tc : Thread Cert.MixRefIdeal.nD Cert.MixRefIdeal.τ).loc Cert.MixRefIdeal.main_arg4)
      ∧ r.2.mem ((c.tc : Thread Cert.MixRefIdeal.nD Cert.MixRefIdeal.τ).loc Cert.MixRefIdeal.main_arg5) = m ((c.tc : Thread Cert.MixRefIdeal.nD Cert.MixRefIdeal.τ).loc Cert.MixRefIdeal.main_arg5)
      ∧ r.2.mem ((c.tc : Thread Cert.MixRefIdeal.nD Cert.MixRefIdeal.τ).loc Cert.MixRefIdeal.main_arg6) = m ((c.tc : Thread Cert.MixRefIdeal.nD Cert.MixRefIdeal.τ).loc Cert.MixRefIdeal.main_arg6)
      ∧ r.2.mem ((c.tc : Thread Cert.MixRefIdeal.nD Cert.MixRefIdeal.τ).loc Cert.MixRefIdeal.main_arg7) = m ((c.tc : Thread Cert.MixRefIdeal.nD Cert.MixRefIdeal.τ).loc Cert.MixRefIdeal.main_arg7)
      ∧ r.2.mem ((c.tc : Thread Cert.MixRefIdeal.nD Cert.MixRefIdeal.τ).loc Cert.MixRefIdeal.main_arg8) = m ((c.tc : Thread Cert.MixRefIdeal.nD Cert.MixRefIdeal.τ).loc Cert.MixRefIdeal.main_arg8)
      ∧ r.2.mem ((c.tc : Thread Cert.MixRefIdeal.nD Cert.MixRefIdeal.τ).loc Cert.MixRefIdeal.main_arg9) = m ((c.tc : Thread Cert.MixRefIdeal.nD Cert.MixRefIdeal.τ).loc Cert.MixRefIdeal.main_arg9))
      ∧ r.2.sem = fun _ => 0)

def quiescent_Pre [hPre : Cert.Pre.Facts] : Prop :=
  ∀ (m : (ℓ : Loc Cert.Pre.nD Cert.Pre.τ Cert.Pre.sig) → Buf (Elt Bits) ℓ) (g : Dev Cert.Pre.nD → PrngReg), Pre_Pre m →
    θ_run (Cert.Pre.defs (F := Bits)) (onTc (τ := Cert.Pre.τ) (Cert.Pre.main (F := Bits))) ⟨m, fun _ => 0, g⟩ (fun r => (∀ c : Dev Cert.Pre.nD,
      r.2.mem ((c.tc : Thread Cert.Pre.nD Cert.Pre.τ).loc Cert.Pre.main_arg0) = m ((c.tc : Thread Cert.Pre.nD Cert.Pre.τ).loc Cert.Pre.main_arg0)
      ∧ r.2.mem ((c.tc : Thread Cert.Pre.nD Cert.Pre.τ).loc Cert.Pre.main_arg1) = m ((c.tc : Thread Cert.Pre.nD Cert.Pre.τ).loc Cert.Pre.main_arg1)
      ∧ r.2.mem ((c.tc : Thread Cert.Pre.nD Cert.Pre.τ).loc Cert.Pre.main_arg2) = m ((c.tc : Thread Cert.Pre.nD Cert.Pre.τ).loc Cert.Pre.main_arg2)
      ∧ r.2.mem ((c.tc : Thread Cert.Pre.nD Cert.Pre.τ).loc Cert.Pre.main_arg3) = m ((c.tc : Thread Cert.Pre.nD Cert.Pre.τ).loc Cert.Pre.main_arg3)
      ∧ r.2.mem ((c.tc : Thread Cert.Pre.nD Cert.Pre.τ).loc Cert.Pre.main_arg4) = m ((c.tc : Thread Cert.Pre.nD Cert.Pre.τ).loc Cert.Pre.main_arg4)
      ∧ r.2.mem ((c.tc : Thread Cert.Pre.nD Cert.Pre.τ).loc Cert.Pre.main_arg5) = m ((c.tc : Thread Cert.Pre.nD Cert.Pre.τ).loc Cert.Pre.main_arg5)
      ∧ r.2.mem ((c.tc : Thread Cert.Pre.nD Cert.Pre.τ).loc Cert.Pre.main_arg6) = m ((c.tc : Thread Cert.Pre.nD Cert.Pre.τ).loc Cert.Pre.main_arg6)
      ∧ r.2.mem ((c.tc : Thread Cert.Pre.nD Cert.Pre.τ).loc Cert.Pre.main_arg7) = m ((c.tc : Thread Cert.Pre.nD Cert.Pre.τ).loc Cert.Pre.main_arg7)
      ∧ r.2.mem ((c.tc : Thread Cert.Pre.nD Cert.Pre.τ).loc Cert.Pre.main_arg8) = m ((c.tc : Thread Cert.Pre.nD Cert.Pre.τ).loc Cert.Pre.main_arg8)
      ∧ r.2.mem ((c.tc : Thread Cert.Pre.nD Cert.Pre.τ).loc Cert.Pre.main_arg9) = m ((c.tc : Thread Cert.Pre.nD Cert.Pre.τ).loc Cert.Pre.main_arg9)
      ∧ r.2.mem ((c.tc : Thread Cert.Pre.nD Cert.Pre.τ).loc Cert.Pre.main_arg10) = m ((c.tc : Thread Cert.Pre.nD Cert.Pre.τ).loc Cert.Pre.main_arg10))
      ∧ r.2.sem = fun _ => 0)

def quiescent_PreIdeal [hPreIdeal : Cert.PreIdeal.Facts] : Prop :=
  ∀ (m : (ℓ : Loc Cert.PreIdeal.nD Cert.PreIdeal.τ Cert.PreIdeal.sig) → Buf (Elt Ideal) ℓ) (g : Dev Cert.PreIdeal.nD → PrngReg), Pre_PreIdeal m →
    θ_run (Cert.PreIdeal.defs (F := Ideal)) (onTc (τ := Cert.PreIdeal.τ) (Cert.PreIdeal.main (F := Ideal))) ⟨m, fun _ => 0, g⟩ (fun r => (∀ c : Dev Cert.PreIdeal.nD,
      r.2.mem ((c.tc : Thread Cert.PreIdeal.nD Cert.PreIdeal.τ).loc Cert.PreIdeal.main_arg0) = m ((c.tc : Thread Cert.PreIdeal.nD Cert.PreIdeal.τ).loc Cert.PreIdeal.main_arg0)
      ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
      ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
      ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
      ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
      ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
      ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
      ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
      ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
      ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
      ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ r.2.sem = fun _ => 0)

def quiescent_PreRefIdeal [hPreRefIdeal : Cert.PreRefIdeal.Facts] : Prop :=
  ∀ (m : (ℓ : Loc Cert.PreRefIdeal.nD Cert.PreRefIdeal.τ Cert.PreRefIdeal.sig) → Buf (Elt Ideal) ℓ) (g : Dev Cert.PreRefIdeal.nD → PrngReg), Pre_PreRefIdeal m →
    θ_run (Cert.PreRefIdeal.defs (F := Ideal)) (onTc (τ := Cert.PreRefIdeal.τ) (Cert.PreRefIdeal.main (F := Ideal))) ⟨m, fun _ => 0, g⟩ (fun r => (∀ c : Dev Cert.PreRefIdeal.nD,
      r.2.mem ((c.tc : Thread Cert.PreRefIdeal.nD Cert.PreRefIdeal.τ).loc Cert.PreRefIdeal.main_arg0) = m ((c.tc : Thread Cert.PreRefIdeal.nD Cert.PreRefIdeal.τ).loc Cert.PreRefIdeal.main_arg0)
      ∧ r.2.mem ((c.tc : Thread Cert.PreRefIdeal.nD Cert.PreRefIdeal.τ).loc Cert.PreRefIdeal.main_arg1) = m ((c.tc : Thread Cert.PreRefIdeal.nD Cert.PreRefIdeal.τ).loc Cert.PreRefIdeal.main_arg1)
      ∧ r.2.mem ((c.tc : Thread Cert.PreRefIdeal.nD Cert.PreRefIdeal.τ).loc Cert.PreRefIdeal.main_arg2) = m ((c.tc : Thread Cert.PreRefIdeal.nD Cert.PreRefIdeal.τ).loc Cert.PreRefIdeal.main_arg2)
      ∧ r.2.mem ((c.tc : Thread Cert.PreRefIdeal.nD Cert.PreRefIdeal.τ).loc Cert.PreRefIdeal.main_arg3) = m ((c.tc : Thread Cert.PreRefIdeal.nD Cert.PreRefIdeal.τ).loc Cert.PreRefIdeal.main_arg3)
      ∧ r.2.mem ((c.tc : Thread Cert.PreRefIdeal.nD Cert.PreRefIdeal.τ).loc Cert.PreRefIdeal.main_arg4) = m ((c.tc : Thread Cert.PreRefIdeal.nD Cert.PreRefIdeal.τ).loc Cert.PreRefIdeal.main_arg4)
      ∧ r.2.mem ((c.tc : Thread Cert.PreRefIdeal.nD Cert.PreRefIdeal.τ).loc Cert.PreRefIdeal.main_arg5) = m ((c.tc : Thread Cert.PreRefIdeal.nD Cert.PreRefIdeal.τ).loc Cert.PreRefIdeal.main_arg5)
      ∧ r.2.mem ((c.tc : Thread Cert.PreRefIdeal.nD Cert.PreRefIdeal.τ).loc Cert.PreRefIdeal.main_arg6) = m ((c.tc : Thread Cert.PreRefIdeal.nD Cert.PreRefIdeal.τ).loc Cert.PreRefIdeal.main_arg6)
      ∧ r.2.mem ((c.tc : Thread Cert.PreRefIdeal.nD Cert.PreRefIdeal.τ).loc Cert.PreRefIdeal.main_arg7) = m ((c.tc : Thread Cert.PreRefIdeal.nD Cert.PreRefIdeal.τ).loc Cert.PreRefIdeal.main_arg7)
      ∧ r.2.mem ((c.tc : Thread Cert.PreRefIdeal.nD Cert.PreRefIdeal.τ).loc Cert.PreRefIdeal.main_arg8) = m ((c.tc : Thread Cert.PreRefIdeal.nD Cert.PreRefIdeal.τ).loc Cert.PreRefIdeal.main_arg8)
      ∧ r.2.mem ((c.tc : Thread Cert.PreRefIdeal.nD Cert.PreRefIdeal.τ).loc Cert.PreRefIdeal.main_arg9) = m ((c.tc : Thread Cert.PreRefIdeal.nD Cert.PreRefIdeal.τ).loc Cert.PreRefIdeal.main_arg9)
      ∧ r.2.mem ((c.tc : Thread Cert.PreRefIdeal.nD Cert.PreRefIdeal.τ).loc Cert.PreRefIdeal.main_arg10) = m ((c.tc : Thread Cert.PreRefIdeal.nD Cert.PreRefIdeal.τ).loc Cert.PreRefIdeal.main_arg10))
      ∧ r.2.sem = fun _ => 0)

def quiescent_PreRes [hPreRes : Cert.PreRes.Facts] : Prop :=
  ∀ (m : (ℓ : Loc Cert.PreRes.nD Cert.PreRes.τ Cert.PreRes.sig) → Buf (Elt Bits) ℓ) (g : Dev Cert.PreRes.nD → PrngReg), Pre_PreRes m →
    θ_run (Cert.PreRes.defs (F := Bits)) (onTc (τ := Cert.PreRes.τ) (Cert.PreRes.main (F := Bits))) ⟨m, fun _ => 0, g⟩ (fun r => (∀ c : Dev Cert.PreRes.nD,
      r.2.mem ((c.tc : Thread Cert.PreRes.nD Cert.PreRes.τ).loc Cert.PreRes.main_arg0) = m ((c.tc : Thread Cert.PreRes.nD Cert.PreRes.τ).loc Cert.PreRes.main_arg0)
      ∧ r.2.mem ((c.tc : Thread Cert.PreRes.nD Cert.PreRes.τ).loc Cert.PreRes.main_arg1) = m ((c.tc : Thread Cert.PreRes.nD Cert.PreRes.τ).loc Cert.PreRes.main_arg1)
      ∧ r.2.mem ((c.tc : Thread Cert.PreRes.nD Cert.PreRes.τ).loc Cert.PreRes.main_arg2) = m ((c.tc : Thread Cert.PreRes.nD Cert.PreRes.τ).loc Cert.PreRes.main_arg2)
      ∧ r.2.mem ((c.tc : Thread Cert.PreRes.nD Cert.PreRes.τ).loc Cert.PreRes.main_arg3) = m ((c.tc : Thread Cert.PreRes.nD Cert.PreRes.τ).loc Cert.PreRes.main_arg3)
      ∧ r.2.mem ((c.tc : Thread Cert.PreRes.nD Cert.PreRes.τ).loc Cert.PreRes.main_arg4) = m ((c.tc : Thread Cert.PreRes.nD Cert.PreRes.τ).loc Cert.PreRes.main_arg4)
      ∧ r.2.mem ((c.tc : Thread Cert.PreRes.nD Cert.PreRes.τ).loc Cert.PreRes.main_arg5) = m ((c.tc : Thread Cert.PreRes.nD Cert.PreRes.τ).loc Cert.PreRes.main_arg5)
      ∧ r.2.mem ((c.tc : Thread Cert.PreRes.nD Cert.PreRes.τ).loc Cert.PreRes.main_arg6) = m ((c.tc : Thread Cert.PreRes.nD Cert.PreRes.τ).loc Cert.PreRes.main_arg6)
      ∧ r.2.mem ((c.tc : Thread Cert.PreRes.nD Cert.PreRes.τ).loc Cert.PreRes.main_arg7) = m ((c.tc : Thread Cert.PreRes.nD Cert.PreRes.τ).loc Cert.PreRes.main_arg7)
      ∧ r.2.mem ((c.tc : Thread Cert.PreRes.nD Cert.PreRes.τ).loc Cert.PreRes.main_arg8) = m ((c.tc : Thread Cert.PreRes.nD Cert.PreRes.τ).loc Cert.PreRes.main_arg8)
      ∧ r.2.mem ((c.tc : Thread Cert.PreRes.nD Cert.PreRes.τ).loc Cert.PreRes.main_arg9) = m ((c.tc : Thread Cert.PreRes.nD Cert.PreRes.τ).loc Cert.PreRes.main_arg9)
      ∧ r.2.mem ((c.tc : Thread Cert.PreRes.nD Cert.PreRes.τ).loc Cert.PreRes.main_arg10) = m ((c.tc : Thread Cert.PreRes.nD Cert.PreRes.τ).loc Cert.PreRes.main_arg10)
      ∧ r.2.mem ((c.tc : Thread Cert.PreRes.nD Cert.PreRes.τ).loc Cert.PreRes.main_arg11) = m ((c.tc : Thread Cert.PreRes.nD Cert.PreRes.τ).loc Cert.PreRes.main_arg11)
      ∧ r.2.mem ((c.tc : Thread Cert.PreRes.nD Cert.PreRes.τ).loc Cert.PreRes.main_arg12) = m ((c.tc : Thread Cert.PreRes.nD Cert.PreRes.τ).loc Cert.PreRes.main_arg12)
      ∧ r.2.mem ((c.tc : Thread Cert.PreRes.nD Cert.PreRes.τ).loc Cert.PreRes.main_arg13) = m ((c.tc : Thread Cert.PreRes.nD Cert.PreRes.τ).loc Cert.PreRes.main_arg13)
      ∧ r.2.mem ((c.tc : Thread Cert.PreRes.nD Cert.PreRes.τ).loc Cert.PreRes.main_arg14) = m ((c.tc : Thread Cert.PreRes.nD Cert.PreRes.τ).loc Cert.PreRes.main_arg14))
      ∧ r.2.sem = fun _ => 0)

def quiescent_PreResIdeal [hPreResIdeal : Cert.PreResIdeal.Facts] : Prop :=
  ∀ (m : (ℓ : Loc Cert.PreResIdeal.nD Cert.PreResIdeal.τ Cert.PreResIdeal.sig) → Buf (Elt Ideal) ℓ) (g : Dev Cert.PreResIdeal.nD → PrngReg), Pre_PreResIdeal m →
    θ_run (Cert.PreResIdeal.defs (F := Ideal)) (onTc (τ := Cert.PreResIdeal.τ) (Cert.PreResIdeal.main (F := Ideal))) ⟨m, fun _ => 0, g⟩ (fun r => (∀ c : Dev Cert.PreResIdeal.nD,
      r.2.mem ((c.tc : Thread Cert.PreResIdeal.nD Cert.PreResIdeal.τ).loc Cert.PreResIdeal.main_arg0) = m ((c.tc : Thread Cert.PreResIdeal.nD Cert.PreResIdeal.τ).loc Cert.PreResIdeal.main_arg0)
      ∧ r.2.mem ((c.tc : Thread Cert.PreResIdeal.nD Cert.PreResIdeal.τ).loc Cert.PreResIdeal.main_arg1) = m ((c.tc : Thread Cert.PreResIdeal.nD Cert.PreResIdeal.τ).loc Cert.PreResIdeal.main_arg1)
      ∧ r.2.mem ((c.tc : Thread Cert.PreResIdeal.nD Cert.PreResIdeal.τ).loc Cert.PreResIdeal.main_arg2) = m ((c.tc : Thread Cert.PreResIdeal.nD Cert.PreResIdeal.τ).loc Cert.PreResIdeal.main_arg2)
      ∧ r.2.mem ((c.tc : Thread Cert.PreResIdeal.nD Cert.PreResIdeal.τ).loc Cert.PreResIdeal.main_arg3) = m ((c.tc : Thread Cert.PreResIdeal.nD Cert.PreResIdeal.τ).loc Cert.PreResIdeal.main_arg3)
      ∧ r.2.mem ((c.tc : Thread Cert.PreResIdeal.nD Cert.PreResIdeal.τ).loc Cert.PreResIdeal.main_arg4) = m ((c.tc : Thread Cert.PreResIdeal.nD Cert.PreResIdeal.τ).loc Cert.PreResIdeal.main_arg4)
      ∧ r.2.mem ((c.tc : Thread Cert.PreResIdeal.nD Cert.PreResIdeal.τ).loc Cert.PreResIdeal.main_arg5) = m ((c.tc : Thread Cert.PreResIdeal.nD Cert.PreResIdeal.τ).loc Cert.PreResIdeal.main_arg5)
      ∧ r.2.mem ((c.tc : Thread Cert.PreResIdeal.nD Cert.PreResIdeal.τ).loc Cert.PreResIdeal.main_arg6) = m ((c.tc : Thread Cert.PreResIdeal.nD Cert.PreResIdeal.τ).loc Cert.PreResIdeal.main_arg6)
      ∧ r.2.mem ((c.tc : Thread Cert.PreResIdeal.nD Cert.PreResIdeal.τ).loc Cert.PreResIdeal.main_arg7) = m ((c.tc : Thread Cert.PreResIdeal.nD Cert.PreResIdeal.τ).loc Cert.PreResIdeal.main_arg7)
      ∧ r.2.mem ((c.tc : Thread Cert.PreResIdeal.nD Cert.PreResIdeal.τ).loc Cert.PreResIdeal.main_arg8) = m ((c.tc : Thread Cert.PreResIdeal.nD Cert.PreResIdeal.τ).loc Cert.PreResIdeal.main_arg8)
      ∧ r.2.mem ((c.tc : Thread Cert.PreResIdeal.nD Cert.PreResIdeal.τ).loc Cert.PreResIdeal.main_arg9) = m ((c.tc : Thread Cert.PreResIdeal.nD Cert.PreResIdeal.τ).loc Cert.PreResIdeal.main_arg9)
      ∧ r.2.mem ((c.tc : Thread Cert.PreResIdeal.nD Cert.PreResIdeal.τ).loc Cert.PreResIdeal.main_arg10) = m ((c.tc : Thread Cert.PreResIdeal.nD Cert.PreResIdeal.τ).loc Cert.PreResIdeal.main_arg10)
      ∧ r.2.mem ((c.tc : Thread Cert.PreResIdeal.nD Cert.PreResIdeal.τ).loc Cert.PreResIdeal.main_arg11) = m ((c.tc : Thread Cert.PreResIdeal.nD Cert.PreResIdeal.τ).loc Cert.PreResIdeal.main_arg11)
      ∧ r.2.mem ((c.tc : Thread Cert.PreResIdeal.nD Cert.PreResIdeal.τ).loc Cert.PreResIdeal.main_arg12) = m ((c.tc : Thread Cert.PreResIdeal.nD Cert.PreResIdeal.τ).loc Cert.PreResIdeal.main_arg12)
      ∧ r.2.mem ((c.tc : Thread Cert.PreResIdeal.nD Cert.PreResIdeal.τ).loc Cert.PreResIdeal.main_arg13) = m ((c.tc : Thread Cert.PreResIdeal.nD Cert.PreResIdeal.τ).loc Cert.PreResIdeal.main_arg13)
      ∧ r.2.mem ((c.tc : Thread Cert.PreResIdeal.nD Cert.PreResIdeal.τ).loc Cert.PreResIdeal.main_arg14) = m ((c.tc : Thread Cert.PreResIdeal.nD Cert.PreResIdeal.τ).loc Cert.PreResIdeal.main_arg14))
      ∧ r.2.sem = fun _ => 0)

def quiescent_PreResRefIdeal [hPreResRefIdeal : Cert.PreResRefIdeal.Facts] : Prop :=
  ∀ (m : (ℓ : Loc Cert.PreResRefIdeal.nD Cert.PreResRefIdeal.τ Cert.PreResRefIdeal.sig) → Buf (Elt Ideal) ℓ) (g : Dev Cert.PreResRefIdeal.nD → PrngReg), Pre_PreResRefIdeal m →
    θ_run (Cert.PreResRefIdeal.defs (F := Ideal)) (onTc (τ := Cert.PreResRefIdeal.τ) (Cert.PreResRefIdeal.main (F := Ideal))) ⟨m, fun _ => 0, g⟩ (fun r => (∀ c : Dev Cert.PreResRefIdeal.nD,
      r.2.mem ((c.tc : Thread Cert.PreResRefIdeal.nD Cert.PreResRefIdeal.τ).loc Cert.PreResRefIdeal.main_arg0) = m ((c.tc : Thread Cert.PreResRefIdeal.nD Cert.PreResRefIdeal.τ).loc Cert.PreResRefIdeal.main_arg0)
      ∧ r.2.mem ((c.tc : Thread Cert.PreResRefIdeal.nD Cert.PreResRefIdeal.τ).loc Cert.PreResRefIdeal.main_arg1) = m ((c.tc : Thread Cert.PreResRefIdeal.nD Cert.PreResRefIdeal.τ).loc Cert.PreResRefIdeal.main_arg1)
      ∧ r.2.mem ((c.tc : Thread Cert.PreResRefIdeal.nD Cert.PreResRefIdeal.τ).loc Cert.PreResRefIdeal.main_arg2) = m ((c.tc : Thread Cert.PreResRefIdeal.nD Cert.PreResRefIdeal.τ).loc Cert.PreResRefIdeal.main_arg2)
      ∧ r.2.mem ((c.tc : Thread Cert.PreResRefIdeal.nD Cert.PreResRefIdeal.τ).loc Cert.PreResRefIdeal.main_arg3) = m ((c.tc : Thread Cert.PreResRefIdeal.nD Cert.PreResRefIdeal.τ).loc Cert.PreResRefIdeal.main_arg3)
      ∧ r.2.mem ((c.tc : Thread Cert.PreResRefIdeal.nD Cert.PreResRefIdeal.τ).loc Cert.PreResRefIdeal.main_arg4) = m ((c.tc : Thread Cert.PreResRefIdeal.nD Cert.PreResRefIdeal.τ).loc Cert.PreResRefIdeal.main_arg4)
      ∧ r.2.mem ((c.tc : Thread Cert.PreResRefIdeal.nD Cert.PreResRefIdeal.τ).loc Cert.PreResRefIdeal.main_arg5) = m ((c.tc : Thread Cert.PreResRefIdeal.nD Cert.PreResRefIdeal.τ).loc Cert.PreResRefIdeal.main_arg5)
      ∧ r.2.mem ((c.tc : Thread Cert.PreResRefIdeal.nD Cert.PreResRefIdeal.τ).loc Cert.PreResRefIdeal.main_arg6) = m ((c.tc : Thread Cert.PreResRefIdeal.nD Cert.PreResRefIdeal.τ).loc Cert.PreResRefIdeal.main_arg6)
      ∧ r.2.mem ((c.tc : Thread Cert.PreResRefIdeal.nD Cert.PreResRefIdeal.τ).loc Cert.PreResRefIdeal.main_arg7) = m ((c.tc : Thread Cert.PreResRefIdeal.nD Cert.PreResRefIdeal.τ).loc Cert.PreResRefIdeal.main_arg7)
      ∧ r.2.mem ((c.tc : Thread Cert.PreResRefIdeal.nD Cert.PreResRefIdeal.τ).loc Cert.PreResRefIdeal.main_arg8) = m ((c.tc : Thread Cert.PreResRefIdeal.nD Cert.PreResRefIdeal.τ).loc Cert.PreResRefIdeal.main_arg8)
      ∧ r.2.mem ((c.tc : Thread Cert.PreResRefIdeal.nD Cert.PreResRefIdeal.τ).loc Cert.PreResRefIdeal.main_arg9) = m ((c.tc : Thread Cert.PreResRefIdeal.nD Cert.PreResRefIdeal.τ).loc Cert.PreResRefIdeal.main_arg9)
      ∧ r.2.mem ((c.tc : Thread Cert.PreResRefIdeal.nD Cert.PreResRefIdeal.τ).loc Cert.PreResRefIdeal.main_arg10) = m ((c.tc : Thread Cert.PreResRefIdeal.nD Cert.PreResRefIdeal.τ).loc Cert.PreResRefIdeal.main_arg10)
      ∧ r.2.mem ((c.tc : Thread Cert.PreResRefIdeal.nD Cert.PreResRefIdeal.τ).loc Cert.PreResRefIdeal.main_arg11) = m ((c.tc : Thread Cert.PreResRefIdeal.nD Cert.PreResRefIdeal.τ).loc Cert.PreResRefIdeal.main_arg11)
      ∧ r.2.mem ((c.tc : Thread Cert.PreResRefIdeal.nD Cert.PreResRefIdeal.τ).loc Cert.PreResRefIdeal.main_arg12) = m ((c.tc : Thread Cert.PreResRefIdeal.nD Cert.PreResRefIdeal.τ).loc Cert.PreResRefIdeal.main_arg12)
      ∧ r.2.mem ((c.tc : Thread Cert.PreResRefIdeal.nD Cert.PreResRefIdeal.τ).loc Cert.PreResRefIdeal.main_arg13) = m ((c.tc : Thread Cert.PreResRefIdeal.nD Cert.PreResRefIdeal.τ).loc Cert.PreResRefIdeal.main_arg13)
      ∧ r.2.mem ((c.tc : Thread Cert.PreResRefIdeal.nD Cert.PreResRefIdeal.τ).loc Cert.PreResRefIdeal.main_arg14) = m ((c.tc : Thread Cert.PreResRefIdeal.nD Cert.PreResRefIdeal.τ).loc Cert.PreResRefIdeal.main_arg14))
      ∧ r.2.sem = fun _ => 0)

def quiescent_Wkv [hWkv : Cert.Wkv.Facts] : Prop :=
  ∀ (m : (ℓ : Loc Cert.Wkv.nD Cert.Wkv.τ Cert.Wkv.sig) → Buf (Elt Bits) ℓ) (g : Dev Cert.Wkv.nD → PrngReg), Pre_Wkv m →
    θ_run (Cert.Wkv.defs (F := Bits)) (onTc (τ := Cert.Wkv.τ) (Cert.Wkv.main (F := Bits))) ⟨m, fun _ => 0, g⟩ (fun r => (∀ c : Dev Cert.Wkv.nD,
      r.2.mem ((c.tc : Thread Cert.Wkv.nD Cert.Wkv.τ).loc Cert.Wkv.main_arg0) = m ((c.tc : Thread Cert.Wkv.nD Cert.Wkv.τ).loc Cert.Wkv.main_arg0)
      ∧ r.2.mem ((c.tc : Thread Cert.Wkv.nD Cert.Wkv.τ).loc Cert.Wkv.main_arg1) = m ((c.tc : Thread Cert.Wkv.nD Cert.Wkv.τ).loc Cert.Wkv.main_arg1)
      ∧ r.2.mem ((c.tc : Thread Cert.Wkv.nD Cert.Wkv.τ).loc Cert.Wkv.main_arg2) = m ((c.tc : Thread Cert.Wkv.nD Cert.Wkv.τ).loc Cert.Wkv.main_arg2)
      ∧ r.2.mem ((c.tc : Thread Cert.Wkv.nD Cert.Wkv.τ).loc Cert.Wkv.main_arg3) = m ((c.tc : Thread Cert.Wkv.nD Cert.Wkv.τ).loc Cert.Wkv.main_arg3)
      ∧ r.2.mem ((c.tc : Thread Cert.Wkv.nD Cert.Wkv.τ).loc Cert.Wkv.main_arg4) = m ((c.tc : Thread Cert.Wkv.nD Cert.Wkv.τ).loc Cert.Wkv.main_arg4)
      ∧ r.2.mem ((c.tc : Thread Cert.Wkv.nD Cert.Wkv.τ).loc Cert.Wkv.main_arg5) = m ((c.tc : Thread Cert.Wkv.nD Cert.Wkv.τ).loc Cert.Wkv.main_arg5)
      ∧ r.2.mem ((c.tc : Thread Cert.Wkv.nD Cert.Wkv.τ).loc Cert.Wkv.main_arg6) = m ((c.tc : Thread Cert.Wkv.nD Cert.Wkv.τ).loc Cert.Wkv.main_arg6)
      ∧ r.2.mem ((c.tc : Thread Cert.Wkv.nD Cert.Wkv.τ).loc Cert.Wkv.main_arg7) = m ((c.tc : Thread Cert.Wkv.nD Cert.Wkv.τ).loc Cert.Wkv.main_arg7)
      ∧ r.2.mem ((c.tc : Thread Cert.Wkv.nD Cert.Wkv.τ).loc Cert.Wkv.main_arg8) = m ((c.tc : Thread Cert.Wkv.nD Cert.Wkv.τ).loc Cert.Wkv.main_arg8)
      ∧ r.2.mem ((c.tc : Thread Cert.Wkv.nD Cert.Wkv.τ).loc Cert.Wkv.main_arg9) = m ((c.tc : Thread Cert.Wkv.nD Cert.Wkv.τ).loc Cert.Wkv.main_arg9))
      ∧ r.2.sem = fun _ => 0)

def quiescent_WkvIdeal [hWkvIdeal : Cert.WkvIdeal.Facts] : Prop :=
  ∀ (m : (ℓ : Loc Cert.WkvIdeal.nD Cert.WkvIdeal.τ Cert.WkvIdeal.sig) → Buf (Elt Ideal) ℓ) (g : Dev Cert.WkvIdeal.nD → PrngReg), Pre_WkvIdeal m →
    θ_run (Cert.WkvIdeal.defs (F := Ideal)) (onTc (τ := Cert.WkvIdeal.τ) (Cert.WkvIdeal.main (F := Ideal))) ⟨m, fun _ => 0, g⟩ (fun r => (∀ c : Dev Cert.WkvIdeal.nD,
      r.2.mem ((c.tc : Thread Cert.WkvIdeal.nD Cert.WkvIdeal.τ).loc Cert.WkvIdeal.main_arg0) = m ((c.tc : Thread Cert.WkvIdeal.nD Cert.WkvIdeal.τ).loc Cert.WkvIdeal.main_arg0)
      ∧ r.2.mem ((c.tc : Thread Cert.WkvIdeal.nD Cert.WkvIdeal.τ).loc Cert.WkvIdeal.main_arg1) = m ((c.tc : Thread Cert.WkvIdeal.nD Cert.WkvIdeal.τ).loc Cert.WkvIdeal.main_arg1)
      ∧ r.2.mem ((c.tc : Thread Cert.WkvIdeal.nD Cert.WkvIdeal.τ).loc Cert.WkvIdeal.main_arg2) = m ((c.tc : Thread Cert.WkvIdeal.nD Cert.WkvIdeal.τ).loc Cert.WkvIdeal.main_arg2)
      ∧ r.2.mem ((c.tc : Thread Cert.WkvIdeal.nD Cert.WkvIdeal.τ).loc Cert.WkvIdeal.main_arg3) = m ((c.tc : Thread Cert.WkvIdeal.nD Cert.WkvIdeal.τ).loc Cert.WkvIdeal.main_arg3)
      ∧ r.2.mem ((c.tc : Thread Cert.WkvIdeal.nD Cert.WkvIdeal.τ).loc Cert.WkvIdeal.main_arg4) = m ((c.tc : Thread Cert.WkvIdeal.nD Cert.WkvIdeal.τ).loc Cert.WkvIdeal.main_arg4)
      ∧ r.2.mem ((c.tc : Thread Cert.WkvIdeal.nD Cert.WkvIdeal.τ).loc Cert.WkvIdeal.main_arg5) = m ((c.tc : Thread Cert.WkvIdeal.nD Cert.WkvIdeal.τ).loc Cert.WkvIdeal.main_arg5)
      ∧ r.2.mem ((c.tc : Thread Cert.WkvIdeal.nD Cert.WkvIdeal.τ).loc Cert.WkvIdeal.main_arg6) = m ((c.tc : Thread Cert.WkvIdeal.nD Cert.WkvIdeal.τ).loc Cert.WkvIdeal.main_arg6)
      ∧ r.2.mem ((c.tc : Thread Cert.WkvIdeal.nD Cert.WkvIdeal.τ).loc Cert.WkvIdeal.main_arg7) = m ((c.tc : Thread Cert.WkvIdeal.nD Cert.WkvIdeal.τ).loc Cert.WkvIdeal.main_arg7)
      ∧ r.2.mem ((c.tc : Thread Cert.WkvIdeal.nD Cert.WkvIdeal.τ).loc Cert.WkvIdeal.main_arg8) = m ((c.tc : Thread Cert.WkvIdeal.nD Cert.WkvIdeal.τ).loc Cert.WkvIdeal.main_arg8)
      ∧ r.2.mem ((c.tc : Thread Cert.WkvIdeal.nD Cert.WkvIdeal.τ).loc Cert.WkvIdeal.main_arg9) = m ((c.tc : Thread Cert.WkvIdeal.nD Cert.WkvIdeal.τ).loc Cert.WkvIdeal.main_arg9))
      ∧ r.2.sem = fun _ => 0)

def preserves_Kernel_KernelIdeal : Prop :=
  IdealRules.named_const.Statement Cert.KernelIdeal.κ "gelu_cubic" .f32 0x3D122279#32 ((80338380498831 / 2251799813685248 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v85) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Ffn_FfnIdeal : Prop :=
  True

def algebraic_FfnIdeal_FfnRefIdeal [hFfnIdeal : Cert.FfnIdeal.Facts] [hFfnRefIdeal : Cert.FfnRefIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnRefIdeal.nD Cert.FfnRefIdeal.τ Cert.FfnRefIdeal.sig) → Buf (Elt Ideal) ℓ) (g' : Dev Cert.FfnRefIdeal.nD → PrngReg), Pre_FfnIdeal m →
    (∀ c : Dev Cert.FfnIdeal.nD,
      m' ((c.tc : Thread Cert.FfnRefIdeal.nD Cert.FfnRefIdeal.τ).loc Cert.FfnRefIdeal.main_arg0) = m ((c.tc : Thread Cert.FfnIdeal.nD Cert.FfnIdeal.τ).loc Cert.FfnIdeal.main_arg0)
      ∧ m' ((c.tc : Thread Cert.FfnRefIdeal.nD Cert.FfnRefIdeal.τ).loc Cert.FfnRefIdeal.main_arg1) = m ((c.tc : Thread Cert.FfnIdeal.nD Cert.FfnIdeal.τ).loc Cert.FfnIdeal.main_arg1)
      ∧ m' ((c.tc : Thread Cert.FfnRefIdeal.nD Cert.FfnRefIdeal.τ).loc Cert.FfnRefIdeal.main_arg2) = m ((c.tc : Thread Cert.FfnIdeal.nD Cert.FfnIdeal.τ).loc Cert.FfnIdeal.main_arg2)
      ∧ m' ((c.tc : Thread Cert.FfnRefIdeal.nD Cert.FfnRefIdeal.τ).loc Cert.FfnRefIdeal.main_arg3) = m ((c.tc : Thread Cert.FfnIdeal.nD Cert.FfnIdeal.τ).loc Cert.FfnIdeal.main_arg3)
      ∧ m' ((c.tc : Thread Cert.FfnRefIdeal.nD Cert.FfnRefIdeal.τ).loc Cert.FfnRefIdeal.main_arg4) = m ((c.tc : Thread Cert.FfnIdeal.nD Cert.FfnIdeal.τ).loc Cert.FfnIdeal.main_arg4)) →
    ∃ (v0 : (c : Dev Cert.FfnIdeal.nD) → Buf (Elt Ideal) ((c.tc : Thread Cert.FfnIdeal.nD Cert.FfnIdeal.τ).loc Cert.FfnIdeal.main_v5)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v5) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4))
      ∧ θ_run (Cert.FfnRefIdeal.defs (F := Ideal)) (onTc (τ := Cert.FfnRefIdeal.τ) (Cert.FfnRefIdeal.main (F := Ideal))) ⟨m', fun _ => 0, g'⟩ (fun r => ∀ c : Dev Cert.FfnRefIdeal.nD,
          r.2.mem ((c.tc : Thread Cert.FfnRefIdeal.nD Cert.FfnRefIdeal.τ).loc Cert.FfnRefIdeal.main_v33) = v0 c
          ∧ r.2.mem ((c.tc : Thread Cert.FfnRefIdeal.nD Cert.FfnRefIdeal.τ).loc Cert.FfnRefIdeal.main_arg0) = m' ((c.tc : Thread Cert.FfnRefIdeal.nD Cert.FfnRefIdeal.τ).loc Cert.FfnRefIdeal.main_arg0)
          ∧ r.2.mem ((c.tc : Thread Cert.FfnRefIdeal.nD Cert.FfnRefIdeal.τ).loc Cert.FfnRefIdeal.main_arg1) = m' ((c.tc : Thread Cert.FfnRefIdeal.nD Cert.FfnRefIdeal.τ).loc Cert.FfnRefIdeal.main_arg1)
          ∧ r.2.mem ((c.tc : Thread Cert.FfnRefIdeal.nD Cert.FfnRefIdeal.τ).loc Cert.FfnRefIdeal.main_arg2) = m' ((c.tc : Thread Cert.FfnRefIdeal.nD Cert.FfnRefIdeal.τ).loc Cert.FfnRefIdeal.main_arg2)
          ∧ r.2.mem ((c.tc : Thread Cert.FfnRefIdeal.nD Cert.FfnRefIdeal.τ).loc Cert.FfnRefIdeal.main_arg3) = m' ((c.tc : Thread Cert.FfnRefIdeal.nD Cert.FfnRefIdeal.τ).loc Cert.FfnRefIdeal.main_arg3)
          ∧ r.2.mem ((c.tc : Thread Cert.FfnRefIdeal.nD Cert.FfnRefIdeal.τ).loc Cert.FfnRefIdeal.main_arg4) = m' ((c.tc : Thread Cert.FfnRefIdeal.nD Cert.FfnRefIdeal.τ).loc Cert.FfnRefIdeal.main_arg4))

def preserves_Mix_MixIdeal : Prop :=
  True

def algebraic_MixIdeal_MixRefIdeal [hMixIdeal : Cert.MixIdeal.Facts] [hMixRefIdeal : Cert.MixRefIdeal.Facts] : Prop :=
  ∀ (m : (ℓ : Loc Cert.MixIdeal.nD Cert.MixIdeal.τ Cert.MixIdeal.sig) → Buf (Elt Ideal) ℓ) (g : Dev Cert.MixIdeal.nD → PrngReg)
    (m' : (ℓ : Loc Cert.MixRefIdeal.nD Cert.MixRefIdeal.τ Cert.MixRefIdeal.sig) → Buf (Elt Ideal) ℓ) (g' : Dev Cert.MixRefIdeal.nD → PrngReg), Pre_MixIdeal m →
    (∀ c : Dev Cert.MixIdeal.nD,
      m' ((c.tc : Thread Cert.MixRefIdeal.nD Cert.MixRefIdeal.τ).loc Cert.MixRefIdeal.main_arg0) = m ((c.tc : Thread Cert.MixIdeal.nD Cert.MixIdeal.τ).loc Cert.MixIdeal.main_arg0)
      ∧ m' ((c.tc : Thread Cert.MixRefIdeal.nD Cert.MixRefIdeal.τ).loc Cert.MixRefIdeal.main_arg1) = m ((c.tc : Thread Cert.MixIdeal.nD Cert.MixIdeal.τ).loc Cert.MixIdeal.main_arg1)
      ∧ m' ((c.tc : Thread Cert.MixRefIdeal.nD Cert.MixRefIdeal.τ).loc Cert.MixRefIdeal.main_arg2) = m ((c.tc : Thread Cert.MixIdeal.nD Cert.MixIdeal.τ).loc Cert.MixIdeal.main_arg2)
      ∧ m' ((c.tc : Thread Cert.MixRefIdeal.nD Cert.MixRefIdeal.τ).loc Cert.MixRefIdeal.main_arg3) = m ((c.tc : Thread Cert.MixIdeal.nD Cert.MixIdeal.τ).loc Cert.MixIdeal.main_arg3)
      ∧ m' ((c.tc : Thread Cert.MixRefIdeal.nD Cert.MixRefIdeal.τ).loc Cert.MixRefIdeal.main_arg4) = m ((c.tc : Thread Cert.MixIdeal.nD Cert.MixIdeal.τ).loc Cert.MixIdeal.main_arg4)
      ∧ m' ((c.tc : Thread Cert.MixRefIdeal.nD Cert.MixRefIdeal.τ).loc Cert.MixRefIdeal.main_arg5) = m ((c.tc : Thread Cert.MixIdeal.nD Cert.MixIdeal.τ).loc Cert.MixIdeal.main_arg5)
      ∧ m' ((c.tc : Thread Cert.MixRefIdeal.nD Cert.MixRefIdeal.τ).loc Cert.MixRefIdeal.main_arg6) = m ((c.tc : Thread Cert.MixIdeal.nD Cert.MixIdeal.τ).loc Cert.MixIdeal.main_arg6)
      ∧ m' ((c.tc : Thread Cert.MixRefIdeal.nD Cert.MixRefIdeal.τ).loc Cert.MixRefIdeal.main_arg7) = m ((c.tc : Thread Cert.MixIdeal.nD Cert.MixIdeal.τ).loc Cert.MixIdeal.main_arg7)
      ∧ m' ((c.tc : Thread Cert.MixRefIdeal.nD Cert.MixRefIdeal.τ).loc Cert.MixRefIdeal.main_arg8) = m ((c.tc : Thread Cert.MixIdeal.nD Cert.MixIdeal.τ).loc Cert.MixIdeal.main_arg8)
      ∧ m' ((c.tc : Thread Cert.MixRefIdeal.nD Cert.MixRefIdeal.τ).loc Cert.MixRefIdeal.main_arg9) = m ((c.tc : Thread Cert.MixIdeal.nD Cert.MixIdeal.τ).loc Cert.MixIdeal.main_arg9)) →
    ∃ (v0 : (c : Dev Cert.MixIdeal.nD) → Buf (Elt Ideal) ((c.tc : Thread Cert.MixIdeal.nD Cert.MixIdeal.τ).loc Cert.MixIdeal.main_v10)),
      θ_run (Cert.MixIdeal.defs (F := Ideal)) (onTc (τ := Cert.MixIdeal.τ) (Cert.MixIdeal.main (F := Ideal))) ⟨m, fun _ => 0, g⟩ (fun r => ∀ c : Dev Cert.MixIdeal.nD,
          r.2.mem ((c.tc : Thread Cert.MixIdeal.nD Cert.MixIdeal.τ).loc Cert.MixIdeal.main_v10) = v0 c
          ∧ r.2.mem ((c.tc : Thread Cert.MixIdeal.nD Cert.MixIdeal.τ).loc Cert.MixIdeal.main_arg0) = m ((c.tc : Thread Cert.MixIdeal.nD Cert.MixIdeal.τ).loc Cert.MixIdeal.main_arg0)
          ∧ r.2.mem ((c.tc : Thread Cert.MixIdeal.nD Cert.MixIdeal.τ).loc Cert.MixIdeal.main_arg1) = m ((c.tc : Thread Cert.MixIdeal.nD Cert.MixIdeal.τ).loc Cert.MixIdeal.main_arg1)
          ∧ r.2.mem ((c.tc : Thread Cert.MixIdeal.nD Cert.MixIdeal.τ).loc Cert.MixIdeal.main_arg2) = m ((c.tc : Thread Cert.MixIdeal.nD Cert.MixIdeal.τ).loc Cert.MixIdeal.main_arg2)
          ∧ r.2.mem ((c.tc : Thread Cert.MixIdeal.nD Cert.MixIdeal.τ).loc Cert.MixIdeal.main_arg3) = m ((c.tc : Thread Cert.MixIdeal.nD Cert.MixIdeal.τ).loc Cert.MixIdeal.main_arg3)
          ∧ r.2.mem ((c.tc : Thread Cert.MixIdeal.nD Cert.MixIdeal.τ).loc Cert.MixIdeal.main_arg4) = m ((c.tc : Thread Cert.MixIdeal.nD Cert.MixIdeal.τ).loc Cert.MixIdeal.main_arg4)
          ∧ r.2.mem ((c.tc : Thread Cert.MixIdeal.nD Cert.MixIdeal.τ).loc Cert.MixIdeal.main_arg5) = m ((c.tc : Thread Cert.MixIdeal.nD Cert.MixIdeal.τ).loc Cert.MixIdeal.main_arg5)
          ∧ r.2.mem ((c.tc : Thread Cert.MixIdeal.nD Cert.MixIdeal.τ).loc Cert.MixIdeal.main_arg6) = m ((c.tc : Thread Cert.MixIdeal.nD Cert.MixIdeal.τ).loc Cert.MixIdeal.main_arg6)
          ∧ r.2.mem ((c.tc : Thread Cert.MixIdeal.nD Cert.MixIdeal.τ).loc Cert.MixIdeal.main_arg7) = m ((c.tc : Thread Cert.MixIdeal.nD Cert.MixIdeal.τ).loc Cert.MixIdeal.main_arg7)
          ∧ r.2.mem ((c.tc : Thread Cert.MixIdeal.nD Cert.MixIdeal.τ).loc Cert.MixIdeal.main_arg8) = m ((c.tc : Thread Cert.MixIdeal.nD Cert.MixIdeal.τ).loc Cert.MixIdeal.main_arg8)
          ∧ r.2.mem ((c.tc : Thread Cert.MixIdeal.nD Cert.MixIdeal.τ).loc Cert.MixIdeal.main_arg9) = m ((c.tc : Thread Cert.MixIdeal.nD Cert.MixIdeal.τ).loc Cert.MixIdeal.main_arg9))
      ∧ θ_run (Cert.MixRefIdeal.defs (F := Ideal)) (onTc (τ := Cert.MixRefIdeal.τ) (Cert.MixRefIdeal.main (F := Ideal))) ⟨m', fun _ => 0, g'⟩ (fun r => ∀ c : Dev Cert.MixRefIdeal.nD,
          r.2.mem ((c.tc : Thread Cert.MixRefIdeal.nD Cert.MixRefIdeal.τ).loc Cert.MixRefIdeal.main_v62) = v0 c
          ∧ r.2.mem ((c.tc : Thread Cert.MixRefIdeal.nD Cert.MixRefIdeal.τ).loc Cert.MixRefIdeal.main_arg0) = m' ((c.tc : Thread Cert.MixRefIdeal.nD Cert.MixRefIdeal.τ).loc Cert.MixRefIdeal.main_arg0)
          ∧ r.2.mem ((c.tc : Thread Cert.MixRefIdeal.nD Cert.MixRefIdeal.τ).loc Cert.MixRefIdeal.main_arg1) = m' ((c.tc : Thread Cert.MixRefIdeal.nD Cert.MixRefIdeal.τ).loc Cert.MixRefIdeal.main_arg1)
          ∧ r.2.mem ((c.tc : Thread Cert.MixRefIdeal.nD Cert.MixRefIdeal.τ).loc Cert.MixRefIdeal.main_arg2) = m' ((c.tc : Thread Cert.MixRefIdeal.nD Cert.MixRefIdeal.τ).loc Cert.MixRefIdeal.main_arg2)
          ∧ r.2.mem ((c.tc : Thread Cert.MixRefIdeal.nD Cert.MixRefIdeal.τ).loc Cert.MixRefIdeal.main_arg3) = m' ((c.tc : Thread Cert.MixRefIdeal.nD Cert.MixRefIdeal.τ).loc Cert.MixRefIdeal.main_arg3)
          ∧ r.2.mem ((c.tc : Thread Cert.MixRefIdeal.nD Cert.MixRefIdeal.τ).loc Cert.MixRefIdeal.main_arg4) = m' ((c.tc : Thread Cert.MixRefIdeal.nD Cert.MixRefIdeal.τ).loc Cert.MixRefIdeal.main_arg4)
          ∧ r.2.mem ((c.tc : Thread Cert.MixRefIdeal.nD Cert.MixRefIdeal.τ).loc Cert.MixRefIdeal.main_arg5) = m' ((c.tc : Thread Cert.MixRefIdeal.nD Cert.MixRefIdeal.τ).loc Cert.MixRefIdeal.main_arg5)
          ∧ r.2.mem ((c.tc : Thread Cert.MixRefIdeal.nD Cert.MixRefIdeal.τ).loc Cert.MixRefIdeal.main_arg6) = m' ((c.tc : Thread Cert.MixRefIdeal.nD Cert.MixRefIdeal.τ).loc Cert.MixRefIdeal.main_arg6)
          ∧ r.2.mem ((c.tc : Thread Cert.MixRefIdeal.nD Cert.MixRefIdeal.τ).loc Cert.MixRefIdeal.main_arg7) = m' ((c.tc : Thread Cert.MixRefIdeal.nD Cert.MixRefIdeal.τ).loc Cert.MixRefIdeal.main_arg7)
          ∧ r.2.mem ((c.tc : Thread Cert.MixRefIdeal.nD Cert.MixRefIdeal.τ).loc Cert.MixRefIdeal.main_arg8) = m' ((c.tc : Thread Cert.MixRefIdeal.nD Cert.MixRefIdeal.τ).loc Cert.MixRefIdeal.main_arg8)
          ∧ r.2.mem ((c.tc : Thread Cert.MixRefIdeal.nD Cert.MixRefIdeal.τ).loc Cert.MixRefIdeal.main_arg9) = m' ((c.tc : Thread Cert.MixRefIdeal.nD Cert.MixRefIdeal.τ).loc Cert.MixRefIdeal.main_arg9))

def preserves_Pre_PreIdeal : Prop :=
  True

def algebraic_PreIdeal_PreRefIdeal [hPreIdeal : Cert.PreIdeal.Facts] [hPreRefIdeal : Cert.PreRefIdeal.Facts] : Prop :=
  ∀ (m : (ℓ : Loc Cert.PreIdeal.nD Cert.PreIdeal.τ Cert.PreIdeal.sig) → Buf (Elt Ideal) ℓ) (g : Dev Cert.PreIdeal.nD → PrngReg)
    (m' : (ℓ : Loc Cert.PreRefIdeal.nD Cert.PreRefIdeal.τ Cert.PreRefIdeal.sig) → Buf (Elt Ideal) ℓ) (g' : Dev Cert.PreRefIdeal.nD → PrngReg), Pre_PreIdeal m →
    (∀ c : Dev Cert.PreIdeal.nD,
      m' ((c.tc : Thread Cert.PreRefIdeal.nD Cert.PreRefIdeal.τ).loc Cert.PreRefIdeal.main_arg0) = m ((c.tc : Thread Cert.PreIdeal.nD Cert.PreIdeal.τ).loc Cert.PreIdeal.main_arg0)
      ∧ m' ((c.tc : Thread Cert.PreRefIdeal.nD Cert.PreRefIdeal.τ).loc Cert.PreRefIdeal.main_arg1) = m ((c.tc : Thread Cert.PreIdeal.nD Cert.PreIdeal.τ).loc Cert.PreIdeal.main_arg1)
      ∧ m' ((c.tc : Thread Cert.PreRefIdeal.nD Cert.PreRefIdeal.τ).loc Cert.PreRefIdeal.main_arg2) = m ((c.tc : Thread Cert.PreIdeal.nD Cert.PreIdeal.τ).loc Cert.PreIdeal.main_arg2)
      ∧ m' ((c.tc : Thread Cert.PreRefIdeal.nD Cert.PreRefIdeal.τ).loc Cert.PreRefIdeal.main_arg3) = m ((c.tc : Thread Cert.PreIdeal.nD Cert.PreIdeal.τ).loc Cert.PreIdeal.main_arg3)
      ∧ m' ((c.tc : Thread Cert.PreRefIdeal.nD Cert.PreRefIdeal.τ).loc Cert.PreRefIdeal.main_arg4) = m ((c.tc : Thread Cert.PreIdeal.nD Cert.PreIdeal.τ).loc Cert.PreIdeal.main_arg4)
      ∧ m' ((c.tc : Thread Cert.PreRefIdeal.nD Cert.PreRefIdeal.τ).loc Cert.PreRefIdeal.main_arg5) = m ((c.tc : Thread Cert.PreIdeal.nD Cert.PreIdeal.τ).loc Cert.PreIdeal.main_arg5)
      ∧ m' ((c.tc : Thread Cert.PreRefIdeal.nD Cert.PreRefIdeal.τ).loc Cert.PreRefIdeal.main_arg6) = m ((c.tc : Thread Cert.PreIdeal.nD Cert.PreIdeal.τ).loc Cert.PreIdeal.main_arg6)
      ∧ m' ((c.tc : Thread Cert.PreRefIdeal.nD Cert.PreRefIdeal.τ).loc Cert.PreRefIdeal.main_arg7) = m ((c.tc : Thread Cert.PreIdeal.nD Cert.PreIdeal.τ).loc Cert.PreIdeal.main_arg7)
      ∧ m' ((c.tc : Thread Cert.PreRefIdeal.nD Cert.PreRefIdeal.τ).loc Cert.PreRefIdeal.main_arg8) = m ((c.tc : Thread Cert.PreIdeal.nD Cert.PreIdeal.τ).loc Cert.PreIdeal.main_arg8)
      ∧ m' ((c.tc : Thread Cert.PreRefIdeal.nD Cert.PreRefIdeal.τ).loc Cert.PreRefIdeal.main_arg9) = m ((c.tc : Thread Cert.PreIdeal.nD Cert.PreIdeal.τ).loc Cert.PreIdeal.main_arg9)
      ∧ m' ((c.tc : Thread Cert.PreRefIdeal.nD Cert.PreRefIdeal.τ).loc Cert.PreRefIdeal.main_arg10) = m ((c.tc : Thread Cert.PreIdeal.nD Cert.PreIdeal.τ).loc Cert.PreIdeal.main_arg10)) →
    ∃ (v0 : (c : Dev Cert.PreIdeal.nD) → Buf (Elt Ideal) ((c.tc : Thread Cert.PreIdeal.nD Cert.PreIdeal.τ).loc Cert.PreIdeal.main_v10_0)) (v1 : (c : Dev Cert.PreIdeal.nD) → Buf (Elt Ideal) ((c.tc : Thread Cert.PreIdeal.nD Cert.PreIdeal.τ).loc Cert.PreIdeal.main_v10_1)) (v2 : (c : Dev Cert.PreIdeal.nD) → Buf (Elt Ideal) ((c.tc : Thread Cert.PreIdeal.nD Cert.PreIdeal.τ).loc Cert.PreIdeal.main_v10_2)) (v3 : (c : Dev Cert.PreIdeal.nD) → Buf (Elt Ideal) ((c.tc : Thread Cert.PreIdeal.nD Cert.PreIdeal.τ).loc Cert.PreIdeal.main_v10_3)) (v4 : (c : Dev Cert.PreIdeal.nD) → Buf (Elt Ideal) ((c.tc : Thread Cert.PreIdeal.nD Cert.PreIdeal.τ).loc Cert.PreIdeal.main_v10_4)) (v5 : (c : Dev Cert.PreIdeal.nD) → Buf (Elt Ideal) ((c.tc : Thread Cert.PreIdeal.nD Cert.PreIdeal.τ).loc Cert.PreIdeal.main_v10_5)),
      θ_run (Cert.PreIdeal.defs (F := Ideal)) (onTc (τ := Cert.PreIdeal.τ) (Cert.PreIdeal.main (F := Ideal))) ⟨m, fun _ => 0, g⟩ (fun r => ∀ c : Dev Cert.PreIdeal.nD,
          r.2.mem ((c.tc : Thread Cert.PreIdeal.nD Cert.PreIdeal.τ).loc Cert.PreIdeal.main_v10_0) = v0 c
          ∧ r.2.mem ((c.tc : Thread Cert.PreIdeal.nD Cert.PreIdeal.τ).loc Cert.PreIdeal.main_v10_1) = v1 c
          ∧ r.2.mem ((c.tc : Thread Cert.PreIdeal.nD Cert.PreIdeal.τ).loc Cert.PreIdeal.main_v10_2) = v2 c
          ∧ r.2.mem ((c.tc : Thread Cert.PreIdeal.nD Cert.PreIdeal.τ).loc Cert.PreIdeal.main_v10_3) = v3 c
          ∧ r.2.mem ((c.tc : Thread Cert.PreIdeal.nD Cert.PreIdeal.τ).loc Cert.PreIdeal.main_v10_4) = v4 c
          ∧ r.2.mem ((c.tc : Thread Cert.PreIdeal.nD Cert.PreIdeal.τ).loc Cert.PreIdeal.main_v10_5) = v5 c
          ∧ r.2.mem ((c.tc : Thread Cert.PreIdeal.nD Cert.PreIdeal.τ).loc Cert.PreIdeal.main_arg0) = m ((c.tc : Thread Cert.PreIdeal.nD Cert.PreIdeal.τ).loc Cert.PreIdeal.main_arg0)
          ∧ r.2.mem ((c.tc : Thread Cert.PreIdeal.nD Cert.PreIdeal.τ).loc Cert.PreIdeal.main_arg1) = m ((c.tc : Thread Cert.PreIdeal.nD Cert.PreIdeal.τ).loc Cert.PreIdeal.main_arg1)
          ∧ r.2.mem ((c.tc : Thread Cert.PreIdeal.nD Cert.PreIdeal.τ).loc Cert.PreIdeal.main_arg2) = m ((c.tc : Thread Cert.PreIdeal.nD Cert.PreIdeal.τ).loc Cert.PreIdeal.main_arg2)
          ∧ r.2.mem ((c.tc : Thread Cert.PreIdeal.nD Cert.PreIdeal.τ).loc Cert.PreIdeal.main_arg3) = m ((c.tc : Thread Cert.PreIdeal.nD Cert.PreIdeal.τ).loc Cert.PreIdeal.main_arg3)
          ∧ r.2.mem ((c.tc : Thread Cert.PreIdeal.nD Cert.PreIdeal.τ).loc Cert.PreIdeal.main_arg4) = m ((c.tc : Thread Cert.PreIdeal.nD Cert.PreIdeal.τ).loc Cert.PreIdeal.main_arg4)
          ∧ r.2.mem ((c.tc : Thread Cert.PreIdeal.nD Cert.PreIdeal.τ).loc Cert.PreIdeal.main_arg5) = m ((c.tc : Thread Cert.PreIdeal.nD Cert.PreIdeal.τ).loc Cert.PreIdeal.main_arg5)
          ∧ r.2.mem ((c.tc : Thread Cert.PreIdeal.nD Cert.PreIdeal.τ).loc Cert.PreIdeal.main_arg6) = m ((c.tc : Thread Cert.PreIdeal.nD Cert.PreIdeal.τ).loc Cert.PreIdeal.main_arg6)
          ∧ r.2.mem ((c.tc : Thread Cert.PreIdeal.nD Cert.PreIdeal.τ).loc Cert.PreIdeal.main_arg7) = m ((c.tc : Thread Cert.PreIdeal.nD Cert.PreIdeal.τ).loc Cert.PreIdeal.main_arg7)
          ∧ r.2.mem ((c.tc : Thread Cert.PreIdeal.nD Cert.PreIdeal.τ).loc Cert.PreIdeal.main_arg8) = m ((c.tc : Thread Cert.PreIdeal.nD Cert.PreIdeal.τ).loc Cert.PreIdeal.main_arg8)
          ∧ r.2.mem ((c.tc : Thread Cert.PreIdeal.nD Cert.PreIdeal.τ).loc Cert.PreIdeal.main_arg9) = m ((c.tc : Thread Cert.PreIdeal.nD Cert.PreIdeal.τ).loc Cert.PreIdeal.main_arg9)
          ∧ r.2.mem ((c.tc : Thread Cert.PreIdeal.nD Cert.PreIdeal.τ).loc Cert.PreIdeal.main_arg10) = m ((c.tc : Thread Cert.PreIdeal.nD Cert.PreIdeal.τ).loc Cert.PreIdeal.main_arg10))
      ∧ θ_run (Cert.PreRefIdeal.defs (F := Ideal)) (onTc (τ := Cert.PreRefIdeal.τ) (Cert.PreRefIdeal.main (F := Ideal))) ⟨m', fun _ => 0, g'⟩ (fun r => ∀ c : Dev Cert.PreRefIdeal.nD,
          r.2.mem ((c.tc : Thread Cert.PreRefIdeal.nD Cert.PreRefIdeal.τ).loc Cert.PreRefIdeal.main_v82) = v0 c
          ∧ r.2.mem ((c.tc : Thread Cert.PreRefIdeal.nD Cert.PreRefIdeal.τ).loc Cert.PreRefIdeal.main_v83) = v1 c
          ∧ r.2.mem ((c.tc : Thread Cert.PreRefIdeal.nD Cert.PreRefIdeal.τ).loc Cert.PreRefIdeal.main_v84) = v2 c
          ∧ r.2.mem ((c.tc : Thread Cert.PreRefIdeal.nD Cert.PreRefIdeal.τ).loc Cert.PreRefIdeal.main_v85) = v3 c
          ∧ r.2.mem ((c.tc : Thread Cert.PreRefIdeal.nD Cert.PreRefIdeal.τ).loc Cert.PreRefIdeal.main_v86) = v4 c
          ∧ r.2.mem ((c.tc : Thread Cert.PreRefIdeal.nD Cert.PreRefIdeal.τ).loc Cert.PreRefIdeal.main_v87) = v5 c
          ∧ r.2.mem ((c.tc : Thread Cert.PreRefIdeal.nD Cert.PreRefIdeal.τ).loc Cert.PreRefIdeal.main_arg0) = m' ((c.tc : Thread Cert.PreRefIdeal.nD Cert.PreRefIdeal.τ).loc Cert.PreRefIdeal.main_arg0)
          ∧ r.2.mem ((c.tc : Thread Cert.PreRefIdeal.nD Cert.PreRefIdeal.τ).loc Cert.PreRefIdeal.main_arg1) = m' ((c.tc : Thread Cert.PreRefIdeal.nD Cert.PreRefIdeal.τ).loc Cert.PreRefIdeal.main_arg1)
          ∧ r.2.mem ((c.tc : Thread Cert.PreRefIdeal.nD Cert.PreRefIdeal.τ).loc Cert.PreRefIdeal.main_arg2) = m' ((c.tc : Thread Cert.PreRefIdeal.nD Cert.PreRefIdeal.τ).loc Cert.PreRefIdeal.main_arg2)
          ∧ r.2.mem ((c.tc : Thread Cert.PreRefIdeal.nD Cert.PreRefIdeal.τ).loc Cert.PreRefIdeal.main_arg3) = m' ((c.tc : Thread Cert.PreRefIdeal.nD Cert.PreRefIdeal.τ).loc Cert.PreRefIdeal.main_arg3)
          ∧ r.2.mem ((c.tc : Thread Cert.PreRefIdeal.nD Cert.PreRefIdeal.τ).loc Cert.PreRefIdeal.main_arg4) = m' ((c.tc : Thread Cert.PreRefIdeal.nD Cert.PreRefIdeal.τ).loc Cert.PreRefIdeal.main_arg4)
          ∧ r.2.mem ((c.tc : Thread Cert.PreRefIdeal.nD Cert.PreRefIdeal.τ).loc Cert.PreRefIdeal.main_arg5) = m' ((c.tc : Thread Cert.PreRefIdeal.nD Cert.PreRefIdeal.τ).loc Cert.PreRefIdeal.main_arg5)
          ∧ r.2.mem ((c.tc : Thread Cert.PreRefIdeal.nD Cert.PreRefIdeal.τ).loc Cert.PreRefIdeal.main_arg6) = m' ((c.tc : Thread Cert.PreRefIdeal.nD Cert.PreRefIdeal.τ).loc Cert.PreRefIdeal.main_arg6)
          ∧ r.2.mem ((c.tc : Thread Cert.PreRefIdeal.nD Cert.PreRefIdeal.τ).loc Cert.PreRefIdeal.main_arg7) = m' ((c.tc : Thread Cert.PreRefIdeal.nD Cert.PreRefIdeal.τ).loc Cert.PreRefIdeal.main_arg7)
          ∧ r.2.mem ((c.tc : Thread Cert.PreRefIdeal.nD Cert.PreRefIdeal.τ).loc Cert.PreRefIdeal.main_arg8) = m' ((c.tc : Thread Cert.PreRefIdeal.nD Cert.PreRefIdeal.τ).loc Cert.PreRefIdeal.main_arg8)
          ∧ r.2.mem ((c.tc : Thread Cert.PreRefIdeal.nD Cert.PreRefIdeal.τ).loc Cert.PreRefIdeal.main_arg9) = m' ((c.tc : Thread Cert.PreRefIdeal.nD Cert.PreRefIdeal.τ).loc Cert.PreRefIdeal.main_arg9)
          ∧ r.2.mem ((c.tc : Thread Cert.PreRefIdeal.nD Cert.PreRefIdeal.τ).loc Cert.PreRefIdeal.main_arg10) = m' ((c.tc : Thread Cert.PreRefIdeal.nD Cert.PreRefIdeal.τ).loc Cert.PreRefIdeal.main_arg10))

def preserves_PreRes_PreResIdeal : Prop :=
  True

def algebraic_PreResIdeal_PreResRefIdeal [hPreResIdeal : Cert.PreResIdeal.Facts] [hPreResRefIdeal : Cert.PreResRefIdeal.Facts] : Prop :=
  ∀ (m : (ℓ : Loc Cert.PreResIdeal.nD Cert.PreResIdeal.τ Cert.PreResIdeal.sig) → Buf (Elt Ideal) ℓ) (g : Dev Cert.PreResIdeal.nD → PrngReg)
    (m' : (ℓ : Loc Cert.PreResRefIdeal.nD Cert.PreResRefIdeal.τ Cert.PreResRefIdeal.sig) → Buf (Elt Ideal) ℓ) (g' : Dev Cert.PreResRefIdeal.nD → PrngReg), Pre_PreResIdeal m →
    (∀ c : Dev Cert.PreResIdeal.nD,
      m' ((c.tc : Thread Cert.PreResRefIdeal.nD Cert.PreResRefIdeal.τ).loc Cert.PreResRefIdeal.main_arg0) = m ((c.tc : Thread Cert.PreResIdeal.nD Cert.PreResIdeal.τ).loc Cert.PreResIdeal.main_arg0)
      ∧ m' ((c.tc : Thread Cert.PreResRefIdeal.nD Cert.PreResRefIdeal.τ).loc Cert.PreResRefIdeal.main_arg1) = m ((c.tc : Thread Cert.PreResIdeal.nD Cert.PreResIdeal.τ).loc Cert.PreResIdeal.main_arg1)
      ∧ m' ((c.tc : Thread Cert.PreResRefIdeal.nD Cert.PreResRefIdeal.τ).loc Cert.PreResRefIdeal.main_arg2) = m ((c.tc : Thread Cert.PreResIdeal.nD Cert.PreResIdeal.τ).loc Cert.PreResIdeal.main_arg2)
      ∧ m' ((c.tc : Thread Cert.PreResRefIdeal.nD Cert.PreResRefIdeal.τ).loc Cert.PreResRefIdeal.main_arg3) = m ((c.tc : Thread Cert.PreResIdeal.nD Cert.PreResIdeal.τ).loc Cert.PreResIdeal.main_arg3)
      ∧ m' ((c.tc : Thread Cert.PreResRefIdeal.nD Cert.PreResRefIdeal.τ).loc Cert.PreResRefIdeal.main_arg4) = m ((c.tc : Thread Cert.PreResIdeal.nD Cert.PreResIdeal.τ).loc Cert.PreResIdeal.main_arg4)
      ∧ m' ((c.tc : Thread Cert.PreResRefIdeal.nD Cert.PreResRefIdeal.τ).loc Cert.PreResRefIdeal.main_arg5) = m ((c.tc : Thread Cert.PreResIdeal.nD Cert.PreResIdeal.τ).loc Cert.PreResIdeal.main_arg5)
      ∧ m' ((c.tc : Thread Cert.PreResRefIdeal.nD Cert.PreResRefIdeal.τ).loc Cert.PreResRefIdeal.main_arg6) = m ((c.tc : Thread Cert.PreResIdeal.nD Cert.PreResIdeal.τ).loc Cert.PreResIdeal.main_arg6)
      ∧ m' ((c.tc : Thread Cert.PreResRefIdeal.nD Cert.PreResRefIdeal.τ).loc Cert.PreResRefIdeal.main_arg7) = m ((c.tc : Thread Cert.PreResIdeal.nD Cert.PreResIdeal.τ).loc Cert.PreResIdeal.main_arg7)
      ∧ m' ((c.tc : Thread Cert.PreResRefIdeal.nD Cert.PreResRefIdeal.τ).loc Cert.PreResRefIdeal.main_arg8) = m ((c.tc : Thread Cert.PreResIdeal.nD Cert.PreResIdeal.τ).loc Cert.PreResIdeal.main_arg8)
      ∧ m' ((c.tc : Thread Cert.PreResRefIdeal.nD Cert.PreResRefIdeal.τ).loc Cert.PreResRefIdeal.main_arg9) = m ((c.tc : Thread Cert.PreResIdeal.nD Cert.PreResIdeal.τ).loc Cert.PreResIdeal.main_arg9)
      ∧ m' ((c.tc : Thread Cert.PreResRefIdeal.nD Cert.PreResRefIdeal.τ).loc Cert.PreResRefIdeal.main_arg10) = m ((c.tc : Thread Cert.PreResIdeal.nD Cert.PreResIdeal.τ).loc Cert.PreResIdeal.main_arg10)
      ∧ m' ((c.tc : Thread Cert.PreResRefIdeal.nD Cert.PreResRefIdeal.τ).loc Cert.PreResRefIdeal.main_arg11) = m ((c.tc : Thread Cert.PreResIdeal.nD Cert.PreResIdeal.τ).loc Cert.PreResIdeal.main_arg11)
      ∧ m' ((c.tc : Thread Cert.PreResRefIdeal.nD Cert.PreResRefIdeal.τ).loc Cert.PreResRefIdeal.main_arg12) = m ((c.tc : Thread Cert.PreResIdeal.nD Cert.PreResIdeal.τ).loc Cert.PreResIdeal.main_arg12)
      ∧ m' ((c.tc : Thread Cert.PreResRefIdeal.nD Cert.PreResRefIdeal.τ).loc Cert.PreResRefIdeal.main_arg13) = m ((c.tc : Thread Cert.PreResIdeal.nD Cert.PreResIdeal.τ).loc Cert.PreResIdeal.main_arg13)
      ∧ m' ((c.tc : Thread Cert.PreResRefIdeal.nD Cert.PreResRefIdeal.τ).loc Cert.PreResRefIdeal.main_arg14) = m ((c.tc : Thread Cert.PreResIdeal.nD Cert.PreResIdeal.τ).loc Cert.PreResIdeal.main_arg14)) →
    ∃ (v0 : (c : Dev Cert.PreResIdeal.nD) → Buf (Elt Ideal) ((c.tc : Thread Cert.PreResIdeal.nD Cert.PreResIdeal.τ).loc Cert.PreResIdeal.main_v14_0)) (v1 : (c : Dev Cert.PreResIdeal.nD) → Buf (Elt Ideal) ((c.tc : Thread Cert.PreResIdeal.nD Cert.PreResIdeal.τ).loc Cert.PreResIdeal.main_v14_1)) (v2 : (c : Dev Cert.PreResIdeal.nD) → Buf (Elt Ideal) ((c.tc : Thread Cert.PreResIdeal.nD Cert.PreResIdeal.τ).loc Cert.PreResIdeal.main_v14_2)) (v3 : (c : Dev Cert.PreResIdeal.nD) → Buf (Elt Ideal) ((c.tc : Thread Cert.PreResIdeal.nD Cert.PreResIdeal.τ).loc Cert.PreResIdeal.main_v14_3)) (v4 : (c : Dev Cert.PreResIdeal.nD) → Buf (Elt Ideal) ((c.tc : Thread Cert.PreResIdeal.nD Cert.PreResIdeal.τ).loc Cert.PreResIdeal.main_v14_4)) (v5 : (c : Dev Cert.PreResIdeal.nD) → Buf (Elt Ideal) ((c.tc : Thread Cert.PreResIdeal.nD Cert.PreResIdeal.τ).loc Cert.PreResIdeal.main_v14_5)),
      θ_run (Cert.PreResIdeal.defs (F := Ideal)) (onTc (τ := Cert.PreResIdeal.τ) (Cert.PreResIdeal.main (F := Ideal))) ⟨m, fun _ => 0, g⟩ (fun r => ∀ c : Dev Cert.PreResIdeal.nD,
          r.2.mem ((c.tc : Thread Cert.PreResIdeal.nD Cert.PreResIdeal.τ).loc Cert.PreResIdeal.main_v14_0) = v0 c
          ∧ r.2.mem ((c.tc : Thread Cert.PreResIdeal.nD Cert.PreResIdeal.τ).loc Cert.PreResIdeal.main_v14_1) = v1 c
          ∧ r.2.mem ((c.tc : Thread Cert.PreResIdeal.nD Cert.PreResIdeal.τ).loc Cert.PreResIdeal.main_v14_2) = v2 c
          ∧ r.2.mem ((c.tc : Thread Cert.PreResIdeal.nD Cert.PreResIdeal.τ).loc Cert.PreResIdeal.main_v14_3) = v3 c
          ∧ r.2.mem ((c.tc : Thread Cert.PreResIdeal.nD Cert.PreResIdeal.τ).loc Cert.PreResIdeal.main_v14_4) = v4 c
          ∧ r.2.mem ((c.tc : Thread Cert.PreResIdeal.nD Cert.PreResIdeal.τ).loc Cert.PreResIdeal.main_v14_5) = v5 c
          ∧ r.2.mem ((c.tc : Thread Cert.PreResIdeal.nD Cert.PreResIdeal.τ).loc Cert.PreResIdeal.main_arg0) = m ((c.tc : Thread Cert.PreResIdeal.nD Cert.PreResIdeal.τ).loc Cert.PreResIdeal.main_arg0)
          ∧ r.2.mem ((c.tc : Thread Cert.PreResIdeal.nD Cert.PreResIdeal.τ).loc Cert.PreResIdeal.main_arg1) = m ((c.tc : Thread Cert.PreResIdeal.nD Cert.PreResIdeal.τ).loc Cert.PreResIdeal.main_arg1)
          ∧ r.2.mem ((c.tc : Thread Cert.PreResIdeal.nD Cert.PreResIdeal.τ).loc Cert.PreResIdeal.main_arg2) = m ((c.tc : Thread Cert.PreResIdeal.nD Cert.PreResIdeal.τ).loc Cert.PreResIdeal.main_arg2)
          ∧ r.2.mem ((c.tc : Thread Cert.PreResIdeal.nD Cert.PreResIdeal.τ).loc Cert.PreResIdeal.main_arg3) = m ((c.tc : Thread Cert.PreResIdeal.nD Cert.PreResIdeal.τ).loc Cert.PreResIdeal.main_arg3)
          ∧ r.2.mem ((c.tc : Thread Cert.PreResIdeal.nD Cert.PreResIdeal.τ).loc Cert.PreResIdeal.main_arg4) = m ((c.tc : Thread Cert.PreResIdeal.nD Cert.PreResIdeal.τ).loc Cert.PreResIdeal.main_arg4)
          ∧ r.2.mem ((c.tc : Thread Cert.PreResIdeal.nD Cert.PreResIdeal.τ).loc Cert.PreResIdeal.main_arg5) = m ((c.tc : Thread Cert.PreResIdeal.nD Cert.PreResIdeal.τ).loc Cert.PreResIdeal.main_arg5)
          ∧ r.2.mem ((c.tc : Thread Cert.PreResIdeal.nD Cert.PreResIdeal.τ).loc Cert.PreResIdeal.main_arg6) = m ((c.tc : Thread Cert.PreResIdeal.nD Cert.PreResIdeal.τ).loc Cert.PreResIdeal.main_arg6)
          ∧ r.2.mem ((c.tc : Thread Cert.PreResIdeal.nD Cert.PreResIdeal.τ).loc Cert.PreResIdeal.main_arg7) = m ((c.tc : Thread Cert.PreResIdeal.nD Cert.PreResIdeal.τ).loc Cert.PreResIdeal.main_arg7)
          ∧ r.2.mem ((c.tc : Thread Cert.PreResIdeal.nD Cert.PreResIdeal.τ).loc Cert.PreResIdeal.main_arg8) = m ((c.tc : Thread Cert.PreResIdeal.nD Cert.PreResIdeal.τ).loc Cert.PreResIdeal.main_arg8)
          ∧ r.2.mem ((c.tc : Thread Cert.PreResIdeal.nD Cert.PreResIdeal.τ).loc Cert.PreResIdeal.main_arg9) = m ((c.tc : Thread Cert.PreResIdeal.nD Cert.PreResIdeal.τ).loc Cert.PreResIdeal.main_arg9)
          ∧ r.2.mem ((c.tc : Thread Cert.PreResIdeal.nD Cert.PreResIdeal.τ).loc Cert.PreResIdeal.main_arg10) = m ((c.tc : Thread Cert.PreResIdeal.nD Cert.PreResIdeal.τ).loc Cert.PreResIdeal.main_arg10)
          ∧ r.2.mem ((c.tc : Thread Cert.PreResIdeal.nD Cert.PreResIdeal.τ).loc Cert.PreResIdeal.main_arg11) = m ((c.tc : Thread Cert.PreResIdeal.nD Cert.PreResIdeal.τ).loc Cert.PreResIdeal.main_arg11)
          ∧ r.2.mem ((c.tc : Thread Cert.PreResIdeal.nD Cert.PreResIdeal.τ).loc Cert.PreResIdeal.main_arg12) = m ((c.tc : Thread Cert.PreResIdeal.nD Cert.PreResIdeal.τ).loc Cert.PreResIdeal.main_arg12)
          ∧ r.2.mem ((c.tc : Thread Cert.PreResIdeal.nD Cert.PreResIdeal.τ).loc Cert.PreResIdeal.main_arg13) = m ((c.tc : Thread Cert.PreResIdeal.nD Cert.PreResIdeal.τ).loc Cert.PreResIdeal.main_arg13)
          ∧ r.2.mem ((c.tc : Thread Cert.PreResIdeal.nD Cert.PreResIdeal.τ).loc Cert.PreResIdeal.main_arg14) = m ((c.tc : Thread Cert.PreResIdeal.nD Cert.PreResIdeal.τ).loc Cert.PreResIdeal.main_arg14))
      ∧ θ_run (Cert.PreResRefIdeal.defs (F := Ideal)) (onTc (τ := Cert.PreResRefIdeal.τ) (Cert.PreResRefIdeal.main (F := Ideal))) ⟨m', fun _ => 0, g'⟩ (fun r => ∀ c : Dev Cert.PreResRefIdeal.nD,
          r.2.mem ((c.tc : Thread Cert.PreResRefIdeal.nD Cert.PreResRefIdeal.τ).loc Cert.PreResRefIdeal.main_v96) = v0 c
          ∧ r.2.mem ((c.tc : Thread Cert.PreResRefIdeal.nD Cert.PreResRefIdeal.τ).loc Cert.PreResRefIdeal.main_v97) = v1 c
          ∧ r.2.mem ((c.tc : Thread Cert.PreResRefIdeal.nD Cert.PreResRefIdeal.τ).loc Cert.PreResRefIdeal.main_v98) = v2 c
          ∧ r.2.mem ((c.tc : Thread Cert.PreResRefIdeal.nD Cert.PreResRefIdeal.τ).loc Cert.PreResRefIdeal.main_v99) = v3 c
          ∧ r.2.mem ((c.tc : Thread Cert.PreResRefIdeal.nD Cert.PreResRefIdeal.τ).loc Cert.PreResRefIdeal.main_v100) = v4 c
          ∧ r.2.mem ((c.tc : Thread Cert.PreResRefIdeal.nD Cert.PreResRefIdeal.τ).loc Cert.PreResRefIdeal.main_v101) = v5 c
          ∧ r.2.mem ((c.tc : Thread Cert.PreResRefIdeal.nD Cert.PreResRefIdeal.τ).loc Cert.PreResRefIdeal.main_arg0) = m' ((c.tc : Thread Cert.PreResRefIdeal.nD Cert.PreResRefIdeal.τ).loc Cert.PreResRefIdeal.main_arg0)
          ∧ r.2.mem ((c.tc : Thread Cert.PreResRefIdeal.nD Cert.PreResRefIdeal.τ).loc Cert.PreResRefIdeal.main_arg1) = m' ((c.tc : Thread Cert.PreResRefIdeal.nD Cert.PreResRefIdeal.τ).loc Cert.PreResRefIdeal.main_arg1)
          ∧ r.2.mem ((c.tc : Thread Cert.PreResRefIdeal.nD Cert.PreResRefIdeal.τ).loc Cert.PreResRefIdeal.main_arg2) = m' ((c.tc : Thread Cert.PreResRefIdeal.nD Cert.PreResRefIdeal.τ).loc Cert.PreResRefIdeal.main_arg2)
          ∧ r.2.mem ((c.tc : Thread Cert.PreResRefIdeal.nD Cert.PreResRefIdeal.τ).loc Cert.PreResRefIdeal.main_arg3) = m' ((c.tc : Thread Cert.PreResRefIdeal.nD Cert.PreResRefIdeal.τ).loc Cert.PreResRefIdeal.main_arg3)
          ∧ r.2.mem ((c.tc : Thread Cert.PreResRefIdeal.nD Cert.PreResRefIdeal.τ).loc Cert.PreResRefIdeal.main_arg4) = m' ((c.tc : Thread Cert.PreResRefIdeal.nD Cert.PreResRefIdeal.τ).loc Cert.PreResRefIdeal.main_arg4)
          ∧ r.2.mem ((c.tc : Thread Cert.PreResRefIdeal.nD Cert.PreResRefIdeal.τ).loc Cert.PreResRefIdeal.main_arg5) = m' ((c.tc : Thread Cert.PreResRefIdeal.nD Cert.PreResRefIdeal.τ).loc Cert.PreResRefIdeal.main_arg5)
          ∧ r.2.mem ((c.tc : Thread Cert.PreResRefIdeal.nD Cert.PreResRefIdeal.τ).loc Cert.PreResRefIdeal.main_arg6) = m' ((c.tc : Thread Cert.PreResRefIdeal.nD Cert.PreResRefIdeal.τ).loc Cert.PreResRefIdeal.main_arg6)
          ∧ r.2.mem ((c.tc : Thread Cert.PreResRefIdeal.nD Cert.PreResRefIdeal.τ).loc Cert.PreResRefIdeal.main_arg7) = m' ((c.tc : Thread Cert.PreResRefIdeal.nD Cert.PreResRefIdeal.τ).loc Cert.PreResRefIdeal.main_arg7)
          ∧ r.2.mem ((c.tc : Thread Cert.PreResRefIdeal.nD Cert.PreResRefIdeal.τ).loc Cert.PreResRefIdeal.main_arg8) = m' ((c.tc : Thread Cert.PreResRefIdeal.nD Cert.PreResRefIdeal.τ).loc Cert.PreResRefIdeal.main_arg8)
          ∧ r.2.mem ((c.tc : Thread Cert.PreResRefIdeal.nD Cert.PreResRefIdeal.τ).loc Cert.PreResRefIdeal.main_arg9) = m' ((c.tc : Thread Cert.PreResRefIdeal.nD Cert.PreResRefIdeal.τ).loc Cert.PreResRefIdeal.main_arg9)
          ∧ r.2.mem ((c.tc : Thread Cert.PreResRefIdeal.nD Cert.PreResRefIdeal.τ).loc Cert.PreResRefIdeal.main_arg10) = m' ((c.tc : Thread Cert.PreResRefIdeal.nD Cert.PreResRefIdeal.τ).loc Cert.PreResRefIdeal.main_arg10)
          ∧ r.2.mem ((c.tc : Thread Cert.PreResRefIdeal.nD Cert.PreResRefIdeal.τ).loc Cert.PreResRefIdeal.main_arg11) = m' ((c.tc : Thread Cert.PreResRefIdeal.nD Cert.PreResRefIdeal.τ).loc Cert.PreResRefIdeal.main_arg11)
          ∧ r.2.mem ((c.tc : Thread Cert.PreResRefIdeal.nD Cert.PreResRefIdeal.τ).loc Cert.PreResRefIdeal.main_arg12) = m' ((c.tc : Thread Cert.PreResRefIdeal.nD Cert.PreResRefIdeal.τ).loc Cert.PreResRefIdeal.main_arg12)
          ∧ r.2.mem ((c.tc : Thread Cert.PreResRefIdeal.nD Cert.PreResRefIdeal.τ).loc Cert.PreResRefIdeal.main_arg13) = m' ((c.tc : Thread Cert.PreResRefIdeal.nD Cert.PreResRefIdeal.τ).loc Cert.PreResRefIdeal.main_arg13)
          ∧ r.2.mem ((c.tc : Thread Cert.PreResRefIdeal.nD Cert.PreResRefIdeal.τ).loc Cert.PreResRefIdeal.main_arg14) = m' ((c.tc : Thread Cert.PreResRefIdeal.nD Cert.PreResRefIdeal.τ).loc Cert.PreResRefIdeal.main_arg14))

def preserves_Wkv_WkvIdeal : Prop :=
  True

def Claim : Prop :=
  ∃ (hKernel : Cert.Kernel.Facts) (hKernelIdeal : Cert.KernelIdeal.Facts) (hReferenceIdeal : Cert.ReferenceIdeal.Facts) (hFfn : Cert.Ffn.Facts) (hFfnIdeal : Cert.FfnIdeal.Facts) (hFfnRefIdeal : Cert.FfnRefIdeal.Facts) (hMix : Cert.Mix.Facts) (hMixIdeal : Cert.MixIdeal.Facts) (hMixRefIdeal : Cert.MixRefIdeal.Facts) (hPre : Cert.Pre.Facts) (hPreIdeal : Cert.PreIdeal.Facts) (hPreRefIdeal : Cert.PreRefIdeal.Facts) (hPreRes : Cert.PreRes.Facts) (hPreResIdeal : Cert.PreResIdeal.Facts) (hPreResRefIdeal : Cert.PreResRefIdeal.Facts) (hWkv : Cert.Wkv.Facts) (hWkvIdeal : Cert.WkvIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Ffn (hFfn := hFfn)
    ∧ quiescent_FfnIdeal (hFfnIdeal := hFfnIdeal)
    ∧ quiescent_FfnRefIdeal (hFfnRefIdeal := hFfnRefIdeal)
    ∧ quiescent_Mix (hMix := hMix)
    ∧ quiescent_MixIdeal (hMixIdeal := hMixIdeal)
    ∧ quiescent_MixRefIdeal (hMixRefIdeal := hMixRefIdeal)
    ∧ quiescent_Pre (hPre := hPre)
    ∧ quiescent_PreIdeal (hPreIdeal := hPreIdeal)
    ∧ quiescent_PreRefIdeal (hPreRefIdeal := hPreRefIdeal)
    ∧ quiescent_PreRes (hPreRes := hPreRes)
    ∧ quiescent_PreResIdeal (hPreResIdeal := hPreResIdeal)
    ∧ quiescent_PreResRefIdeal (hPreResRefIdeal := hPreResRefIdeal)
    ∧ quiescent_Wkv (hWkv := hWkv)
    ∧ quiescent_WkvIdeal (hWkvIdeal := hWkvIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Ffn_FfnIdeal
    ∧ algebraic_FfnIdeal_FfnRefIdeal (hFfnIdeal := hFfnIdeal) (hFfnRefIdeal := hFfnRefIdeal)
    ∧ preserves_Mix_MixIdeal
    ∧ algebraic_MixIdeal_MixRefIdeal (hMixIdeal := hMixIdeal) (hMixRefIdeal := hMixRefIdeal)
    ∧ preserves_Pre_PreIdeal
    ∧ algebraic_PreIdeal_PreRefIdeal (hPreIdeal := hPreIdeal) (hPreRefIdeal := hPreRefIdeal)
    ∧ preserves_PreRes_PreResIdeal
    ∧ algebraic_PreResIdeal_PreResRefIdeal (hPreResIdeal := hPreResIdeal) (hPreResRefIdeal := hPreResRefIdeal)
    ∧ preserves_Wkv_WkvIdeal
-- ==== Pre_finite.lean ====
abbrev S8x4096x1024 : Shape := ⟨3, ![8, 4096, 1024]⟩
abbrev S1024x4096 : Shape := ⟨2, ![1024, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024 : Shape := ⟨1, ![1024]⟩
abbrev S_ : Shape := ⟨0, ![]⟩

class Facts : Prop where
  bcast_S_S8x4096x1024 : S_.BroadcastsInDim S8x4096x1024 (![] : Fin 0 → Fin S8x4096x1024.rank)
  bcast_S_S1024x4096 : S_.BroadcastsInDim S1024x4096 (![] : Fin 0 → Fin S1024x4096.rank)
  bcast_S_S4096 : S_.BroadcastsInDim S4096 (![] : Fin 0 → Fin S4096.rank)

variable [Facts]

def fn {F : FTy → Type} [FloatOps F] (main_arg0 : FVec F S8x4096x1024 .f32) (main_arg1 : FVec F S1024x4096 .f32) (main_arg2 : FVec F S4096 .f32) (main_arg3 : FVec F S2048 .f32) (main_arg4 : FVec F S2048 .f32) (main_arg5 : FVec F S16x128x128 .f32) (main_arg6 : FVec F S16x128 .f32) (main_arg7 : FVec F S2048x1024 .f32) (main_arg8 : FVec F S1024 .f32) (main_arg9 : FVec F S1024 .f32) : IVec S8x4096x1024 1 × IVec S1024x4096 1 × IVec S4096 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_v3 : FVec F S1024x4096 .f32 := Host.absf main_arg1
  let main_cst_0 : FVec F S_ .f32 := constant S_ .f32 0x7F800000#32
  let main_v4 : FVec F S1024x4096 .f32 := broadcastInDim S1024x4096 ![] bcast_S_S1024x4096 main_cst_0
  let main_v5 : IVec S1024x4096 1 := cmpf .olt main_v3 main_v4
  let main_v6 : FVec F S4096 .f32 := Host.absf main_arg2
  let main_cst_1 : FVec F S_ .f32 := constant S_ .f32 0x7F800000#32
  let main_v7 : FVec F S4096 .f32 := broadcastInDim S4096 ![] bcast_S_S4096 main_cst_1
  let main_v8 : IVec S4096 1 := cmpf .olt main_v6 main_v7
  (main_v2, main_v5, main_v8)
-- ==== Kernel.lean ====
abbrev S8x4096x1024 : Shape := ⟨3, ![8, 4096, 1024]⟩
abbrev S1024x4096 : Shape := ⟨2, ![1024, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024 : Shape := ⟨1, ![1024]⟩
abbrev S16x128x1 : Shape := ⟨3, ![16, 128, 1]⟩
abbrev S32768x1024 : Shape := ⟨2, ![32768, 1024]⟩
abbrev S1x4096 : Shape := ⟨2, ![1, 4096]⟩
abbrev S1x2048 : Shape := ⟨2, ![1, 2048]⟩
abbrev S1x1024 : Shape := ⟨2, ![1, 1024]⟩
abbrev S1024x1024 : Shape := ⟨2, ![1024, 1024]⟩
abbrev S1024x2048 : Shape := ⟨2, ![1024, 2048]⟩
abbrev S128x128 : Shape := ⟨2, ![128, 128]⟩
abbrev S256x1024 : Shape := ⟨2, ![256, 1024]⟩
abbrev S1024x512 : Shape := ⟨2, ![1024, 512]⟩
abbrev S256x512 : Shape := ⟨2, ![256, 512]⟩
abbrev S1x512 : Shape := ⟨2, ![1, 512]⟩
abbrev S256 : Shape := ⟨1, ![256]⟩
abbrev S256x1 : Shape := ⟨2, ![256, 1]⟩
abbrev S1024x256 : Shape := ⟨2, ![1024, 256]⟩
abbrev S256x256 : Shape := ⟨2, ![256, 256]⟩
abbrev S1x256 : Shape := ⟨2, ![1, 256]⟩
abbrev S1x128x128 : Shape := ⟨3, ![1, 128, 128]⟩
abbrev S128x256 : Shape := ⟨2, ![128, 256]⟩
abbrev S256x2048 : Shape := ⟨2, ![256, 2048]⟩

abbrev nBuf : Space → Nat
  | .hbm => 22
  | .vmem => 14
  | .smem => 0
  | _ => 0

abbrev bufTy : (tb : Table) → Fin (tcTables nBuf tb) → BufTy
  | .hbm, ⟨0, _⟩ => ⟨S8x4096x1024, .f32⟩
  | .hbm, ⟨1, _⟩ => ⟨S1024x4096, .f32⟩
  | .hbm, ⟨2, _⟩ => ⟨S4096, .f32⟩
  | .hbm, ⟨3, _⟩ => ⟨S2048, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S2048x1024, .f32⟩
  | .hbm, ⟨8, _⟩ => ⟨S1024, .f32⟩
  | .hbm, ⟨9, _⟩ => ⟨S1024, .f32⟩
  | .hbm, ⟨10, _⟩ => ⟨S16x128x1, .f32⟩
  | .hbm, ⟨11, _⟩ => ⟨S16x128x128, .f32⟩
  | .hbm, ⟨12, _⟩ => ⟨S32768x1024, .f32⟩
  | .hbm, ⟨13, _⟩ => ⟨S1024x4096, .bf16⟩
  | .hbm, ⟨14, _⟩ => ⟨S1x4096, .f32⟩
  | .hbm, ⟨15, _⟩ => ⟨S1x2048, .f32⟩
  | .hbm, ⟨16, _⟩ => ⟨S1x2048, .f32⟩
  | .hbm, ⟨17, _⟩ => ⟨S16x128x128, .bf16⟩
  | .hbm, ⟨18, _⟩ => ⟨S2048x1024, .bf16⟩
  | .hbm, ⟨19, _⟩ => ⟨S1x1024, .f32⟩
  | .hbm, ⟨20, _⟩ => ⟨S1x1024, .f32⟩
  | .hbm, ⟨21, _⟩ => ⟨S32768x1024, .f32⟩
  | .local _ .vmem, ⟨0, _⟩ => ⟨S1024x1024, .f32⟩
  | .local _ .vmem, ⟨1, _⟩ => ⟨S1024x1024, .f32⟩
  | .local _ .vmem, ⟨2, _⟩ => ⟨S1024x4096, .bf16⟩
  | .local _ .vmem, ⟨3, _⟩ => ⟨S1x4096, .f32⟩
  | .local _ .vmem, ⟨4, _⟩ => ⟨S1x2048, .f32⟩
  | .local _ .vmem, ⟨5, _⟩ => ⟨S1x2048, .f32⟩
  | .local _ .vmem, ⟨6, _⟩ => ⟨S16x128x128, .bf16⟩
  | .local _ .vmem, ⟨7, _⟩ => ⟨S16x128x128, .f32⟩
  | .local _ .vmem, ⟨8, _⟩ => ⟨S2048x1024, .bf16⟩
  | .local _ .vmem, ⟨9, _⟩ => ⟨S1x1024, .f32⟩
  | .local _ .vmem, ⟨10, _⟩ => ⟨S1x1024, .f32⟩
  | .local _ .vmem, ⟨11, _⟩ => ⟨S1024x1024, .f32⟩
  | .local _ .vmem, ⟨12, _⟩ => ⟨S1024x1024, .f32⟩
  | .local _ .vmem, ⟨13, _⟩ => ⟨S1024x2048, .bf16⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1024x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== KernelIdeal.lean ====
variable {F : FTy → Type} [FloatOps F] [Named F]
def κ : String → Option EReal := fun
  | "gelu_cubic" => some ((80338380498831 / 2251799813685248 : ℝ) : EReal)
  | _ => none
-- ==== ReferenceIdeal.lean ====
abbrev S8x4096x1024 : Shape := ⟨3, ![8, 4096, 1024]⟩
abbrev S1024x4096 : Shape := ⟨2, ![1024, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S2048x1024 : Shape := ⟨2, ![2048, 1024]⟩
abbrev S1024 : Shape := ⟨1, ![1024]⟩
abbrev S8x4096x4096 : Shape := ⟨3, ![8, 4096, 4096]⟩
abbrev S1x1x4096 : Shape := ⟨3, ![1, 1, 4096]⟩
abbrev S_ : Shape := ⟨0, ![]⟩
abbrev S8x4096x2048 : Shape := ⟨3, ![8, 4096, 2048]⟩
abbrev S8x4096 : Shape := ⟨2, ![8, 4096]⟩
abbrev S8x4096x1 : Shape := ⟨3, ![8, 4096, 1]⟩
abbrev S1x1x2048 : Shape := ⟨3, ![1, 1, 2048]⟩
abbrev S128x128 : Shape := ⟨2, ![128, 128]⟩
abbrev S1x128x128 : Shape := ⟨3, ![1, 128, 128]⟩
abbrev S8x32x128x16x128 : Shape := ⟨5, ![8, 32, 128, 16, 128]⟩
abbrev S16x8x32x128x128 : Shape := ⟨5, ![16, 8, 32, 128, 128]⟩
abbrev S128x16 : Shape := ⟨2, ![128, 16]⟩
abbrev S1x1x128x16x1 : Shape := ⟨5, ![1, 1, 128, 16, 1]⟩
abbrev S1x1x1024 : Shape := ⟨3, ![1, 1, 1024]⟩
abbrev S32768x1024 : Shape := ⟨2, ![32768, 1024]⟩

abbrev nBuf : Space → Nat
  | .hbm => 122
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x4096, .f32⟩
  | .hbm, ⟨2, _⟩ => ⟨S4096, .f32⟩
  | .hbm, ⟨3, _⟩ => ⟨S2048, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S2048x1024, .f32⟩
  | .hbm, ⟨8, _⟩ => ⟨S1024, .f32⟩
  | .hbm, ⟨9, _⟩ => ⟨S1024, .f32⟩
  | .hbm, ⟨10, _⟩ => ⟨S8x4096x4096, .f32⟩
  | .hbm, ⟨11, _⟩ => ⟨S1x1x4096, .f32⟩
  | .hbm, ⟨12, _⟩ => ⟨S8x4096x4096, .f32⟩
  | .hbm, ⟨13, _⟩ => ⟨S8x4096x4096, .f32⟩
  | .hbm, ⟨14, _⟩ => ⟨S8x4096x4096, .f32⟩
  | .hbm, ⟨15, _⟩ => ⟨S8x4096x4096, .f32⟩
  | .hbm, ⟨16, _⟩ => ⟨S_, .f32⟩
  | .hbm, ⟨17, _⟩ => ⟨S8x4096x4096, .f32⟩
  | .hbm, ⟨18, _⟩ => ⟨S8x4096x4096, .f32⟩
  | .hbm, ⟨19, _⟩ => ⟨S8x4096x4096, .f32⟩
  | .hbm, ⟨20, _⟩ => ⟨S_, .f32⟩
  | .hbm, ⟨21, _⟩ => ⟨S8x4096x4096, .f32⟩
  | .hbm, ⟨22, _⟩ => ⟨S8x4096x4096, .f32⟩
  | .hbm, ⟨23, _⟩ => ⟨S8x4096x4096, .f32⟩
  | .hbm, ⟨24, _⟩ => ⟨S_, .f32⟩
  | .hbm, ⟨25, _⟩ => ⟨S8x4096x4096, .f32⟩
  | .hbm, ⟨26, _⟩ => ⟨S8x4096x4096, .f32⟩
  | .hbm, ⟨27, _⟩ => ⟨S_, .f32⟩
  | .hbm, ⟨28, _⟩ => ⟨S8x4096x4096, .f32⟩
  | .hbm, ⟨29, _⟩ => ⟨S8x4096x4096, .f32⟩
  | .hbm, ⟨30, _⟩ => ⟨S8x4096x4096, .f32⟩
  | .hbm, ⟨31, _⟩ => ⟨S8x4096x2048, .f32⟩
  | .hbm, ⟨32, _⟩ => ⟨S8x4096x2048, .f32⟩
  | .hbm, ⟨33, _⟩ => ⟨S_, .f32⟩
  | .hbm, ⟨34, _⟩ => ⟨S8x4096, .f32⟩
  | .hbm, ⟨35, _⟩ => ⟨S8x4096x1, .f32⟩
  | .hbm, ⟨36, _⟩ => ⟨S_, .f32⟩
  | .hbm, ⟨37, _⟩ => ⟨S8x4096x1, .f32⟩
  | .hbm, ⟨38, _⟩ => ⟨S8x4096x1, .f32⟩
  | .hbm, ⟨39, _⟩ => ⟨S8x4096x2048, .f32⟩
  | .hbm, ⟨40, _⟩ => ⟨S8x4096x2048, .f32⟩
  | .hbm, ⟨41, _⟩ => ⟨S8x4096x2048, .f32⟩
  | .hbm, ⟨42, _⟩ => ⟨S_, .f32⟩
  | .hbm, ⟨43, _⟩ => ⟨S8x4096, .f32⟩
  | .hbm, ⟨44, _⟩ => ⟨S8x4096x1, .f32⟩
  | .hbm, ⟨45, _⟩ => ⟨S_, .f32⟩
  | .hbm, ⟨46, _⟩ => ⟨S8x4096x1, .f32⟩
  | .hbm, ⟨47, _⟩ => ⟨S8x4096x1, .f32⟩
  | .hbm, ⟨48, _⟩ => ⟨S8x4096x2048, .f32⟩
  | .hbm, ⟨49, _⟩ => ⟨S8x4096x2048, .f32⟩
  | .hbm, ⟨50, _⟩ => ⟨S_, .f32⟩
  | .hbm, ⟨51, _⟩ => ⟨S8x4096x1, .f32⟩
  | .hbm, ⟨52, _⟩ => ⟨S8x4096x1, .f32⟩
  | .hbm, ⟨53, _⟩ => ⟨S8x4096x1, .f32⟩
  | .hbm, ⟨54, _⟩ => ⟨S8x4096x2048, .f32⟩
  | .hbm, ⟨55, _⟩ => ⟨S8x4096x2048, .f32⟩
  | .hbm, ⟨56, _⟩ => ⟨S1x1x2048, .f32⟩
  | .hbm, ⟨57, _⟩ => ⟨S8x4096x2048, .f32⟩
  | .hbm, ⟨58, _⟩ => ⟨S8x4096x2048, .f32⟩
  | .hbm, ⟨59, _⟩ => ⟨S1x1x2048, .f32⟩
  | .hbm, ⟨60, _⟩ => ⟨S8x4096x2048, .f32⟩
  | .hbm, ⟨61, _⟩ => ⟨S8x4096x2048, .f32⟩
  | .hbm, ⟨62, _⟩ => ⟨S_, .i1⟩
  | .hbm, ⟨63, _⟩ => ⟨S128x128, .i1⟩
  | .hbm, ⟨64, _⟩ => ⟨S128x128, .i32⟩
  | .hbm, ⟨65, _⟩ => ⟨S_, .i32⟩
  | .hbm, ⟨66, _⟩ => ⟨S128x128, .i32⟩
  | .hbm, ⟨67, _⟩ => ⟨S128x128, .i32⟩
  | .hbm, ⟨68, _⟩ => ⟨S128x128, .i32⟩
  | .hbm, ⟨69, _⟩ => ⟨S128x128, .i1⟩
  | .hbm, ⟨70, _⟩ => ⟨S_, .i1⟩
  | .hbm, ⟨71, _⟩ => ⟨S128x128, .i1⟩
  | .hbm, ⟨72, _⟩ => ⟨S128x128, .i1⟩
  | .hbm, ⟨73, _⟩ => ⟨S1x128x128, .i1⟩
  | .hbm, ⟨74, _⟩ => ⟨S_, .f32⟩
  | .hbm, ⟨75, _⟩ => ⟨S16x128x128, .f32⟩
  | .hbm, ⟨76, _⟩ => ⟨S16x128x128, .i1⟩
  | .hbm, ⟨77, _⟩ => ⟨S16x128x128, .f32⟩
  | .hbm, ⟨78, _⟩ => ⟨S8x32x128x16x128, .f32⟩
  | .hbm, ⟨79, _⟩ => ⟨S16x8x32x128x128, .f32⟩
  | .hbm, ⟨80, _⟩ => ⟨S8x32x128x16x128, .f32⟩
  | .hbm, ⟨81, _⟩ => ⟨S128x16, .f32⟩
  | .hbm, ⟨82, _⟩ => ⟨S1x1x128x16x1, .f32⟩
  | .hbm, ⟨83, _⟩ => ⟨S8x32x128x16x128, .f32⟩
  | .hbm, ⟨84, _⟩ => ⟨S8x32x128x16x128, .f32⟩
  | .hbm, ⟨85, _⟩ => ⟨S8x4096x2048, .f32⟩
  | .hbm, ⟨86, _⟩ => ⟨S8x4096x2048, .f32⟩
  | .hbm, ⟨87, _⟩ => ⟨S8x4096x1024, .f32⟩
  | .hbm, ⟨88, _⟩ => ⟨S_, .f32⟩
  | .hbm, ⟨89, _⟩ => ⟨S8x4096x1024, .f32⟩
  | .hbm, ⟨90, _⟩ => ⟨S8x4096x1024, .f32⟩
  | .hbm, ⟨91, _⟩ => ⟨S8x4096x1024, .f32⟩
  | .hbm, ⟨92, _⟩ => ⟨S_, .f32⟩
  | .hbm, ⟨93, _⟩ => ⟨S8x4096, .f32⟩
  | .hbm, ⟨94, _⟩ => ⟨S8x4096x1, .f32⟩
  | .hbm, ⟨95, _⟩ => ⟨S_, .f32⟩
  | .hbm, ⟨96, _⟩ => ⟨S8x4096x1, .f32⟩
  | .hbm, ⟨97, _⟩ => ⟨S8x4096x1, .f32⟩
  | .hbm, ⟨98, _⟩ => ⟨S8x4096x1024, .f32⟩
  | .hbm, ⟨99, _⟩ => ⟨S8x4096x1024, .f32⟩
  | .hbm, ⟨100, _⟩ => ⟨S8x4096x1024, .f32⟩
  | .hbm, ⟨101, _⟩ => ⟨S_, .f32⟩
  | .hbm, ⟨102, _⟩ => ⟨S8x4096, .f32⟩
  | .hbm, ⟨103, _⟩ => ⟨S8x4096x1, .f32⟩
  | .hbm, ⟨104, _⟩ => ⟨S_, .f32⟩
  | .hbm, ⟨105, _⟩ => ⟨S8x4096x1, .f32⟩
  | .hbm, ⟨106, _⟩ => ⟨S8x4096x1, .f32⟩
  | .hbm, ⟨107, _⟩ => ⟨S8x4096x1024, .f32⟩
  | .hbm, ⟨108, _⟩ => ⟨S8x4096x1024, .f32⟩
  | .hbm, ⟨109, _⟩ => ⟨S_, .f32⟩
  | .hbm, ⟨110, _⟩ => ⟨S8x4096x1, .f32⟩
  | .hbm, ⟨111, _⟩ => ⟨S8x4096x1, .f32⟩
  | .hbm, ⟨112, _⟩ => ⟨S8x4096x1, .f32⟩
  | .hbm, ⟨113, _⟩ => ⟨S8x4096x1024, .f32⟩
  | .hbm, ⟨114, _⟩ => ⟨S8x4096x1024, .f32⟩
  | .hbm, ⟨115, _⟩ => ⟨S1x1x1024, .f32⟩
  | .hbm, ⟨116, _⟩ => ⟨S8x4096x1024, .f32⟩
  | .hbm, ⟨117, _⟩ => ⟨S8x4096x1024, .f32⟩
  | .hbm, ⟨118, _⟩ => ⟨S1x1x1024, .f32⟩
  | .hbm, ⟨119, _⟩ => ⟨S8x4096x1024, .f32⟩
  | .hbm, ⟨120, _⟩ => ⟨S8x4096x1024, .f32⟩
  | .hbm, ⟨121, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst_1 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_cst_5 : Ref sig .tc := ⟨.hbm, 42, rfl⟩
abbrev main_v26 : Ref sig .tc := ⟨.hbm, 43, rfl⟩
abbrev main_v27 : Ref sig .tc := ⟨.hbm, 44, rfl⟩
abbrev main_cst_6 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_cst_7 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_c : Ref sig .tc := ⟨.hbm, 62, rfl⟩
abbrev main_v43 : Ref sig .tc := ⟨.hbm, 63, rfl⟩
abbrev main_call0_v0 : Ref sig .tc := ⟨.hbm, 64, rfl⟩
abbrev main_call0_c : Ref sig .tc := ⟨.hbm, 65, rfl⟩
abbrev main_call0_v1 : Ref sig .tc := ⟨.hbm, 66, rfl⟩
abbrev main_call0_v2 : Ref sig .tc := ⟨.hbm, 67, rfl⟩
abbrev main_call0_v3 : Ref sig .tc := ⟨.hbm, 68, rfl⟩
abbrev main_call0_v4 : Ref sig .tc := ⟨.hbm, 69, rfl⟩
abbrev main_call0_c_0 : Ref sig .tc := ⟨.hbm, 70, rfl⟩
abbrev main_call0_v5 : Ref sig .tc := ⟨.hbm, 71, rfl⟩
abbrev main_v44 : Ref sig .tc := ⟨.hbm, 72, rfl⟩
abbrev main_v45 : Ref sig .tc := ⟨.hbm, 73, rfl⟩
abbrev main_cst_8 : Ref sig .tc := ⟨.hbm, 74, rfl⟩
abbrev main_v46 : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_9 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_10 : Ref sig .tc := ⟨.hbm, 92, rfl⟩
abbrev main_v61 : Ref sig .tc := ⟨.hbm, 93, rfl⟩
abbrev main_v62 : Ref sig .tc := ⟨.hbm, 94, rfl⟩
abbrev main_cst_11 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_cst_12 : Ref sig .tc := ⟨.hbm, 101, rfl⟩
abbrev main_v68 : Ref sig .tc := ⟨.hbm, 102, rfl⟩
abbrev main_v69 : Ref sig .tc := ⟨.hbm, 103, rfl⟩
abbrev main_cst_13 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_v73 : Ref sig .tc := ⟨.hbm, 108, rfl⟩
abbrev main_cst_14 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩

abbrev nD : Nat := 1
abbrev τ : Topo := Topo.v7x

variable {F : FTy → Type} [FloatOps F]
-- ==== Ffn.lean ====
abbrev S8x4096x1024 : Shape := ⟨3, ![8, 4096, 1024]⟩
abbrev S1024x5632 : Shape := ⟨2, ![1024, 5632]⟩
abbrev S2816x1024 : Shape := ⟨2, ![2816, 1024]⟩
abbrev S1024 : Shape := ⟨1, ![1024]⟩
abbrev S32768x1024 : Shape := ⟨2, ![32768, 1024]⟩
abbrev S1x1024 : Shape := ⟨2, ![1, 1024]⟩
abbrev S512x1024 : Shape := ⟨2, ![512, 1024]⟩
abbrev S1024x256 : Shape := ⟨2, ![1024, 256]⟩
abbrev S512x256 : Shape := ⟨2, ![512, 256]⟩
abbrev S256x1024 : Shape := ⟨2, ![256, 1024]⟩
abbrev S512 : Shape := ⟨1, ![512]⟩
abbrev S512x1 : Shape := ⟨2, ![512, 1]⟩

abbrev nBuf : Space → Nat
  | .hbm => 11
  | .vmem => 9
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S32768x1024, .f32⟩
  | .hbm, ⟨6, _⟩ => ⟨S1024x5632, .bf16⟩
  | .hbm, ⟨7, _⟩ => ⟨S2816x1024, .bf16⟩
  | .hbm, ⟨8, _⟩ => ⟨S1x1024, .f32⟩
  | .hbm, ⟨9, _⟩ => ⟨S1x1024, .f32⟩
  | .hbm, ⟨10, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1024x5632, .bf16⟩
  | .local _ .vmem, ⟨3, _⟩ => ⟨S2816x1024, .bf16⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== FfnRefIdeal.lean ====
abbrev S8x4096x1024 : Shape := ⟨3, ![8, 4096, 1024]⟩
abbrev S1024x5632 : Shape := ⟨2, ![1024, 5632]⟩
abbrev S2816x1024 : Shape := ⟨2, ![2816, 1024]⟩
abbrev S1024 : Shape := ⟨1, ![1024]⟩
abbrev S_ : Shape := ⟨0, ![]⟩
abbrev S8x4096x5632 : Shape := ⟨3, ![8, 4096, 5632]⟩
abbrev S8x4096x2816 : Shape := ⟨3, ![8, 4096, 2816]⟩
abbrev S8x4096 : Shape := ⟨2, ![8, 4096]⟩
abbrev S8x4096x1 : Shape := ⟨3, ![8, 4096, 1]⟩
abbrev S1x1x1024 : Shape := ⟨3, ![1, 1, 1024]⟩
abbrev S32768x1024 : Shape := ⟨2, ![32768, 1024]⟩

abbrev nBuf : Space → Nat
  | .hbm => 53
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S_, .f32⟩
  | .hbm, ⟨6, _⟩ => ⟨S8x4096x1024, .f32⟩
  | .hbm, ⟨7, _⟩ => ⟨S8x4096x1024, .f32⟩
  | .hbm, ⟨8, _⟩ => ⟨S8x4096x5632, .f32⟩
  | .hbm, ⟨9, _⟩ => ⟨S8x4096x2816, .f32⟩
  | .hbm, ⟨10, _⟩ => ⟨S8x4096x2816, .f32⟩
  | .hbm, ⟨11, _⟩ => ⟨S8x4096x2816, .f32⟩
  | .hbm, ⟨12, _⟩ => ⟨S8x4096x2816, .f32⟩
  | .hbm, ⟨13, _⟩ => ⟨S_, .f32⟩
  | .hbm, ⟨14, _⟩ => ⟨S8x4096x2816, .f32⟩
  | .hbm, ⟨15, _⟩ => ⟨S8x4096x2816, .f32⟩
  | .hbm, ⟨16, _⟩ => ⟨S_, .f32⟩
  | .hbm, ⟨17, _⟩ => ⟨S8x4096x2816, .f32⟩
  | .hbm, ⟨18, _⟩ => ⟨S8x4096x2816, .f32⟩
  | .hbm, ⟨19, _⟩ => ⟨S8x4096x2816, .f32⟩
  | .hbm, ⟨20, _⟩ => ⟨S8x4096x2816, .f32⟩
  | .hbm, ⟨21, _⟩ => ⟨S8x4096x1024, .f32⟩
  | .hbm, ⟨22, _⟩ => ⟨S8x4096x1024, .f32⟩
  | .hbm, ⟨23, _⟩ => ⟨S_, .f32⟩
  | .hbm, ⟨24, _⟩ => ⟨S8x4096, .f32⟩
  | .hbm, ⟨25, _⟩ => ⟨S8x4096x1, .f32⟩
  | .hbm, ⟨26, _⟩ => ⟨S_, .f32⟩
  | .hbm, ⟨27, _⟩ => ⟨S8x4096x1, .f32⟩
  | .hbm, ⟨28, _⟩ => ⟨S8x4096x1, .f32⟩
  | .hbm, ⟨29, _⟩ => ⟨S8x4096x1024, .f32⟩
  | .hbm, ⟨30, _⟩ => ⟨S8x4096x1024, .f32⟩
  | .hbm, ⟨31, _⟩ => ⟨S8x4096x1024, .f32⟩
  | .hbm, ⟨32, _⟩ => ⟨S_, .f32⟩
  | .hbm, ⟨33, _⟩ => ⟨S8x4096, .f32⟩
  | .hbm, ⟨34, _⟩ => ⟨S8x4096x1, .f32⟩
  | .hbm, ⟨35, _⟩ => ⟨S_, .f32⟩
  | .hbm, ⟨36, _⟩ => ⟨S8x4096x1, .f32⟩
  | .hbm, ⟨37, _⟩ => ⟨S8x4096x1, .f32⟩
  | .hbm, ⟨38, _⟩ => ⟨S8x4096x1024, .f32⟩
  | .hbm, ⟨39, _⟩ => ⟨S8x4096x1024, .f32⟩
  | .hbm, ⟨40, _⟩ => ⟨S_, .f32⟩
  | .hbm, ⟨41, _⟩ => ⟨S8x4096x1, .f32⟩
  | .hbm, ⟨42, _⟩ => ⟨S8x4096x1, .f32⟩
  | .hbm, ⟨43, _⟩ => ⟨S8x4096x1, .f32⟩
  | .hbm, ⟨44, _⟩ => ⟨S8x4096x1024, .f32⟩
  | .hbm, ⟨45, _⟩ => ⟨S8x4096x1024, .f32⟩
  | .hbm, ⟨46, _⟩ => ⟨S1x1x1024, .f32⟩
  | .hbm, ⟨47, _⟩ => ⟨S8x4096x1024, .f32⟩
  | .hbm, ⟨48, _⟩ => ⟨S8x4096x1024, .f32⟩
  | .hbm, ⟨49, _⟩ => ⟨S1x1x1024, .f32⟩
  | .hbm, ⟨50, _⟩ => ⟨S8x4096x1024, .f32⟩
  | .hbm, ⟨51, _⟩ => ⟨S8x4096x1024, .f32⟩
  | .hbm, ⟨52, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_cst_0 : Ref sig .tc := ⟨.hbm, 23, rfl⟩
abbrev main_v9 : Ref sig .tc := ⟨.hbm, 24, rfl⟩
abbrev main_v10 : Ref sig .tc := ⟨.hbm, 25, rfl⟩
abbrev main_cst_1 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_2 : Ref sig .tc := ⟨.hbm, 32, rfl⟩
abbrev main_v16 : Ref sig .tc := ⟨.hbm, 33, rfl⟩
abbrev main_v17 : Ref sig .tc := ⟨.hbm, 34, rfl⟩
abbrev main_cst_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩

abbrev nD : Nat := 1
abbrev τ : Topo := Topo.v7x

variable {F : FTy → Type} [FloatOps F]
-- ==== Mix.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S32768x1024 : Shape := ⟨2, ![32768, 1024]⟩
abbrev S1x1024 : Shape := ⟨2, ![1, 1024]⟩
abbrev S512x1024 : Shape := ⟨2, ![512, 1024]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S256x1024 : Shape := ⟨2, ![256, 1024]⟩

abbrev nBuf : Space → Nat
  | .hbm => 21
  | .vmem => 16
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S32768x1024, .f32⟩
  | .hbm, ⟨11, _⟩ => ⟨S32768x1024, .f32⟩
  | .hbm, ⟨12, _⟩ => ⟨S1024x1024, .bf16⟩
  | .hbm, ⟨13, _⟩ => ⟨S1x1024, .f32⟩
  | .hbm, ⟨14, _⟩ => ⟨S1x1024, .f32⟩
  | .hbm, ⟨15, _⟩ => ⟨S32768x1024, .f32⟩
  | .hbm, ⟨16, _⟩ => ⟨S1024x5632, .bf16⟩
  | .hbm, ⟨17, _⟩ => ⟨S2816x1024, .bf16⟩
  | .hbm, ⟨18, _⟩ => ⟨S1x1024, .f32⟩
  | .hbm, ⟨19, _⟩ => ⟨S1x1024, .f32⟩
  | .hbm, ⟨20, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1x1024, .f32⟩
  | .local _ .vmem, ⟨8, _⟩ => ⟨S1x1024, .f32⟩
  | .local _ .vmem, ⟨9, _⟩ => ⟨S1024x5632, .bf16⟩
  | .local _ .vmem, ⟨10, _⟩ => ⟨S2816x1024, .bf16⟩
  | .local _ .vmem, ⟨11, _⟩ => ⟨S1x1024, .f32⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg10_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem10_1 : DmaSem sig := 14

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x5632 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2816x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== MixRefIdeal.lean ====
abbrev S8x4096x1024 : Shape := ⟨3, ![8, 4096, 1024]⟩
abbrev S1024x1024 : Shape := ⟨2, ![1024, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S8x4096 : Shape := ⟨2, ![8, 4096]⟩
abbrev S8x4096x1 : Shape := ⟨3, ![8, 4096, 1]⟩
abbrev S1x1x1024 : Shape := ⟨3, ![1, 1, 1024]⟩
abbrev S8x4096x5632 : Shape := ⟨3, ![8, 4096, 5632]⟩
abbrev S8x4096x2816 : Shape := ⟨3, ![8, 4096, 2816]⟩
abbrev S32768x1024 : Shape := ⟨2, ![32768, 1024]⟩

abbrev nBuf : Space → Nat
  | .hbm => 93
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S8x4096x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x5632, .f32⟩
  | .hbm, ⟨7, _⟩ => ⟨S2816x1024, .f32⟩
  | .hbm, ⟨8, _⟩ => ⟨S1024, .f32⟩
  | .hbm, ⟨9, _⟩ => ⟨S1024, .f32⟩
  | .hbm, ⟨10, _⟩ => ⟨S8x4096x1024, .f32⟩
  | .hbm, ⟨11, _⟩ => ⟨S8x4096x1024, .f32⟩
  | .hbm, ⟨12, _⟩ => ⟨S_, .f32⟩
  | .hbm, ⟨13, _⟩ => ⟨S8x4096x1024, .f32⟩
  | .hbm, ⟨14, _⟩ => ⟨S8x4096x1024, .f32⟩
  | .hbm, ⟨15, _⟩ => ⟨S8x4096x1024, .f32⟩
  | .hbm, ⟨16, _⟩ => ⟨S_, .f32⟩
  | .hbm, ⟨17, _⟩ => ⟨S8x4096, .f32⟩
  | .hbm, ⟨18, _⟩ => ⟨S8x4096x1, .f32⟩
  | .hbm, ⟨19, _⟩ => ⟨S_, .f32⟩
  | .hbm, ⟨20, _⟩ => ⟨S8x4096x1, .f32⟩
  | .hbm, ⟨21, _⟩ => ⟨S8x4096x1, .f32⟩
  | .hbm, ⟨22, _⟩ => ⟨S8x4096x1024, .f32⟩
  | .hbm, ⟨23, _⟩ => ⟨S8x4096x1024, .f32⟩
  | .hbm, ⟨24, _⟩ => ⟨S8x4096x1024, .f32⟩
  | .hbm, ⟨25, _⟩ => ⟨S_, .f32⟩
  | .hbm, ⟨26, _⟩ => ⟨S8x4096, .f32⟩
  | .hbm, ⟨27, _⟩ => ⟨S8x4096x1, .f32⟩
  | .hbm, ⟨28, _⟩ => ⟨S_, .f32⟩
  | .hbm, ⟨29, _⟩ => ⟨S8x4096x1, .f32⟩
  | .hbm, ⟨30, _⟩ => ⟨S8x4096x1, .f32⟩
  | .hbm, ⟨31, _⟩ => ⟨S8x4096x1024, .f32⟩
  | .hbm, ⟨32, _⟩ => ⟨S8x4096x1024, .f32⟩
  | .hbm, ⟨33, _⟩ => ⟨S_, .f32⟩
  | .hbm, ⟨34, _⟩ => ⟨S8x4096x1, .f32⟩
  | .hbm, ⟨35, _⟩ => ⟨S8x4096x1, .f32⟩
  | .hbm, ⟨36, _⟩ => ⟨S8x4096x1, .f32⟩
  | .hbm, ⟨37, _⟩ => ⟨S8x4096x1024, .f32⟩
  | .hbm, ⟨38, _⟩ => ⟨S8x4096x1024, .f32⟩
  | .hbm, ⟨39, _⟩ => ⟨S1x1x1024, .f32⟩
  | .hbm, ⟨40, _⟩ => ⟨S8x4096x1024, .f32⟩
  | .hbm, ⟨41, _⟩ => ⟨S8x4096x1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S_, .f32⟩
  | .hbm, ⟨46, _⟩ => ⟨S8x4096x1024, .f32⟩
  | .hbm, ⟨47, _⟩ => ⟨S8x4096x1024, .f32⟩
  | .hbm, ⟨48, _⟩ => ⟨S8x4096x5632, .f32⟩
  | .hbm, ⟨49, _⟩ => ⟨S8x4096x2816, .f32⟩
  | .hbm, ⟨50, _⟩ => ⟨S8x4096x2816, .f32⟩
  | .hbm, ⟨51, _⟩ => ⟨S8x4096x2816, .f32⟩
  | .hbm, ⟨52, _⟩ => ⟨S8x4096x2816, .f32⟩
  | .hbm, ⟨53, _⟩ => ⟨S_, .f32⟩
  | .hbm, ⟨54, _⟩ => ⟨S8x4096x2816, .f32⟩
  | .hbm, ⟨55, _⟩ => ⟨S8x4096x2816, .f32⟩
  | .hbm, ⟨56, _⟩ => ⟨S_, .f32⟩
  | .hbm, ⟨57, _⟩ => ⟨S8x4096x2816, .f32⟩
  | .hbm, ⟨58, _⟩ => ⟨S8x4096x2816, .f32⟩
  | .hbm, ⟨59, _⟩ => ⟨S8x4096x2816, .f32⟩
  | .hbm, ⟨60, _⟩ => ⟨S8x4096x2816, .f32⟩
  | .hbm, ⟨61, _⟩ => ⟨S8x4096x1024, .f32⟩
  | .hbm, ⟨62, _⟩ => ⟨S8x4096x1024, .f32⟩
  | .hbm, ⟨63, _⟩ => ⟨S_, .f32⟩
  | .hbm, ⟨64, _⟩ => ⟨S8x4096, .f32⟩
  | .hbm, ⟨65, _⟩ => ⟨S8x4096x1, .f32⟩
  | .hbm, ⟨66, _⟩ => ⟨S_, .f32⟩
  | .hbm, ⟨67, _⟩ => ⟨S8x4096x1, .f32⟩
  | .hbm, ⟨68, _⟩ => ⟨S8x4096x1, .f32⟩
  | .hbm, ⟨69, _⟩ => ⟨S8x4096x1024, .f32⟩
  | .hbm, ⟨70, _⟩ => ⟨S8x4096x1024, .f32⟩
  | .hbm, ⟨71, _⟩ => ⟨S8x4096x1024, .f32⟩
  | .hbm, ⟨72, _⟩ => ⟨S_, .f32⟩
  | .hbm, ⟨73, _⟩ => ⟨S8x4096, .f32⟩
  | .hbm, ⟨74, _⟩ => ⟨S8x4096x1, .f32⟩
  | .hbm, ⟨75, _⟩ => ⟨S_, .f32⟩
  | .hbm, ⟨76, _⟩ => ⟨S8x4096x1, .f32⟩
  | .hbm, ⟨77, _⟩ => ⟨S8x4096x1, .f32⟩
  | .hbm, ⟨78, _⟩ => ⟨S8x4096x1024, .f32⟩
  | .hbm, ⟨79, _⟩ => ⟨S8x4096x1024, .f32⟩
  | .hbm, ⟨80, _⟩ => ⟨S_, .f32⟩
  | .hbm, ⟨81, _⟩ => ⟨S8x4096x1, .f32⟩
  | .hbm, ⟨82, _⟩ => ⟨S8x4096x1, .f32⟩
  | .hbm, ⟨83, _⟩ => ⟨S8x4096x1, .f32⟩
  | .hbm, ⟨84, _⟩ => ⟨S8x4096x1024, .f32⟩
  | .hbm, ⟨85, _⟩ => ⟨S8x4096x1024, .f32⟩
  | .hbm, ⟨86, _⟩ => ⟨S1x1x1024, .f32⟩
  | .hbm, ⟨87, _⟩ => ⟨S8x4096x1024, .f32⟩
  | .hbm, ⟨88, _⟩ => ⟨S8x4096x1024, .f32⟩
  | .hbm, ⟨89, _⟩ => ⟨S1x1x1024, .f32⟩
  | .hbm, ⟨90, _⟩ => ⟨S8x4096x1024, .f32⟩
  | .hbm, ⟨91, _⟩ => ⟨S8x4096x1024, .f32⟩
  | .hbm, ⟨92, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_cst : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_cst_0 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_2 : Ref sig .tc := ⟨.hbm, 25, rfl⟩
abbrev main_v12 : Ref sig .tc := ⟨.hbm, 26, rfl⟩
abbrev main_v13 : Ref sig .tc := ⟨.hbm, 27, rfl⟩
abbrev main_cst_3 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_4 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_call0_v0 : Ref sig .tc := ⟨.hbm, 51, rfl⟩
abbrev main_call0_v1 : Ref sig .tc := ⟨.hbm, 52, rfl⟩
abbrev main_call0_cst : Ref sig .tc := ⟨.hbm, 53, rfl⟩
abbrev main_call0_v2 : Ref sig .tc := ⟨.hbm, 54, rfl⟩
abbrev main_call0_v3 : Ref sig .tc := ⟨.hbm, 55, rfl⟩
abbrev main_call0_cst_0 : Ref sig .tc := ⟨.hbm, 56, rfl⟩
abbrev main_call0_v4 : Ref sig .tc := ⟨.hbm, 57, rfl⟩
abbrev main_call0_v5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_cst_6 : Ref sig .tc := ⟨.hbm, 63, rfl⟩
abbrev main_v38 : Ref sig .tc := ⟨.hbm, 64, rfl⟩
abbrev main_v39 : Ref sig .tc := ⟨.hbm, 65, rfl⟩
abbrev main_cst_7 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_cst_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩

abbrev nD : Nat := 1
abbrev τ : Topo := Topo.v7x

variable {F : FTy → Type} [FloatOps F]
-- ==== Pre.lean ====
abbrev S8x4096x1024 : Shape := ⟨3, ![8, 4096, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S32768x1024 : Shape := ⟨2, ![32768, 1024]⟩
abbrev S1x1024 : Shape := ⟨2, ![1, 1024]⟩
abbrev S512x1024 : Shape := ⟨2, ![512, 1024]⟩
abbrev S8x1024 : Shape := ⟨2, ![8, 1024]⟩
abbrev S1x1024x1024 : Shape := ⟨3, ![1, 1024, 1024]⟩
abbrev S1024x1024 : Shape := ⟨2, ![1024, 1024]⟩
abbrev S512x64 : Shape := ⟨2, ![512, 64]⟩
abbrev S1x256 : Shape := ⟨2, ![1, 256]⟩
abbrev S64x256 : Shape := ⟨2, ![64, 256]⟩
abbrev S512x256 : Shape := ⟨2, ![512, 256]⟩
abbrev S1x1024x256 : Shape := ⟨3, ![1, 1024, 256]⟩
abbrev S1024x256 : Shape := ⟨2, ![1024, 256]⟩
abbrev S512x160 : Shape := ⟨2, ![512, 160]⟩

abbrev nBuf : Space → Nat
  | .hbm => 27
  | .vmem => 26
  | .smem => 0
  | _ => 0

abbrev bufTy : (tb : Table) → Fin (tcTables nBuf tb) → BufTy
  | .hbm, ⟨0, _⟩ => ⟨S8x4096x1024, .f32⟩
  | .hbm, ⟨1, _⟩ => ⟨S6x1024, .f32⟩
  | .hbm, ⟨2, _⟩ => ⟨S3x1024x1024, .f32⟩
  | .hbm, ⟨3, _⟩ => ⟨S1024, .f32⟩
  | .hbm, ⟨4, _⟩ => ⟨S1024x64, .f32⟩
  | .hbm, ⟨5, _⟩ => ⟨S64x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024x160, .f32⟩
  | .hbm, ⟨10, _⟩ => ⟨S160x1024, .f32⟩
  | .hbm, ⟨11, _⟩ => ⟨S32768x1024, .f32⟩
  | .hbm, ⟨12, _⟩ => ⟨S3x1024x1024, .bf16⟩
  | .hbm, ⟨13, _⟩ => ⟨S1x1024, .f32⟩
  | .hbm, ⟨14, _⟩ => ⟨S1024x64, .bf16⟩
  | .hbm, ⟨15, _⟩ => ⟨S64x1024, .bf16⟩
  | .hbm, ⟨16, _⟩ => ⟨S1x1024, .f32⟩
  | .hbm, ⟨17, _⟩ => ⟨S1024x64, .bf16⟩
  | .hbm, ⟨18, _⟩ => ⟨S64x1024, .bf16⟩
  | .hbm, ⟨19, _⟩ => ⟨S1024x160, .bf16⟩
  | .hbm, ⟨20, _⟩ => ⟨S160x1024, .bf16⟩
  | .hbm, ⟨21, _⟩ => ⟨S32768x1024, .f32⟩
  | .hbm, ⟨22, _⟩ => ⟨S32768x1024, .f32⟩
  | .hbm, ⟨23, _⟩ => ⟨S32768x1024, .f32⟩
  | .hbm, ⟨24, _⟩ => ⟨S32768x1024, .f32⟩
  | .hbm, ⟨25, _⟩ => ⟨S32768x1024, .f32⟩
  | .hbm, ⟨26, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S6x1024, .f32⟩
  | .local _ .vmem, ⟨5, _⟩ => ⟨S3x1024x1024, .bf16⟩
  | .local _ .vmem, ⟨6, _⟩ => ⟨S1x1024, .f32⟩
  | .local _ .vmem, ⟨7, _⟩ => ⟨S1024x64, .bf16⟩
  | .local _ .vmem, ⟨8, _⟩ => ⟨S64x1024, .bf16⟩
  | .local _ .vmem, ⟨9, _⟩ => ⟨S1x1024, .f32⟩
  | .local _ .vmem, ⟨10, _⟩ => ⟨S1024x64, .bf16⟩
  | .local _ .vmem, ⟨11, _⟩ => ⟨S64x1024, .bf16⟩
  | .local _ .vmem, ⟨12, _⟩ => ⟨S1024x160, .bf16⟩
  | .local _ .vmem, ⟨13, _⟩ => ⟨S160x1024, .bf16⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10_0 : Ref sig .tc := ⟨.hbm, 21, rfl⟩
abbrev main_v10_1 : Ref sig .tc := ⟨.hbm, 22, rfl⟩
abbrev main_v10_2 : Ref sig .tc := ⟨.hbm, 23, rfl⟩
abbrev main_v10_3 : Ref sig .tc := ⟨.hbm, 24, rfl⟩
abbrev main_v10_4 : Ref sig .tc := ⟨.hbm, 25, rfl⟩
abbrev main_v10_5 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg12_1 : Ref sig .tc := ⟨.vmem, 15, rfl⟩
abbrev cc0_stg13_0 : Ref sig .tc := ⟨.vmem, 16, rfl⟩
abbrev cc0_stg13_1 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem12_1 : DmaSem sig := 15
abbrev cc0_sem13_0 : DmaSem sig := 16
abbrev cc0_sem13_1 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23
abbrev cc0_sem17_0 : DmaSem sig := 24
abbrev cc0_sem17_1 : DmaSem sig := 25

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x64 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S64x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x64 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S64x1024 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1024x160 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S160x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x1024 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== PreRefIdeal.lean ====
abbrev S8x4096x1024 : Shape := ⟨3, ![8, 4096, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x160 : Shape := ⟨2, ![1024, 160]⟩
abbrev S160x1024 : Shape := ⟨2, ![160, 1024]⟩
abbrev S_ : Shape := ⟨0, ![]⟩
abbrev S8x4097x1024 : Shape := ⟨3, ![8, 4097, 1024]⟩
abbrev S1x1024 : Shape := ⟨2, ![1, 1024]⟩
abbrev S1x1x1024 : Shape := ⟨3, ![1, 1, 1024]⟩
abbrev S1x8x4096x1024 : Shape := ⟨4, ![1, 8, 4096, 1024]⟩
abbrev S3x8x4096x1024 : Shape := ⟨4, ![3, 8, 4096, 1024]⟩
abbrev S8x4096x64 : Shape := ⟨3, ![8, 4096, 64]⟩
abbrev S8x4096x160 : Shape := ⟨3, ![8, 4096, 160]⟩
abbrev S32768x1024 : Shape := ⟨2, ![32768, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S6x1024, .f32⟩
  | .hbm, ⟨2, _⟩ => ⟨S3x1024x1024, .f32⟩
  | .hbm, ⟨3, _⟩ => ⟨S1024, .f32⟩
  | .hbm, ⟨4, _⟩ => ⟨S1024x64, .f32⟩
  | .hbm, ⟨5, _⟩ => ⟨S64x1024, .f32⟩
  | .hbm, ⟨6, _⟩ => ⟨S1024, .f32⟩
  | .hbm, ⟨7, _⟩ => ⟨S1024x64, .f32⟩
  | .hbm, ⟨8, _⟩ => ⟨S64x1024, .f32⟩
  | .hbm, ⟨9, _⟩ => ⟨S1024x160, .f32⟩
  | .hbm, ⟨10, _⟩ => ⟨S160x1024, .f32⟩
  | .hbm, ⟨11, _⟩ => ⟨S_, .i32⟩
  | .hbm, ⟨12, _⟩ => ⟨S_, .f32⟩
  | .hbm, ⟨13, _⟩ => ⟨S8x4097x1024, .f32⟩
  | .hbm, ⟨14, _⟩ => ⟨S8x4096x1024, .f32⟩
  | .hbm, ⟨15, _⟩ => ⟨S8x4096x1024, .f32⟩
  | .hbm, ⟨16, _⟩ => ⟨S1x1024, .f32⟩
  | .hbm, ⟨17, _⟩ => ⟨S1024, .f32⟩
  | .hbm, ⟨18, _⟩ => ⟨S1x1x1024, .f32⟩
  | .hbm, ⟨19, _⟩ => ⟨S8x4096x1024, .f32⟩
  | .hbm, ⟨20, _⟩ => ⟨S8x4096x1024, .f32⟩
  | .hbm, ⟨21, _⟩ => ⟨S8x4096x1024, .f32⟩
  | .hbm, ⟨22, _⟩ => ⟨S1x1024, .f32⟩
  | .hbm, ⟨23, _⟩ => ⟨S1024, .f32⟩
  | .hbm, ⟨24, _⟩ => ⟨S1x1x1024, .f32⟩
  | .hbm, ⟨25, _⟩ => ⟨S8x4096x1024, .f32⟩
  | .hbm, ⟨26, _⟩ => ⟨S8x4096x1024, .f32⟩
  | .hbm, ⟨27, _⟩ => ⟨S8x4096x1024, .f32⟩
  | .hbm, ⟨28, _⟩ => ⟨S1x1024, .f32⟩
  | .hbm, ⟨29, _⟩ => ⟨S1024, .f32⟩
  | .hbm, ⟨30, _⟩ => ⟨S1x1x1024, .f32⟩
  | .hbm, ⟨31, _⟩ => ⟨S8x4096x1024, .f32⟩
  | .hbm, ⟨32, _⟩ => ⟨S8x4096x1024, .f32⟩
  | .hbm, ⟨33, _⟩ => ⟨S8x4096x1024, .f32⟩
  | .hbm, ⟨34, _⟩ => ⟨S1x1024, .f32⟩
  | .hbm, ⟨35, _⟩ => ⟨S1024, .f32⟩
  | .hbm, ⟨36, _⟩ => ⟨S1x1x1024, .f32⟩
  | .hbm, ⟨37, _⟩ => ⟨S8x4096x1024, .f32⟩
  | .hbm, ⟨38, _⟩ => ⟨S8x4096x1024, .f32⟩
  | .hbm, ⟨39, _⟩ => ⟨S8x4096x1024, .f32⟩
  | .hbm, ⟨40, _⟩ => ⟨S1x1024, .f32⟩
  | .hbm, ⟨41, _⟩ => ⟨S1024, .f32⟩
  | .hbm, ⟨42, _⟩ => ⟨S1x1x1024, .f32⟩
  | .hbm, ⟨43, _⟩ => ⟨S8x4096x1024, .f32⟩
  | .hbm, ⟨44, _⟩ => ⟨S8x4096x1024, .f32⟩
  | .hbm, ⟨45, _⟩ => ⟨S8x4096x1024, .f32⟩
  | .hbm, ⟨46, _⟩ => ⟨S1x1024, .f32⟩
  | .hbm, ⟨47, _⟩ => ⟨S1024, .f32⟩
  | .hbm, ⟨48, _⟩ => ⟨S1x1x1024, .f32⟩
  | .hbm, ⟨49, _⟩ => ⟨S8x4096x1024, .f32⟩
  | .hbm, ⟨50, _⟩ => ⟨S8x4096x1024, .f32⟩
  | .hbm, ⟨51, _⟩ => ⟨S8x4096x1024, .f32⟩
  | .hbm, ⟨52, _⟩ => ⟨S1x8x4096x1024, .f32⟩
  | .hbm, ⟨53, _⟩ => ⟨S1x8x4096x1024, .f32⟩
  | .hbm, ⟨54, _⟩ => ⟨S1x8x4096x1024, .f32⟩
  | .hbm, ⟨55, _⟩ => ⟨S3x8x4096x1024, .f32⟩
  | .hbm, ⟨56, _⟩ => ⟨S3x8x4096x1024, .f32⟩
  | .hbm, ⟨57, _⟩ => ⟨S1x8x4096x1024, .f32⟩
  | .hbm, ⟨58, _⟩ => ⟨S8x4096x1024, .f32⟩
  | .hbm, ⟨59, _⟩ => ⟨S1x8x4096x1024, .f32⟩
  | .hbm, ⟨60, _⟩ => ⟨S8x4096x1024, .f32⟩
  | .hbm, ⟨61, _⟩ => ⟨S1x8x4096x1024, .f32⟩
  | .hbm, ⟨62, _⟩ => ⟨S8x4096x1024, .f32⟩
  | .hbm, ⟨63, _⟩ => ⟨S8x4096x64, .f32⟩
  | .hbm, ⟨64, _⟩ => ⟨S8x4096x64, .f32⟩
  | .hbm, ⟨65, _⟩ => ⟨S8x4096x1024, .f32⟩
  | .hbm, ⟨66, _⟩ => ⟨S1x1x1024, .f32⟩
  | .hbm, ⟨67, _⟩ => ⟨S8x4096x1024, .f32⟩
  | .hbm, ⟨68, _⟩ => ⟨S8x4096x1024, .f32⟩
  | .hbm, ⟨69, _⟩ => ⟨S8x4096x1024, .f32⟩
  | .hbm, ⟨70, _⟩ => ⟨S_, .f32⟩
  | .hbm, ⟨71, _⟩ => ⟨S8x4096x1024, .f32⟩
  | .hbm, ⟨72, _⟩ => ⟨S8x4096x1024, .f32⟩
  | .hbm, ⟨73, _⟩ => ⟨S8x4096x1024, .f32⟩
  | .hbm, ⟨74, _⟩ => ⟨S8x4096x1024, .f32⟩
  | .hbm, ⟨75, _⟩ => ⟨S8x4096x1024, .i1⟩
  | .hbm, ⟨76, _⟩ => ⟨S8x4096x1024, .f32⟩
  | .hbm, ⟨77, _⟩ => ⟨S8x4096x1024, .f32⟩
  | .hbm, ⟨78, _⟩ => ⟨S8x4096x1024, .f32⟩
  | .hbm, ⟨79, _⟩ => ⟨S8x4096x1024, .f32⟩
  | .hbm, ⟨80, _⟩ => ⟨S8x4096x1024, .f32⟩
  | .hbm, ⟨81, _⟩ => ⟨S8x4096x1024, .f32⟩
  | .hbm, ⟨82, _⟩ => ⟨S8x4096x1024, .f32⟩
  | .hbm, ⟨83, _⟩ => ⟨S8x4096x1024, .f32⟩
  | .hbm, ⟨84, _⟩ => ⟨S8x4096x1024, .f32⟩
  | .hbm, ⟨85, _⟩ => ⟨S_, .f32⟩
  | .hbm, ⟨86, _⟩ => ⟨S8x4096x1024, .f32⟩
  | .hbm, ⟨87, _⟩ => ⟨S8x4096x1024, .f32⟩
  | .hbm, ⟨88, _⟩ => ⟨S8x4096x64, .f32⟩
  | .hbm, ⟨89, _⟩ => ⟨S8x4096x1024, .f32⟩
  | .hbm, ⟨90, _⟩ => ⟨S1x1x1024, .f32⟩
  | .hbm, ⟨91, _⟩ => ⟨S8x4096x1024, .f32⟩
  | .hbm, ⟨92, _⟩ => ⟨S8x4096x1024, .f32⟩
  | .hbm, ⟨93, _⟩ => ⟨S8x4096x1024, .f32⟩
  | .hbm, ⟨94, _⟩ => ⟨S8x4096x1024, .f32⟩
  | .hbm, ⟨95, _⟩ => ⟨S_, .f32⟩
  | .hbm, ⟨96, _⟩ => ⟨S8x4096x1024, .f32⟩
  | .hbm, ⟨97, _⟩ => ⟨S8x4096x1024, .f32⟩
  | .hbm, ⟨98, _⟩ => ⟨S_, .f32⟩
  | .hbm, ⟨99, _⟩ => ⟨S8x4096x1024, .f32⟩
  | .hbm, ⟨100, _⟩ => ⟨S8x4096x1024, .f32⟩
  | .hbm, ⟨101, _⟩ => ⟨S8x4096x160, .f32⟩
  | .hbm, ⟨102, _⟩ => ⟨S8x4096x160, .f32⟩
  | .hbm, ⟨103, _⟩ => ⟨S8x4096x160, .f32⟩
  | .hbm, ⟨104, _⟩ => ⟨S_, .f32⟩
  | .hbm, ⟨105, _⟩ => ⟨S8x4096x160, .f32⟩
  | .hbm, ⟨106, _⟩ => ⟨S8x4096x160, .f32⟩
  | .hbm, ⟨107, _⟩ => ⟨S_, .f32⟩
  | .hbm, ⟨108, _⟩ => ⟨S8x4096x160, .f32⟩
  | .hbm, ⟨109, _⟩ => ⟨S8x4096x160, .f32⟩
  | .hbm, ⟨110, _⟩ => ⟨S8x4096x1024, .f32⟩
  | .hbm, ⟨111, _⟩ => ⟨S8x4096x1024, .f32⟩
  | .hbm, ⟨112, _⟩ => ⟨S8x4096x1024, .f32⟩
  | .hbm, ⟨113, _⟩ => ⟨S32768x1024, .f32⟩
  | .hbm, ⟨114, _⟩ => ⟨S32768x1024, .f32⟩
  | .hbm, ⟨115, _⟩ => ⟨S32768x1024, .f32⟩
  | .hbm, ⟨116, _⟩ => ⟨S32768x1024, .f32⟩
  | .hbm, ⟨117, _⟩ => ⟨S32768x1024, .f32⟩
  | .hbm, ⟨118, _⟩ => ⟨S32768x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_c : Ref sig .tc := ⟨.hbm, 11, rfl⟩
abbrev main_call0_v0 : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_v53 : Ref sig .tc := ⟨.hbm, 66, rfl⟩
abbrev main_v54 : Ref sig .tc := ⟨.hbm, 67, rfl⟩
abbrev main_v55 : Ref sig .tc := ⟨.hbm, 68, rfl⟩
abbrev main_v56 : Ref sig .tc := ⟨.hbm, 69, rfl⟩
abbrev main_call1_cst : Ref sig .tc := ⟨.hbm, 70, rfl⟩
abbrev main_call1_v0 : Ref sig .tc := ⟨.hbm, 71, rfl⟩
abbrev main_call1_v1 : Ref sig .tc := ⟨.hbm, 72, rfl⟩
abbrev main_call1_v2 : Ref sig .tc := ⟨.hbm, 73, rfl⟩
abbrev main_call1_v3 : Ref sig .tc := ⟨.hbm, 74, rfl⟩
abbrev main_call1_v4 : Ref sig .tc := ⟨.hbm, 75, rfl⟩
abbrev main_call1_v5 : Ref sig .tc := ⟨.hbm, 76, rfl⟩
abbrev main_call1_v6 : Ref sig .tc := ⟨.hbm, 77, rfl⟩
abbrev main_call1_v7 : Ref sig .tc := ⟨.hbm, 78, rfl⟩
abbrev main_call1_v8 : Ref sig .tc := ⟨.hbm, 79, rfl⟩
abbrev main_call1_v9 : Ref sig .tc := ⟨.hbm, 80, rfl⟩
abbrev main_call1_v10 : Ref sig .tc := ⟨.hbm, 81, rfl⟩
abbrev main_call1_v11 : Ref sig .tc := ⟨.hbm, 82, rfl⟩
abbrev main_v57 : Ref sig .tc := ⟨.hbm, 83, rfl⟩
abbrev main_v58 : Ref sig .tc := ⟨.hbm, 84, rfl⟩
abbrev main_cst : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_cst_0 : Ref sig .tc := ⟨.hbm, 95, rfl⟩
abbrev main_v68 : Ref sig .tc := ⟨.hbm, 96, rfl⟩
abbrev main_v69 : Ref sig .tc := ⟨.hbm, 97, rfl⟩
abbrev main_cst_1 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_2 : Ref sig .tc := ⟨.hbm, 104, rfl⟩
abbrev main_v75 : Ref sig .tc := ⟨.hbm, 105, rfl⟩
abbrev main_v76 : Ref sig .tc := ⟨.hbm, 106, rfl⟩
abbrev main_cst_3 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_v86 : Ref sig .tc := ⟨.hbm, 117, rfl⟩
abbrev main_v87 : Ref sig .tc := ⟨.hbm, 118, rfl⟩

abbrev nD : Nat := 1
abbrev τ : Topo := Topo.v7x

variable {F : FTy → Type} [FloatOps F]
-- ==== PreRes.lean ====
abbrev S8x4096x1024 : Shape := ⟨3, ![8, 4096, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x32 : Shape := ⟨2, ![1024, 32]⟩
abbrev S32x1024 : Shape := ⟨2, ![32, 1024]⟩
abbrev S1024x160 : Shape := ⟨2, ![1024, 160]⟩
abbrev S160x1024 : Shape := ⟨2, ![160, 1024]⟩
abbrev S1x1024 : Shape := ⟨2, ![1, 1024]⟩
abbrev S32768x1024 : Shape := ⟨2, ![32768, 1024]⟩
abbrev S512x1024 : Shape := ⟨2, ![512, 1024]⟩
abbrev S8x1024 : Shape := ⟨2, ![8, 1024]⟩
abbrev S1x1024x1024 : Shape := ⟨3, ![1, 1024, 1024]⟩
abbrev S1024x1024 : Shape := ⟨2, ![1024, 1024]⟩
abbrev S512x64 : Shape := ⟨2, ![512, 64]⟩
abbrev S1x256 : Shape := ⟨2, ![1, 256]⟩
abbrev S64x256 : Shape := ⟨2, ![64, 256]⟩
abbrev S512x256 : Shape := ⟨2, ![512, 256]⟩
abbrev S512x32 : Shape := ⟨2, ![512, 32]⟩
abbrev S1x1024x256 : Shape := ⟨3, ![1, 1024, 256]⟩
abbrev S1024x256 : Shape := ⟨2, ![1024, 256]⟩
abbrev S32x256 : Shape := ⟨2, ![32, 256]⟩
abbrev S512x160 : Shape := ⟨2, ![512, 160]⟩

abbrev nBuf : Space → Nat
  | .hbm => 35
  | .vmem => 31
  | .smem => 0
  | _ => 0

abbrev bufTy : (tb : Table) → Fin (tcTables nBuf tb) → BufTy
  | .hbm, ⟨0, _⟩ => ⟨S8x4096x1024, .f32⟩
  | .hbm, ⟨1, _⟩ => ⟨S8x4096x1024, .f32⟩
  | .hbm, ⟨2, _⟩ => ⟨S6x1024, .f32⟩
  | .hbm, ⟨3, _⟩ => ⟨S3x1024x1024, .f32⟩
  | .hbm, ⟨4, _⟩ => ⟨S1024, .f32⟩
  | .hbm, ⟨5, _⟩ => ⟨S1024x64, .f32⟩
  | .hbm, ⟨6, _⟩ => ⟨S64x1024, .f32⟩
  | .hbm, ⟨7, _⟩ => ⟨S1024, .f32⟩
  | .hbm, ⟨8, _⟩ => ⟨S1024x64, .f32⟩
  | .hbm, ⟨9, _⟩ => ⟨S64x1024, .f32⟩
  | .hbm, ⟨10, _⟩ => ⟨S1024, .f32⟩
  | .hbm, ⟨11, _⟩ => ⟨S1024x32, .f32⟩
  | .hbm, ⟨12, _⟩ => ⟨S32x1024, .f32⟩
  | .hbm, ⟨13, _⟩ => ⟨S1024x160, .f32⟩
  | .hbm, ⟨14, _⟩ => ⟨S160x1024, .f32⟩
  | .hbm, ⟨15, _⟩ => ⟨S1x1024, .f32⟩
  | .hbm, ⟨16, _⟩ => ⟨S1024x32, .bf16⟩
  | .hbm, ⟨17, _⟩ => ⟨S32x1024, .bf16⟩
  | .hbm, ⟨18, _⟩ => ⟨S32768x1024, .f32⟩
  | .hbm, ⟨19, _⟩ => ⟨S32768x1024, .f32⟩
  | .hbm, ⟨20, _⟩ => ⟨S3x1024x1024, .bf16⟩
  | .hbm, ⟨21, _⟩ => ⟨S1x1024, .f32⟩
  | .hbm, ⟨22, _⟩ => ⟨S1024x64, .bf16⟩
  | .hbm, ⟨23, _⟩ => ⟨S64x1024, .bf16⟩
  | .hbm, ⟨24, _⟩ => ⟨S1x1024, .f32⟩
  | .hbm, ⟨25, _⟩ => ⟨S1024x64, .bf16⟩
  | .hbm, ⟨26, _⟩ => ⟨S64x1024, .bf16⟩
  | .hbm, ⟨27, _⟩ => ⟨S1024x160, .bf16⟩
  | .hbm, ⟨28, _⟩ => ⟨S160x1024, .bf16⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S32768x1024, .f32⟩
  | .hbm, ⟨33, _⟩ => ⟨S32768x1024, .f32⟩
  | .hbm, ⟨34, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S8x1024, .f32⟩
  | .local _ .vmem, ⟨4, _⟩ => ⟨S512x1024, .f32⟩
  | .local _ .vmem, ⟨5, _⟩ => ⟨S512x1024, .f32⟩
  | .local _ .vmem, ⟨6, _⟩ => ⟨S6x1024, .f32⟩
  | .local _ .vmem, ⟨7, _⟩ => ⟨S3x1024x1024, .bf16⟩
  | .local _ .vmem, ⟨8, _⟩ => ⟨S1x1024, .f32⟩
  | .local _ .vmem, ⟨9, _⟩ => ⟨S1024x64, .bf16⟩
  | .local _ .vmem, ⟨10, _⟩ => ⟨S64x1024, .bf16⟩
  | .local _ .vmem, ⟨11, _⟩ => ⟨S1x1024, .f32⟩
  | .local _ .vmem, ⟨12, _⟩ => ⟨S1024x64, .bf16⟩
  | .local _ .vmem, ⟨13, _⟩ => ⟨S64x1024, .bf16⟩
  | .local _ .vmem, ⟨14, _⟩ => ⟨S1x1024, .f32⟩
  | .local _ .vmem, ⟨15, _⟩ => ⟨S1024x32, .bf16⟩
  | .local _ .vmem, ⟨16, _⟩ => ⟨S32x1024, .bf16⟩
  | .local _ .vmem, ⟨17, _⟩ => ⟨S1024x160, .bf16⟩
  | .local _ .vmem, ⟨18, _⟩ => ⟨S160x1024, .bf16⟩
  | .local _ .vmem, ⟨19, _⟩ => ⟨S512x1024, .f32⟩
  | .local _ .vmem, ⟨20, _⟩ => ⟨S512x1024, .f32⟩
  | .local _ .vmem, ⟨21, _⟩ => ⟨S512x1024, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | .local _ .vmem, ⟨26, _⟩ => ⟨S512x1024, .f32⟩
  | .local _ .vmem, ⟨27, _⟩ => ⟨S512x1024, .f32⟩
  | .local _ .vmem, ⟨28, _⟩ => ⟨S512x1024, .f32⟩
  | .local _ .vmem, ⟨29, _⟩ => ⟨S512x1024, .f32⟩
  | .local _ .vmem, ⟨30, _⟩ => ⟨S512x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14_0 : Ref sig .tc := ⟨.hbm, 29, rfl⟩
abbrev main_v14_1 : Ref sig .tc := ⟨.hbm, 30, rfl⟩
abbrev main_v14_2 : Ref sig .tc := ⟨.hbm, 31, rfl⟩
abbrev main_v14_3 : Ref sig .tc := ⟨.hbm, 32, rfl⟩
abbrev main_v14_4 : Ref sig .tc := ⟨.hbm, 33, rfl⟩
abbrev main_v14_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg16_0 : Ref sig .tc := ⟨.vmem, 19, rfl⟩
abbrev cc0_stg16_1 : Ref sig .tc := ⟨.vmem, 20, rfl⟩
abbrev cc0_stg17_0 : Ref sig .tc := ⟨.vmem, 21, rfl⟩
abbrev cc0_stg17_1 : Ref sig .tc := ⟨.vmem, 22, rfl⟩
abbrev cc0_stg18_0 : Ref sig .tc := ⟨.vmem, 23, rfl⟩
abbrev cc0_stg18_1 : Ref sig .tc := ⟨.vmem, 24, rfl⟩
abbrev cc0_stg19_0 : Ref sig .tc := ⟨.vmem, 25, rfl⟩
abbrev cc0_stg19_1 : Ref sig .tc := ⟨.vmem, 26, rfl⟩
abbrev cc0_stg20_0 : Ref sig .tc := ⟨.vmem, 27, rfl⟩
abbrev cc0_stg20_1 : Ref sig .tc := ⟨.vmem, 28, rfl⟩
abbrev cc0_stg21_0 : Ref sig .tc := ⟨.vmem, 29, rfl⟩
abbrev cc0_stg21_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem16_0 : DmaSem sig := 19
abbrev cc0_sem16_1 : DmaSem sig := 20
abbrev cc0_sem17_0 : DmaSem sig := 21
abbrev cc0_sem17_1 : DmaSem sig := 22
abbrev cc0_sem18_0 : DmaSem sig := 23
abbrev cc0_sem18_1 : DmaSem sig := 24
abbrev cc0_sem19_0 : DmaSem sig := 25
abbrev cc0_sem19_1 : DmaSem sig := 26
abbrev cc0_sem20_0 : DmaSem sig := 27
abbrev cc0_sem20_1 : DmaSem sig := 28
abbrev cc0_sem21_0 : DmaSem sig := 29
abbrev cc0_sem21_1 : DmaSem sig := 30

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c64_i32 : BitVec 32 := 64#32
  let v0 : BitVec 32 := Scalar.muli arg0 c64_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  ![v2.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S6x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1024x64 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1024x32 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S32x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1024x160 .bf16 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S160x1024 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 2 → Memref sig .tc .vmem S512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x1024 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x1024 .f32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x1024 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x1024 .f32 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]
-- ==== PreResRefIdeal.lean ====
abbrev S8x4096x1024 : Shape := ⟨3, ![8, 4096, 1024]⟩
abbrev S6x1024 : Shape := ⟨2, ![6, 1024]⟩
abbrev S3x1024x1024 : Shape := ⟨3, ![3, 1024, 1024]⟩
abbrev S1024 : Shape := ⟨1, ![1024]⟩
abbrev S1024x64 : Shape := ⟨2, ![1024, 64]⟩
abbrev S64x1024 : Shape := ⟨2, ![64, 1024]⟩
abbrev S1024x32 : Shape := ⟨2, ![1024, 32]⟩
abbrev S32x1024 : Shape := ⟨2, ![32, 1024]⟩
abbrev S1024x160 : Shape := ⟨2, ![1024, 160]⟩
abbrev S160x1024 : Shape := ⟨2, ![160, 1024]⟩
abbrev S_ : Shape := ⟨0, ![]⟩
abbrev S8x4097x1024 : Shape := ⟨3, ![8, 4097, 1024]⟩
abbrev S1x1024 : Shape := ⟨2, ![1, 1024]⟩
abbrev S1x1x1024 : Shape := ⟨3, ![1, 1, 1024]⟩
abbrev S1x8x4096x1024 : Shape := ⟨4, ![1, 8, 4096, 1024]⟩
abbrev S3x8x4096x1024 : Shape := ⟨4, ![3, 8, 4096, 1024]⟩
abbrev S8x4096x64 : Shape := ⟨3, ![8, 4096, 64]⟩
abbrev S8x4096x32 : Shape := ⟨3, ![8, 4096, 32]⟩
abbrev S8x4096x160 : Shape := ⟨3, ![8, 4096, 160]⟩
abbrev S32768x1024 : Shape := ⟨2, ![32768, 1024]⟩

abbrev nBuf : Space → Nat
  | .hbm => 139
  | .vmem => 0
  | .smem => 0
  | _ => 0

abbrev hbmTy0_0 (i : Nat) : BufTy := match i % 128 with
  | 0 => ⟨S8x4096x1024, .f32⟩
  | 1 => ⟨S8x4096x1024, .f32⟩
  | 2 => ⟨S6x1024, .f32⟩
  | 3 => ⟨S3x1024x1024, .f32⟩
  | 4 => ⟨S1024, .f32⟩
  | 5 => ⟨S1024x64, .f32⟩
  | 6 => ⟨S64x1024, .f32⟩
  | 7 => ⟨S1024, .f32⟩
  | 8 => ⟨S1024x64, .f32⟩
  | 9 => ⟨S64x1024, .f32⟩
  | 10 => ⟨S1024, .f32⟩
  | 11 => ⟨S1024x32, .f32⟩
  | 12 => ⟨S32x1024, .f32⟩
  | 13 => ⟨S1024x160, .f32⟩
  | 14 => ⟨S160x1024, .f32⟩
  | 15 => ⟨S_, .i32⟩
  | 16 => ⟨S_, .f32⟩
  | 17 => ⟨S8x4097x1024, .f32⟩
  | 18 => ⟨S8x4096x1024, .f32⟩
  | 19 => ⟨S8x4096x1024, .f32⟩
  | 20 => ⟨S1x1024, .f32⟩
  | 21 => ⟨S1024, .f32⟩
  | 22 => ⟨S1x1x1024, .f32⟩
  | 23 => ⟨S8x4096x1024, .f32⟩
  | 24 => ⟨S8x4096x1024, .f32⟩
  | 25 => ⟨S8x4096x1024, .f32⟩
  | 26 => ⟨S1x1024, .f32⟩
  | 27 => ⟨S1024, .f32⟩
  | 28 => ⟨S1x1x1024, .f32⟩
  | 29 => ⟨S8x4096x1024, .f32⟩
  | 30 => ⟨S8x4096x1024, .f32⟩
  | 31 => ⟨S8x4096x1024, .f32⟩
  | 32 => ⟨S1x1024, .f32⟩
  | 33 => ⟨S1024, .f32⟩
  | 34 => ⟨S1x1x1024, .f32⟩
  | 35 => ⟨S8x4096x1024, .f32⟩
  | 36 => ⟨S8x4096x1024, .f32⟩
  | 37 => ⟨S8x4096x1024, .f32⟩
  | 38 => ⟨S1x1024, .f32⟩
  | 39 => ⟨S1024, .f32⟩
  | 40 => ⟨S1x1x1024, .f32⟩
  | 41 => ⟨S8x4096x1024, .f32⟩
  | 42 => ⟨S8x4096x1024, .f32⟩
  | 43 => ⟨S8x4096x1024, .f32⟩
  | 44 => ⟨S1x1024, .f32⟩
  | 45 => ⟨S1024, .f32⟩
  | 46 => ⟨S1x1x1024, .f32⟩
  | 47 => ⟨S8x4096x1024, .f32⟩
  | 48 => ⟨S8x4096x1024, .f32⟩
  | 49 => ⟨S8x4096x1024, .f32⟩
  | 50 => ⟨S1x1024, .f32⟩
  | 51 => ⟨S1024, .f32⟩
  | 52 => ⟨S1x1x1024, .f32⟩
  | 53 => ⟨S8x4096x1024, .f32⟩
  | 54 => ⟨S8x4096x1024, .f32⟩
  | 55 => ⟨S8x4096x1024, .f32⟩
  | 56 => ⟨S1x8x4096x1024, .f32⟩
  | 57 => ⟨S1x8x4096x1024, .f32⟩
  | 58 => ⟨S1x8x4096x1024, .f32⟩
  | 59 => ⟨S3x8x4096x1024, .f32⟩
  | 60 => ⟨S3x8x4096x1024, .f32⟩
  | 61 => ⟨S1x8x4096x1024, .f32⟩
  | 62 => ⟨S8x4096x1024, .f32⟩
  | 63 => ⟨S1x8x4096x1024, .f32⟩
  | 64 => ⟨S8x4096x1024, .f32⟩
  | 65 => ⟨S1x8x4096x1024, .f32⟩
  | 66 => ⟨S8x4096x1024, .f32⟩
  | 67 => ⟨S8x4096x64, .f32⟩
  | 68 => ⟨S8x4096x64, .f32⟩
  | 69 => ⟨S8x4096x1024, .f32⟩
  | 70 => ⟨S1x1x1024, .f32⟩
  | 71 => ⟨S8x4096x1024, .f32⟩
  | 72 => ⟨S8x4096x1024, .f32⟩
  | 73 => ⟨S8x4096x1024, .f32⟩
  | 74 => ⟨S_, .f32⟩
  | 75 => ⟨S8x4096x1024, .f32⟩
  | 76 => ⟨S8x4096x1024, .f32⟩
  | 77 => ⟨S8x4096x1024, .f32⟩
  | 78 => ⟨S8x4096x1024, .f32⟩
  | 79 => ⟨S8x4096x1024, .i1⟩
  | 80 => ⟨S8x4096x1024, .f32⟩
  | 81 => ⟨S8x4096x1024, .f32⟩
  | 82 => ⟨S8x4096x1024, .f32⟩
  | 83 => ⟨S8x4096x1024, .f32⟩
  | 84 => ⟨S8x4096x1024, .f32⟩
  | 85 => ⟨S8x4096x1024, .f32⟩
  | 86 => ⟨S8x4096x1024, .f32⟩
  | 87 => ⟨S8x4096x1024, .f32⟩
  | 88 => ⟨S8x4096x1024, .f32⟩
  | 89 => ⟨S_, .f32⟩
  | 90 => ⟨S8x4096x1024, .f32⟩
  | 91 => ⟨S8x4096x1024, .f32⟩
  | 92 => ⟨S8x4096x64, .f32⟩
  | 93 => ⟨S8x4096x1024, .f32⟩
  | 94 => ⟨S1x1x1024, .f32⟩
  | 95 => ⟨S8x4096x1024, .f32⟩
  | 96 => ⟨S8x4096x1024, .f32⟩
  | 97 => ⟨S8x4096x1024, .f32⟩
  | 98 => ⟨S8x4096x1024, .f32⟩
  | 99 => ⟨S_, .f32⟩
  | 100 => ⟨S8x4096x1024, .f32⟩
  | 101 => ⟨S8x4096x1024, .f32⟩
  | 102 => ⟨S_, .f32⟩
  | 103 => ⟨S8x4096x1024, .f32⟩
  | 104 => ⟨S8x4096x1024, .f32⟩
  | 105 => ⟨S8x4096x1024, .f32⟩
  | 106 => ⟨S8x4096x32, .f32⟩
  | 107 => ⟨S8x4096x1024, .f32⟩
  | 108 => ⟨S1x1x1024, .f32⟩
  | 109 => ⟨S8x4096x1024, .f32⟩
  | 110 => ⟨S8x4096x1024, .f32⟩
  | 111 => ⟨S8x4096x1024, .f32⟩
  | 112 => ⟨S8x4096x1024, .f32⟩
  | 113 => ⟨S_, .f32⟩
  | 114 => ⟨S8x4096x1024, .f32⟩
  | 115 => ⟨S8x4096x1024, .f32⟩
  | 116 => ⟨S_, .f32⟩
  | 117 => ⟨S8x4096x1024, .f32⟩
  | 118 => ⟨S8x4096x1024, .f32⟩
  | 119 => ⟨S8x4096x1024, .f32⟩
  | 120 => ⟨S8x4096x1024, .f32⟩
  | 121 => ⟨S8x4096x160, .f32⟩
  | 122 => ⟨S8x4096x160, .f32⟩
  | 123 => ⟨S8x4096x160, .f32⟩
  | 124 => ⟨S_, .f32⟩
  | 125 => ⟨S8x4096x160, .f32⟩
  | 126 => ⟨S8x4096x160, .f32⟩
  | 127 => ⟨S_, .f32⟩
  | _ => ⟨S8x4096x1024, .f32⟩

abbrev hbmTy0_1 (i : Nat) : BufTy := match i % 128 with
  | 0 => ⟨S8x4096x160, .f32⟩
  | 1 => ⟨S8x4096x160, .f32⟩
  | 2 => ⟨S8x4096x1024, .f32⟩
  | 3 => ⟨S8x4096x1024, .f32⟩
  | 4 => ⟨S8x4096x1024, .f32⟩
  | 5 => ⟨S32768x1024, .f32⟩
  | 6 => ⟨S32768x1024, .f32⟩
  | 7 => ⟨S32768x1024, .f32⟩
  | 8 => ⟨S32768x1024, .f32⟩
  | 9 => ⟨S32768x1024, .f32⟩
  | 10 => ⟨S32768x1024, .f32⟩
  | _ => ⟨S8x4096x1024, .f32⟩

abbrev hbmTy (i : Nat) : BufTy := match i / 128 with
  | 0 => hbmTy0_0 i
  | 1 => hbmTy0_1 i
  | _ => ⟨S8x4096x1024, .f32⟩

abbrev bufTy : (tb : Table) → Fin (tcTables nBuf tb) → BufTy
  | .hbm, ⟨i, _⟩ => hbmTy i
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_c : Ref sig .tc := ⟨.hbm, 15, rfl⟩
abbrev main_call0_v0 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_call1_cst : Ref sig .tc := ⟨.hbm, 74, rfl⟩
abbrev main_call1_v0 : Ref sig .tc := ⟨.hbm, 75, rfl⟩
abbrev main_call1_v1 : Ref sig .tc := ⟨.hbm, 76, rfl⟩
abbrev main_call1_v2 : Ref sig .tc := ⟨.hbm, 77, rfl⟩
abbrev main_call1_v3 : Ref sig .tc := ⟨.hbm, 78, rfl⟩
abbrev main_call1_v4 : Ref sig .tc := ⟨.hbm, 79, rfl⟩
abbrev main_call1_v5 : Ref sig .tc := ⟨.hbm, 80, rfl⟩
abbrev main_call1_v6 : Ref sig .tc := ⟨.hbm, 81, rfl⟩
abbrev main_call1_v7 : Ref sig .tc := ⟨.hbm, 82, rfl⟩
abbrev main_call1_v8 : Ref sig .tc := ⟨.hbm, 83, rfl⟩
abbrev main_call1_v9 : Ref sig .tc := ⟨.hbm, 84, rfl⟩
abbrev main_call1_v10 : Ref sig .tc := ⟨.hbm, 85, rfl⟩
abbrev main_call1_v11 : Ref sig .tc := ⟨.hbm, 86, rfl⟩
abbrev main_v57 : Ref sig .tc := ⟨.hbm, 87, rfl⟩
abbrev main_v58 : Ref sig .tc := ⟨.hbm, 88, rfl⟩
abbrev main_cst : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_cst_0 : Ref sig .tc := ⟨.hbm, 99, rfl⟩
abbrev main_v68 : Ref sig .tc := ⟨.hbm, 100, rfl⟩
abbrev main_v69 : Ref sig .tc := ⟨.hbm, 101, rfl⟩
abbrev main_cst_1 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_cst_2 : Ref sig .tc := ⟨.hbm, 113, rfl⟩
abbrev main_v80 : Ref sig .tc := ⟨.hbm, 114, rfl⟩
abbrev main_v81 : Ref sig .tc := ⟨.hbm, 115, rfl⟩
abbrev main_cst_3 : Ref sig .tc := ⟨.hbm, 116, rfl⟩
abbrev main_v82 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_v88 : Ref sig .tc := ⟨.hbm, 123, rfl⟩
abbrev main_cst_4 : Ref sig .tc := ⟨.hbm, 124, rfl⟩
abbrev main_v89 : Ref sig .tc := ⟨.hbm, 125, rfl⟩
abbrev main_v90 : Ref sig .tc := ⟨.hbm, 126, rfl⟩
abbrev main_cst_5 : Ref sig .tc := ⟨.hbm, 127, rfl⟩
abbrev main_v91 : Ref sig .tc := ⟨.hbm, 128, rfl⟩
abbrev main_v92 : Ref sig .tc := ⟨.hbm, 129, rfl⟩
abbrev main_v93 : Ref sig .tc := ⟨.hbm, 130, rfl⟩
abbrev main_v94 : Ref sig .tc := ⟨.hbm, 131, rfl⟩
abbrev main_v95 : Ref sig .tc := ⟨.hbm, 132, rfl⟩
abbrev main_v96 : Ref sig .tc := ⟨.hbm, 133, rfl⟩
abbrev main_v97 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩

abbrev nD : Nat := 1
abbrev τ : Topo := Topo.v7x

variable {F : FTy → Type} [FloatOps F]
-- ==== Wkv.lean ====
abbrev S32768x1024 : Shape := ⟨2, ![32768, 1024]⟩
abbrev S1024 : Shape := ⟨1, ![1024]⟩
abbrev S16x64 : Shape := ⟨2, ![16, 64]⟩
abbrev S1x1024 : Shape := ⟨2, ![1, 1024]⟩
abbrev S512x1024 : Shape := ⟨2, ![512, 1024]⟩
abbrev S4x256x256 : Shape := ⟨3, ![4, 256, 256]⟩
abbrev S256x256 : Shape := ⟨2, ![256, 256]⟩
abbrev S64x256 : Shape := ⟨2, ![64, 256]⟩
abbrev S64x64 : Shape := ⟨2, ![64, 64]⟩
abbrev S64x128 : Shape := ⟨2, ![64, 128]⟩
abbrev S1x256x256 : Shape := ⟨3, ![1, 256, 256]⟩
abbrev S1x256 : Shape := ⟨2, ![1, 256]⟩
abbrev S512x256 : Shape := ⟨2, ![512, 256]⟩
abbrev S128x256 : Shape := ⟨2, ![128, 256]⟩
abbrev S256x128 : Shape := ⟨2, ![256, 128]⟩
abbrev S256x512 : Shape := ⟨2, ![256, 512]⟩
abbrev S128x512 : Shape := ⟨2, ![128, 512]⟩

abbrev nBuf : Space → Nat
  | .hbm => 16
  | .vmem => 18
  | .smem => 0
  | _ => 0

abbrev bufTy : (tb : Table) → Fin (tcTables nBuf tb) → BufTy
  | .hbm, ⟨0, _⟩ => ⟨S32768x1024, .f32⟩
  | .hbm, ⟨1, _⟩ => ⟨S32768x1024, .f32⟩
  | .hbm, ⟨2, _⟩ => ⟨S32768x1024, .f32⟩
  | .hbm, ⟨3, _⟩ => ⟨S32768x1024, .f32⟩
  | .hbm, ⟨4, _⟩ => ⟨S32768x1024, .f32⟩
  | .hbm, ⟨5, _⟩ => ⟨S1024, .f32⟩
  | .hbm, ⟨6, _⟩ => ⟨S1024, .f32⟩
  | .hbm, ⟨7, _⟩ => ⟨S16x64, .f32⟩
  | .hbm, ⟨8, _⟩ => ⟨S1024, .f32⟩
  | .hbm, ⟨9, _⟩ => ⟨S1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S1x1024, .f32⟩
  | .local _ .vmem, ⟨12, _⟩ => ⟨S1x1024, .f32⟩
  | .local _ .vmem, ⟨13, _⟩ => ⟨S1x1024, .f32⟩
  | .local _ .vmem, ⟨14, _⟩ => ⟨S1x1024, .f32⟩
  | .local _ .vmem, ⟨15, _⟩ => ⟨S512x1024, .f32⟩
  | .local _ .vmem, ⟨16, _⟩ => ⟨S512x1024, .f32⟩
  | .local _ .vmem, ⟨17, _⟩ => ⟨S4x256x256, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]
-- ==== Proof.Rows.lean ====
module

public import Idealize.ShloMosaic.Lib.Pointwise

/-!
# One row of the layer's blocks, on the extended reals

The functions both sides are compared through: a row is a function of its column.
-/

@[expose] public section

noncomputable section

namespace Cert.Rows

open Idealize.ShloMosaic

/-- The word of `1024.0`. -/
abbrev n1024 : EReal := Ideal.ofBits .f32 0x44800000#32
/-- The word of the normalisation's small constant. -/
abbrev eps32 : EReal := Ideal.ofBits .f32 0x3727C5AC#32
/-- The word of the residual's factor, the fourth root of eight. -/
abbrev alpha32 : EReal := Ideal.ofBits .f32 0x3FD744FD#32

/-- A row times a column. -/
def dot {n : Nat} (x w : Fin n → EReal) : EReal := ∑ k : Fin n, x k * w k

/-- The gated hidden unit: `silu g * u`. -/
def hid (g u : EReal) : EReal := g * Ideal.div 1 (1 + Ideal.exp (-g)) * u

/-- The mean of a row of 1024. -/
def mean (s : Fin 1024 → EReal) : EReal := Ideal.div (∑ k : Fin 1024, s k) n1024

/-- Layer normalisation of a row of 1024, read at one column. -/
def layerNorm (s : Fin 1024 → EReal) (g b : EReal) (j : Fin 1024) : EReal :=
  (s j - mean s) * Ideal.rsqrt (mean (fun k => (s k - mean s) * (s k - mean s)) + eps32) * g + b

/-- One row of the feed-forward block: the residual, the gated product, the normalisation. -/
def ffnRow (x : Fin 1024 → EReal) (w : Fin 1024 → Fin 5632 → EReal) (d : Fin 2816 → Fin 1024 → EReal) (g b : Fin 1024 → EReal)
    (j : Fin 1024) : EReal :=
  layerNorm (fun q => alpha32 * x q + ∑ f : Fin 2816,
    hid (∑ k : Fin 1024, x k * w k ⟨f.val, by omega⟩) (∑ k : Fin 1024, x k * w k ⟨2816 + f.val, by omega⟩) * d f q) (g j) (b j) j

/-- One row after the mixing layer: the residual, the gated mixing output times the projection, the normalisation. -/
def mixRow (x y h : Fin 1024 → EReal) (o : Fin 1024 → Fin 1024 → EReal) (g b : Fin 1024 → EReal) (j : Fin 1024) : EReal :=
  layerNorm (fun q => alpha32 * x q + ∑ k : Fin 1024, y k * h k * o k q) (g j) (b j) j

/-- A sum over eleven, written out. -/
theorem sum_eleven (f : Fin 11 → EReal) :
    ∑ i : Fin 11, f i = f 0 + f 1 + f 2 + f 3 + f 4 + f 5 + f 6 + f 7 + f 8 + f 9 + f 10 := by
  simp only [Fin.sum_univ_castSucc, Fin.sum_univ_zero, zero_add]
  rfl

end Cert.Rows

end
-- ==== Proof.SgRows.lean ====
module

public import proofs.«01_k».proof.Proof.Rows

/-!
# One row of the spatial-gating layer, on the extended reals

A row depends on the rows of its chunk of 128. Both sides are compared through `sgRow`, which is
stated over the activation: the kernel and the reference write the activation differently.
-/

@[expose] public section

noncomputable section

namespace Cert.Rows

open Idealize.ShloMosaic

/-- The word of `2048.0`. -/
abbrev n2048 : EReal := Ideal.ofBits .f32 0x45000000#32
/-- The word of `0.5`. -/
abbrev half32 : EReal := Ideal.ofBits .f32 0x3F000000#32
/-- The word of the tanh argument's factor. -/
abbrev c0w : EReal := Ideal.ofBits .f32 0x3F4C422A#32
/-- The word of the tanh argument's cubic coefficient, as the reference writes it. -/
abbrev a3w : EReal := Ideal.ofBits .f32 0x3D372713#32
/-- The folded cubic coefficient the kernel multiplies by. -/
abbrev cubic : EReal := ((80338380498831 / 2251799813685248 : ℝ) : EReal)

/-- The kernel's activation. -/
def geluK (z : EReal) : EReal := half32 * z + half32 * z * Ideal.tanh (z * (c0w + cubic * (z * z)))

/-- The reference's activation. -/
def geluR (z : EReal) : EReal := z * (half32 * (1 + Ideal.tanh (c0w * (z + a3w * (z * z * z)))))

theorem half_eq : half32 = (((1 : ℝ) / 2 : ℝ) : EReal) := by
  simp [Ideal.ofBits, Ideal.ieee, -EReal.coe_mul]; norm_num

theorem c0_eq : c0w = (((13386282 : ℝ) / 16777216 : ℝ) : EReal) := by
  simp [Ideal.ofBits, Ideal.ieee, -EReal.coe_mul]; norm_num

theorem a3_eq : a3w = (((12003091 : ℝ) / 268435456 : ℝ) : EReal) := by
  simp [Ideal.ofBits, Ideal.ieee, -EReal.coe_mul]; norm_num

theorem n2048_eq : n2048 = ((2048 : ℝ) : EReal) := by
  simp [Ideal.ofBits, Ideal.ieee, -EReal.coe_mul]; norm_num

theorem r2048_eq : Ideal.ofBits .f32 0x3A000000#32 = (((1 : ℝ) / 2048 : ℝ) : EReal) := by
  simp [Ideal.ofBits, Ideal.ieee, -EReal.coe_mul]; norm_num

/-- Multiplying by the word of `1/2048` is dividing by `2048`. -/
theorem mul_r2048 (s : EReal) : s * Ideal.ofBits .f32 0x3A000000#32 = Ideal.div s n2048 := by
  rw [n2048_eq, Ideal.div_coe (by norm_num), r2048_eq]

/-- On a real pre-activation the two activations agree. -/
theorem gelu_eq (z : ℝ) : geluK (z : EReal) = geluR (z : EReal) := by
  unfold geluK geluR
  have ht : ∀ r : ℝ, Ideal.tanh (r : EReal) = ((Real.tanh r : ℝ) : EReal) := fun _ => rfl
  rw [half_eq, c0_eq, a3_eq, cubic]
  simp only [← EReal.coe_mul, ← EReal.coe_add, ← EReal.coe_one, ht]
  congr 1
  rw [show z * (13386282 / 16777216 + 80338380498831 / 2251799813685248 * (z * z))
    = 13386282 / 16777216 * (z + 12003091 / 268435456 * (z * z * z)) by ring]
  ring

/-- The mean of a row of 2048. -/
def mean2 (s : Fin 2048 → EReal) : EReal := Ideal.div (∑ k : Fin 2048, s k) n2048

/-- Layer normalisation of a row of 2048, read at one column. -/
def layerNorm2 (s : Fin 2048 → EReal) (g b : EReal) (j : Fin 2048) : EReal :=
  (s j - mean2 s) * Ideal.rsqrt (mean2 (fun k => (s k - mean2 s) * (s k - mean2 s)) + eps32) * g + b

/-- The pre-activation of a row, at column `n` of 4096. -/
def preact (x : Fin 1024 → EReal) (w : Fin 1024 → Fin 4096 → EReal) (o : Fin 4096 → EReal) (n : Fin 4096) : EReal :=
  ∑ k : Fin 1024, x k * w k n + o n

/-- The second half of a row's activations. -/
def vRow (act : EReal → EReal) (x : Fin 1024 → EReal) (w : Fin 1024 → Fin 4096 → EReal) (o : Fin 4096 → EReal) (n : Fin 2048) : EReal :=
  act (preact x w o ⟨2048 + n.val, by omega⟩)

/-- Row `i` of a chunk after the gating, at column `n`: the first half of the activations times the causally mixed,
normalised second half of the chunk's rows. -/
def gated (act : EReal → EReal) (X : Fin 128 → Fin 1024 → EReal) (w : Fin 1024 → Fin 4096 → EReal) (o : Fin 4096 → EReal)
    (g b : Fin 2048 → EReal) (ws : Fin 16 → Fin 128 → Fin 128 → EReal) (bs : EReal) (i : Fin 128) (n : Fin 2048) : EReal :=
  act (preact (X i) w o ⟨n.val, by omega⟩)
    * (∑ t : Fin 128, (if t ≤ i then ws ⟨n.val / 128, by omega⟩ i t * layerNorm2 (vRow act (X t) w o) (g n) (b n) n else 0) + bs)

/-- Row `i` of a chunk after the layer: the residual, the gated rows times the output projection, the normalisation. -/
def sgRow (act : EReal → EReal) (X : Fin 128 → Fin 1024 → EReal) (w : Fin 1024 → Fin 4096 → EReal) (o : Fin 4096 → EReal)
    (g b : Fin 2048 → EReal) (ws : Fin 16 → Fin 128 → Fin 128 → EReal) (bs : Fin 16 → Fin 128 → EReal) (p : Fin 2048 → Fin 1024 → EReal)
    (lg lb : Fin 1024 → EReal) (i : Fin 128) (j : Fin 1024) : EReal :=
  layerNorm (fun q => alpha32 * X i q + ∑ n : Fin 2048, gated act X w o g b ws (bs ⟨n.val / 128, by omega⟩ i) i n * p n q) (lg j) (lb j) j

/-- A sum over 2048, in four parts. -/
theorem sum_2048 (s : Fin 2048 → EReal) :
    ∑ k : Fin 2048, s k = ∑ f : Fin 512, s ⟨512 * 0 + f.val, by omega⟩ + ∑ f : Fin 512, s ⟨512 * 1 + f.val, by omega⟩
      + ∑ f : Fin 512, s ⟨512 * 2 + f.val, by omega⟩ + ∑ f : Fin 512, s ⟨512 * 3 + f.val, by omega⟩ := by
  rw [Fin.sum_univ_tiles 4 512 rfl, Fin.sum_univ_four]
  rfl

/-- Where every pre-activation is a real number, the layer's row does not depend on which activation is written. -/
theorem sgRow_congr (X : Fin 128 → Fin 1024 → EReal) (w : Fin 1024 → Fin 4096 → EReal) (o : Fin 4096 → EReal)
    (g b : Fin 2048 → EReal) (ws : Fin 16 → Fin 128 → Fin 128 → EReal) (bs : Fin 16 → Fin 128 → EReal) (p : Fin 2048 → Fin 1024 → EReal)
    (lg lb : Fin 1024 → EReal) (i : Fin 128) (j : Fin 1024) (h : ∀ t n, ∃ r : ℝ, preact (X t) w o n = (r : EReal)) :
    sgRow geluK X w o g b ws bs p lg lb i j = sgRow geluR X w o g b ws bs p lg lb i j := by
  have e : ∀ t n, geluK (preact (X t) w o n) = geluR (preact (X t) w o n) := fun t n => by
    obtain ⟨r, hr⟩ := h t n
    rw [hr, gelu_eq]
  have ev : ∀ t, vRow geluK (X t) w o = vRow geluR (X t) w o := fun t => funext fun n => e t _
  unfold sgRow gated
  simp only [e, ev]

/-- A finite sum of products of reals plus a real is a real. -/
theorem preact_real (x : Fin 1024 → EReal) (w : Fin 1024 → Fin 4096 → EReal) (o : Fin 4096 → EReal) (n : Fin 4096)
    (hx : ∀ k, ∃ r : ℝ, x k = (r : EReal)) (hw : ∀ k, ∃ r : ℝ, w k n = (r : EReal)) (ho : ∃ r : ℝ, o n = (r : EReal)) :
    ∃ r : ℝ, preact x w o n = (r : EReal) := by
  choose a ha using hx
  choose c hc using hw
  obtain ⟨d, hd⟩ := ho
  refine ⟨∑ k : Fin 1024, a k * c k + d, ?_⟩
  unfold preact
  rw [EReal.coe_add, hd]
  congr 1
  have coe_sum : ∀ (S : Finset (Fin 1024)), ((∑ k ∈ S, a k * c k : ℝ) : EReal) = ∑ k ∈ S, ((a k * c k : ℝ) : EReal) := fun S => by
    classical
    induction S using Finset.induction_on with
    | empty => simp
    | insert i S hi ih => rw [Finset.sum_insert hi, Finset.sum_insert hi, EReal.coe_add, ih]
  rw [coe_sum]
  exact Finset.sum_congr rfl fun k _ => by rw [ha, hc, EReal.coe_mul]

end Cert.Rows

end
-- ==== Proof.SgCanon.lean ====
module

public import proofs.«01_k».proof.Proof.Gen.KernelIdeal.Value
public import proofs.«01_k».proof.Proof.SgRows

/-!
# The spatial-gating kernel's vector stages, named once

Every sub-tile, column part, pass, group and chunk computes the same few vector expressions. They are
stated here once, over the vectors they read, and read at an index.
-/

@[expose] public section

set_option maxRecDepth 16384

noncomputable section

namespace Cert.KernelIdeal.Val

open Cert.KernelIdeal Cert.KernelIdeal.Gen Idealize.ShloMosaic Idealize.ShloMosaic.TcCoe Idealize.SL.Sem
open Cert.Rows

/-- The folded coefficient, as the kernel's text names it. -/
abbrev cub : EReal := (Named.named (F := Ideal) κ "gelu_cubic" 0x3D122279#32 : Ideal .f32)

theorem cub_eq : cub = cubic := rfl

/-- A part of 512 columns of the pre-activation. -/
def zz512 (x : Vec Ideal S256x1024 .f32) (w : Vec Ideal S1024x512 .bf16) (b : Vec Ideal S1x512 .f32) : FVec Ideal S256x512 .f32 :=
  addf (matmul dot_S256x1024_S1024x512_S256x512_1_0_0_1_n_n none (k0_pay4 x) (shapeCast S1024x512 w shapeCasts_S1024x512_S1024x512 : FVec Ideal S1024x512 .bf16) (constant S256x512 .f32 0x00000000#32))
    (broadcastTo S256x512 (shapeCast S1x512 b shapeCasts_S1x512_S1x512) broadcasts_S1x512_S256x512)

/-- The activation of such a part. -/
def gelu512 (z : FVec Ideal S256x512 .f32) : FVec Ideal S256x512 .f32 :=
  addf (mulf (broadcast S256x512 (Scalar.ofBits .f32 0x3F000000#32)) z)
    (mulf (mulf (broadcast S256x512 (Scalar.ofBits .f32 0x3F000000#32)) z)
      (tanh (mulf z (addf (broadcast S256x512 (Scalar.ofBits .f32 0x3F4C422A#32)) (mulf (broadcast S256x512 (Named.named κ "gelu_cubic" 0x3D122279#32)) (mulf z z))))))

def vpart (x : Vec Ideal S256x1024 .f32) (w : Vec Ideal S1024x512 .bf16) (b : Vec Ideal S1x512 .f32) : FVec Ideal S256x512 .f32 := gelu512 (zz512 x w b)

/-- The pre-activation of a pass's 256 columns. -/
def zz256 (x : Vec Ideal S256x1024 .f32) (w : Vec Ideal S1024x256 .bf16) (b : Vec Ideal S1x256 .f32) : FVec Ideal S256x256 .f32 :=
  addf (matmul dot_S256x1024_S1024x256_S256x256_1_0_0_1_n_n none (k0_pay4 x) (shapeCast S1024x256 w shapeCasts_S1024x256_S1024x256 : FVec Ideal S1024x256 .bf16) (constant S256x256 .f32 0x00000000#32))
    (broadcastTo S256x256 (shapeCast S1x256 b shapeCasts_S1x256_S1x256) broadcasts_S1x256_S256x256)

def gelu256 (z : FVec Ideal S256x256 .f32) : FVec Ideal S256x256 .f32 :=
  addf (mulf (broadcast S256x256 (Scalar.ofBits .f32 0x3F000000#32)) z)
    (mulf (mulf (broadcast S256x256 (Scalar.ofBits .f32 0x3F000000#32)) z)
      (tanh (mulf z (addf (broadcast S256x256 (Scalar.ofBits .f32 0x3F4C422A#32)) (mulf (broadcast S256x256 (Named.named κ "gelu_cubic" 0x3D122279#32)) (mulf z z))))))

def upart (x : Vec Ideal S256x1024 .f32) (w : Vec Ideal S1024x256 .bf16) (b : Vec Ideal S1x256 .f32) : FVec Ideal S256x256 .f32 := gelu256 (zz256 x w b)

/-- The row sums of a part. -/
def rsum (p : FVec Ideal S256x512 .f32) : FVec Ideal S256x1 .f32 :=
  shapeCast S256x1 (multiReduction .add [1] S256 p 0x00000000#32 reduces_S256x512_S256 (.inl rfl) rfl) shapeCasts_S256_S256x1

/-- The four parts' row sums, in the order the kernel adds them. -/
def rsum4 (p0 p1 p2 p3 : FVec Ideal S256x512 .f32) : FVec Ideal S256x1 .f32 :=
  addf (addf (addf (addf (broadcast S256x1 (Scalar.ofBits .f32 0x00000000#32)) (rsum p0)) (rsum p1)) (rsum p2)) (rsum p3)

def meanV (p0 p1 p2 p3 : FVec Ideal S256x512 .f32) : FVec Ideal S256x1 .f32 :=
  mulf (rsum4 p0 p1 p2 p3) (broadcast S256x1 (Scalar.ofBits .f32 0x3A000000#32))

def cent (p : FVec Ideal S256x512 .f32) (m : FVec Ideal S256x1 .f32) : FVec Ideal S256x512 .f32 :=
  subf p (broadcastTo S256x512 m broadcasts_S256x1_S256x512)

def rstdV (c0 c1 c2 c3 : FVec Ideal S256x512 .f32) : FVec Ideal S256x1 .f32 :=
  rsqrt (addf (mulf (rsum4 (mulf c0 c0) (mulf c1 c1) (mulf c2 c2) (mulf c3 c3)) (broadcast S256x1 (Scalar.ofBits .f32 0x3A000000#32))) (broadcast S256x1 (Scalar.ofBits .f32 0x3727C5AC#32)))

/-- The normalised columns of a pass, cut from a centred part at column `o`. -/
def vslice (o : Nat) (h : S256x512.Slices ![0, o] S256x256) (c : FVec Ideal S256x512 .f32) (r : FVec Ideal S256x1 .f32) (g b : Vec Ideal S1x256 .f32) : FVec Ideal S256x256 .bf16 :=
  truncf .bf16 (addf (mulf (mulf (extractStridedSlice S256x256 ![0, o] c h) (broadcastTo S256x256 r broadcasts_S256x1_S256x256))
    (broadcastTo S256x256 (shapeCast S1x256 g shapeCasts_S1x256_S1x256) broadcasts_S1x256_S256x256))
    (broadcastTo S256x256 (shapeCast S1x256 b shapeCasts_S1x256_S1x256) broadcasts_S1x256_S256x256)) bitsLt_bf16_f32

/-- The masked token mixing of one group, both chunks side by side. -/
def mixed (q : Nat) (h0 : S256x256.Slices ![0, q] S128x128) (h1 : S256x256.Slices ![128, q] S128x128) (w : Vec Ideal S1x128x128 .bf16) (v : FVec Ideal S256x256 .bf16) : FVec Ideal S128x256 .f32 :=
  matmul dot_S128x128_S128x256_S128x256_1_0_0_1_n_n none
    (select k0_pay2 (shapeCast S128x128 w shapeCasts_S1x128x128_S128x128) (broadcast S128x128 (Scalar.ofBits .bf16 0x0000#16)))
    (concatenate S128x256 1 [⟨S128x128, extractStridedSlice S128x128 ![0, q] v h0⟩, ⟨S128x128, extractStridedSlice S128x128 ![128, q] v h1⟩] concatenates_S128x128_S128x128_S128x256_d1)
    (constant S128x256 .f32 0x00000000#32)

/-- What one group stores for one chunk: the activation times the mixed columns. -/
def piece (p q : Nat) (hu : S256x256.Slices ![p, q] S128x128) (hm : S128x256.Slices ![0, p] S128x128) (u : FVec Ideal S256x256 .f32) (m : FVec Ideal S128x256 .f32) (s : Vec Ideal S1x128x128 .f32) : FVec Ideal S128x128 .bf16 :=
  shapeCast S128x128 (truncf .bf16 (mulf (extractStridedSlice S128x128 ![p, q] u hu) (addf (extractStridedSlice S128x128 ![0, p] m hm) (shapeCast S128x128 s shapeCasts_S1x128x128_S128x128))) bitsLt_bf16_f32) shapeCasts_S128x128_S128x128

theorem vpart_at (x : Vec Ideal S256x1024 .f32) (w : Vec Ideal S1024x512 .bf16) (b : Vec Ideal S1x512 .f32) (r : Fin 256) (f : Fin 512) :
    vpart x w b (ix2 r f) = geluK (∑ k : Fin 1024, x (ix2 r k) * w (ix2 k f) + b (ix2 0 f)) := by
  pointwise [vpart, gelu512, zz512, geluK, k0_pay3, k0_pay4, cub_eq]

theorem upart_at (x : Vec Ideal S256x1024 .f32) (w : Vec Ideal S1024x256 .bf16) (b : Vec Ideal S1x256 .f32) (r : Fin 256) (f : Fin 256) :
    upart x w b (ix2 r f) = geluK (∑ k : Fin 1024, x (ix2 r k) * w (ix2 k f) + b (ix2 0 f)) := by
  pointwise [upart, gelu256, zz256, geluK, k0_pay3, k0_pay4, cub_eq]

theorem rsum4_at (p0 p1 p2 p3 : FVec Ideal S256x512 .f32) (r : Fin 256) :
    rsum4 p0 p1 p2 p3 (ix2 r 0) = ∑ f : Fin 512, p0 (ix2 r f) + ∑ f : Fin 512, p1 (ix2 r f) + ∑ f : Fin 512, p2 (ix2 r f) + ∑ f : Fin 512, p3 (ix2 r f) := by
  pointwise [rsum4, rsum]

theorem meanV_at (p0 p1 p2 p3 : FVec Ideal S256x512 .f32) (r : Fin 256) :
    meanV p0 p1 p2 p3 (ix2 r 0) = rsum4 p0 p1 p2 p3 (ix2 r 0) * Ideal.ofBits .f32 0x3A000000#32 := by
  pointwise [meanV]

theorem cent_at (p : FVec Ideal S256x512 .f32) (m : FVec Ideal S256x1 .f32) (r : Fin 256) (f : Fin 512) :
    cent p m (ix2 r f) = p (ix2 r f) - m (ix2 r 0) := by
  pointwise [cent]

theorem rstdV_at (c0 c1 c2 c3 : FVec Ideal S256x512 .f32) (r : Fin 256) :
    rstdV c0 c1 c2 c3 (ix2 r 0) = Ideal.rsqrt ((∑ f : Fin 512, c0 (ix2 r f) * c0 (ix2 r f) + ∑ f : Fin 512, c1 (ix2 r f) * c1 (ix2 r f) + ∑ f : Fin 512, c2 (ix2 r f) * c2 (ix2 r f) + ∑ f : Fin 512, c3 (ix2 r f) * c3 (ix2 r f)) * Ideal.ofBits .f32 0x3A000000#32 + eps32) := by
  pointwise [rstdV, rsum4, rsum]

theorem vslice_at (o : Nat) (h : S256x512.Slices ![0, o] S256x256) (ho : o + 256 ≤ 512) (c : FVec Ideal S256x512 .f32) (s : FVec Ideal S256x1 .f32) (g b : Vec Ideal S1x256 .f32) (r : Fin 256) (f : Fin 256) :
    vslice o h c s g b (ix2 r f) = c (ix2 r ⟨o + f.val, by omega⟩) * s (ix2 r 0) * g (ix2 0 f) + b (ix2 0 f) := by
  pointwise [vslice]

/-- The causal mask, read at a row and a column. -/
theorem mask_eq (i t : Fin 128) (a : EReal) :
    Scalar.select (IntOp.cmpi .sge (BitVec.ofNat 32 i.val) (BitVec.ofNat 32 t.val)) a 0 = if t ≤ i then a else 0 := by
  rw [WordCmp.cmpi_sge_eq, WordCmp.toInt_ofNat_of_lt (by omega), WordCmp.toInt_ofNat_of_lt (by omega)]
  by_cases h : t ≤ i
  · have h' : (t.val : Int) ≤ (i.val : Int) := by exact_mod_cast h
    simp [h, h', Scalar.select]
  · have h' : ¬ (t.val : Int) ≤ (i.val : Int) := fun q => h (by exact_mod_cast q)
    rw [if_neg h, decide_eq_false h']
    rfl

theorem mixed_at (p q : Nat) (hp : p = 0 ∨ p = 128) (hq : q + 128 ≤ 256) (h0 : S256x256.Slices ![0, q] S128x128) (h1 : S256x256.Slices ![128, q] S128x128) (w : Vec Ideal S1x128x128 .bf16) (v : FVec Ideal S256x256 .bf16) (i j : Fin 128) :
    mixed q h0 h1 w v (ix2 i ⟨p + j.val, by omega⟩) = ∑ t : Fin 128, if t ≤ i then w (ix3 0 i t) * v (ix2 ⟨p + t.val, by omega⟩ ⟨q + j.val, by omega⟩) else 0 := by
  rcases hp with rfl | rfl
  · pointwise [mixed, k0_pay2]
    exact Finset.sum_congr rfl fun t _ => mask_eq i t _
  · pointwise [mixed, k0_pay2]
    exact Finset.sum_congr rfl fun t _ => mask_eq i t _

theorem piece_at (p q : Nat) (hp : p = 0 ∨ p = 128) (hq : q + 128 ≤ 256) (hu : S256x256.Slices ![p, q] S128x128) (hm : S128x256.Slices ![0, p] S128x128) (u : FVec Ideal S256x256 .f32) (m : FVec Ideal S128x256 .f32) (s : Vec Ideal S1x128x128 .f32) (i j : Fin 128) :
    piece p q hu hm u m s (ix2 i j) = u (ix2 ⟨p + i.val, by omega⟩ ⟨q + j.val, by omega⟩) * (m (ix2 i ⟨p + j.val, by omega⟩) + s (ix3 0 i j)) := by
  pointwise [piece]

end Cert.KernelIdeal.Val
end
-- ==== Proof.SgBlock.lean ====
module

public import proofs.«01_k».proof.Proof.SgCanon

/-!
# The spatial-gating kernel's block, read at an index

The stored pieces are the canonical vector stages over the block's reads.
-/

@[expose] public section

set_option maxRecDepth 16384

noncomputable section

namespace Cert.KernelIdeal.Val

open Cert.KernelIdeal Cert.KernelIdeal.Gen Idealize.ShloMosaic Idealize.ShloMosaic.TcCoe Idealize.SL.Sem
open Cert.Rows

/-- The buffers the token mixing reads, and what they hold. -/
structure Args where
  a1 : Memref sig .tc .vmem S1024x1024 .f32
  h1 : a1.IsWhole
  a2 : Memref sig .tc .vmem S1024x4096 .bf16
  h2 : a2.IsWhole
  a3 : Memref sig .tc .vmem S1x4096 .f32
  h3 : a3.IsWhole
  a4 : Memref sig .tc .vmem S1x2048 .f32
  h4 : a4.IsWhole
  a5 : Memref sig .tc .vmem S1x2048 .f32
  h5 : a5.IsWhole
  a6 : Memref sig .tc .vmem S16x128x128 .bf16
  h6 : a6.IsWhole
  a7 : Memref sig .tc .vmem S16x128x128 .f32
  h7 : a7.IsWhole
  x0 : Vec Ideal S1024x1024 .f32
  x1 : Vec Ideal S1024x4096 .bf16
  x2 : Vec Ideal S1x4096 .f32
  x3 : Vec Ideal S1x2048 .f32
  x4 : Vec Ideal S1x2048 .f32
  x5 : Vec Ideal S16x128x128 .bf16
  x6 : Vec Ideal S16x128x128 .f32

namespace Args

variable (A : Args)

theorem inb2 {n m a b p q : Nat} (h : p + a ≤ n) (k : q + b ≤ m) : ∀ d, (![p, q] : Fin 2 → Nat) d + (![a, b] : Fin 2 → Nat) d ≤ (![n, m] : Fin 2 → Nat) d := by
  intro d
  fin_cases d
  · exact h
  · exact k

theorem inb3 {n p : Nat} (h : p + 1 ≤ n) : ∀ d, (![p, 0, 0] : Fin 3 → Nat) d + (![1, 128, 128] : Fin 3 → Nat) d ≤ (![n, 128, 128] : Fin 3 → Nat) d := by
  intro d
  fin_cases d
  · exact h
  · exact le_refl _
  · exact le_refl _

/-- Sub-tile `t`'s rows. -/
def X (t : Fin 4) : Vec Ideal S256x1024 .f32 :=
  View.readAt (Elt Ideal) A.a1.view (Rect.unit (s := S1024x1024) ![256 * t.val, 0] S256x1024.size (inb2 (by omega) (by omega))).toLoadRect (A.h1.unread A.x0)

/-- Part `k` of the second half's projection, its bias, and the activations. -/
def Wv (k : Fin 4) : Vec Ideal S1024x512 .bf16 :=
  View.readAt (Elt Ideal) A.a2.view (Rect.unit (s := S1024x4096) ![0, 2048 + 512 * k.val] S1024x512.size (inb2 (by omega) (by omega))).toLoadRect (A.h2.unread A.x1)
def Bv (k : Fin 4) : Vec Ideal S1x512 .f32 :=
  View.readAt (Elt Ideal) A.a3.view (Rect.unit (s := S1x4096) ![0, 2048 + 512 * k.val] S1x512.size (inb2 (by omega) (by omega))).toLoadRect (A.h3.unread A.x2)
def V (t k : Fin 4) : FVec Ideal S256x512 .f32 := vpart (A.X t) (A.Wv k) (A.Bv k)

/-- The second half's mean, its centred parts and its reciprocal deviation. -/
def M (t : Fin 4) : FVec Ideal S256x1 .f32 := meanV (A.V t 0) (A.V t 1) (A.V t 2) (A.V t 3)
def C (t k : Fin 4) : FVec Ideal S256x512 .f32 := cent (A.V t k) (A.M t)
def R (t : Fin 4) : FVec Ideal S256x1 .f32 := rstdV (A.C t 0) (A.C t 1) (A.C t 2) (A.C t 3)

/-- Pass `p`'s projection, bias, scale and shift. -/
def Wu (p : Fin 8) : Vec Ideal S1024x256 .bf16 :=
  View.readAt (Elt Ideal) A.a2.view (Rect.unit (s := S1024x4096) ![0, 256 * p.val] S1024x256.size (inb2 (by omega) (by omega))).toLoadRect (A.h2.unread A.x1)
def Bu (p : Fin 8) : Vec Ideal S1x256 .f32 :=
  View.readAt (Elt Ideal) A.a3.view (Rect.unit (s := S1x4096) ![0, 256 * p.val] S1x256.size (inb2 (by omega) (by omega))).toLoadRect (A.h3.unread A.x2)
def G (p : Fin 8) : Vec Ideal S1x256 .f32 :=
  View.readAt (Elt Ideal) A.a4.view (Rect.unit (s := S1x2048) ![0, 256 * p.val] S1x256.size (inb2 (by omega) (by omega))).toLoadRect (A.h4.unread A.x3)
def B (p : Fin 8) : Vec Ideal S1x256 .f32 :=
  View.readAt (Elt Ideal) A.a5.view (Rect.unit (s := S1x2048) ![0, 256 * p.val] S1x256.size (inb2 (by omega) (by omega))).toLoadRect (A.h5.unread A.x4)

theorem half_lt (p : Fin 8) : p.val / 2 < 4 := by omega

theorem cuts (p : Fin 8) : S256x512.Slices ![0, 256 * (p.val % 2)] S256x256 := ⟨rfl, by intro d; fin_cases d; exacts [le_refl _, (by show 256 * (p.val % 2) + 256 ≤ 512; omega)]⟩

def U (t : Fin 4) (p : Fin 8) : FVec Ideal S256x256 .f32 := upart (A.X t) (A.Wu p) (A.Bu p)
def N (t : Fin 4) (p : Fin 8) : FVec Ideal S256x256 .bf16 :=
  vslice (256 * (p.val % 2)) (cuts p) (A.C t ⟨p.val / 2, half_lt p⟩) (A.R t) (A.G p) (A.B p)

/-- A group's mixing weights and its bias, held once per lane. -/
def Ws (g : Fin 16) : Vec Ideal S1x128x128 .bf16 :=
  View.readAt (Elt Ideal) A.a6.view (Rect.unit (s := S16x128x128) ![g.val, 0, 0] S1x128x128.size (inb3 (by omega))).toLoadRect (A.h6.unread A.x5)
def Bs (g : Fin 16) : Vec Ideal S1x128x128 .f32 :=
  View.readAt (Elt Ideal) A.a7.view (Rect.unit (s := S16x128x128) ![g.val, 0, 0] S1x128x128.size (inb3 (by omega))).toLoadRect (A.h7.unread A.x6)

theorem cutn (n e : Fin 2) : S256x256.Slices ![128 * n.val, 128 * e.val] S128x128 :=
  ⟨rfl, by intro d; fin_cases d; exacts [(by show 128 * n.val + 128 ≤ 256; omega), (by show 128 * e.val + 128 ≤ 256; omega)]⟩
theorem cutm (n : Fin 2) : S128x256.Slices ![0, 128 * n.val] S128x128 :=
  ⟨rfl, by intro d; fin_cases d; exacts [le_refl _, (by show 128 * n.val + 128 ≤ 256; omega)]⟩

theorem grp_lt (p : Fin 8) (e : Fin 2) : 2 * p.val + e.val < 16 := by omega

/-- What sub-tile `t`, pass `p`, group `e` of the pass stores for chunk `n`. -/
def P (t : Fin 4) (p : Fin 8) (e n : Fin 2) : FVec Ideal S128x128 .bf16 :=
  piece (128 * n.val) (128 * e.val) (cutn n e) (cutm n) (A.U t p) (mixed (128 * e.val) (cutn 0 e) (cutn 1 e) (A.Ws ⟨2 * p.val + e.val, grp_lt p e⟩) (A.N t p)) (A.Bs ⟨2 * p.val + e.val, grp_lt p e⟩)

theorem X_at (t : Fin 4) (r : Fin 256) (k : Fin 1024) : A.X t (ix2 r k) = A.x0 (ix2 ⟨256 * t.val + r.val, by omega⟩ k) := by
  unfold X; rw [View.readAt_eq_ld, A.h1.read_unread]; pointwise []
theorem Wv_at (q : Fin 4) (k : Fin 1024) (f : Fin 512) : A.Wv q (ix2 k f) = A.x1 (ix2 k ⟨2048 + 512 * q.val + f.val, by omega⟩) := by
  unfold Wv; rw [View.readAt_eq_ld, A.h2.read_unread]; pointwise []
theorem Bv_at (q : Fin 4) (f : Fin 512) : A.Bv q (ix2 0 f) = A.x2 (ix2 0 ⟨2048 + 512 * q.val + f.val, by omega⟩) := by
  unfold Bv; rw [View.readAt_eq_ld, A.h3.read_unread]; pointwise []
theorem Wu_at (p : Fin 8) (k : Fin 1024) (f : Fin 256) : A.Wu p (ix2 k f) = A.x1 (ix2 k ⟨256 * p.val + f.val, by omega⟩) := by
  unfold Wu; rw [View.readAt_eq_ld, A.h2.read_unread]; pointwise []
theorem Bu_at (p : Fin 8) (f : Fin 256) : A.Bu p (ix2 0 f) = A.x2 (ix2 0 ⟨256 * p.val + f.val, by omega⟩) := by
  unfold Bu; rw [View.readAt_eq_ld, A.h3.read_unread]; pointwise []
theorem G_at (p : Fin 8) (f : Fin 256) : A.G p (ix2 0 f) = A.x3 (ix2 0 ⟨256 * p.val + f.val, by omega⟩) := by
  unfold G; rw [View.readAt_eq_ld, A.h4.read_unread]; pointwise []
theorem B_at (p : Fin 8) (f : Fin 256) : A.B p (ix2 0 f) = A.x4 (ix2 0 ⟨256 * p.val + f.val, by omega⟩) := by
  unfold B; rw [View.readAt_eq_ld, A.h5.read_unread]; pointwise []
theorem Ws_at (g : Fin 16) (i t : Fin 128) : A.Ws g (ix3 0 i t) = A.x5 (ix3 g i t) := by
  unfold Ws; rw [View.readAt_eq_ld, A.h6.read_unread]; pointwise []
theorem Bs_at (g : Fin 16) (i t : Fin 128) : A.Bs g (ix3 0 i t) = A.x6 (ix3 g i t) := by
  unfold Bs; rw [View.readAt_eq_ld, A.h7.read_unread]; pointwise []

/-- A row of the block. -/
def row (r : Fin 1024) : Fin 1024 → EReal := fun k => A.x0 (ix2 r k)
/-- A row of sub-tile `t`. -/
def trow (t : Fin 4) (r : Fin 256) : Fin 1024 → EReal := A.row ⟨256 * t.val + r.val, by omega⟩
def w (k : Fin 1024) (n : Fin 4096) : EReal := A.x1 (ix2 k n)
def o (n : Fin 4096) : EReal := A.x2 (ix2 0 n)

theorem V_at (t q : Fin 4) (r : Fin 256) (f : Fin 512) :
    A.V t q (ix2 r f) = vRow geluK (A.trow t r) A.w A.o ⟨512 * q.val + f.val, by omega⟩ := by
  have e : (⟨2048 + 512 * q.val + f.val, by omega⟩ : Fin 4096) = ⟨2048 + (512 * q.val + f.val), by omega⟩ := Fin.ext (Nat.add_assoc _ _ _)
  unfold V vRow preact
  rw [vpart_at]
  simp only [X_at, Wv_at, Bv_at, e]
  rfl

theorem M_at (t : Fin 4) (r : Fin 256) : A.M t (ix2 r 0) = mean2 (vRow geluK (A.trow t r) A.w A.o) := by
  unfold M mean2
  rw [meanV_at, mul_r2048, rsum4_at, sum_2048]
  simp only [V_at]
  rfl

theorem C_at (t q : Fin 4) (r : Fin 256) (f : Fin 512) :
    A.C t q (ix2 r f) = vRow geluK (A.trow t r) A.w A.o ⟨512 * q.val + f.val, by omega⟩ - mean2 (vRow geluK (A.trow t r) A.w A.o) := by
  unfold C
  rw [cent_at, V_at, M_at]

theorem R_at (t : Fin 4) (r : Fin 256) :
    A.R t (ix2 r 0) = Ideal.rsqrt (mean2 (fun k => (vRow geluK (A.trow t r) A.w A.o k - mean2 (vRow geluK (A.trow t r) A.w A.o)) * (vRow geluK (A.trow t r) A.w A.o k - mean2 (vRow geluK (A.trow t r) A.w A.o))) + eps32) := by
  unfold R
  rw [rstdV_at]
  simp only [C_at]
  generalize vRow geluK (A.trow t r) A.w A.o = v
  generalize mean2 v = m
  unfold mean2
  rw [mul_r2048, sum_2048]
  rfl

theorem N_at (t : Fin 4) (p : Fin 8) (r f : Fin 256) :
    A.N t p (ix2 r f) = layerNorm2 (vRow geluK (A.trow t r) A.w A.o) (A.x3 (ix2 0 ⟨256 * p.val + f.val, by omega⟩)) (A.x4 (ix2 0 ⟨256 * p.val + f.val, by omega⟩)) ⟨256 * p.val + f.val, by omega⟩ := by
  have e : (⟨512 * (p.val / 2) + (256 * (p.val % 2) + f.val), by omega⟩ : Fin 2048) = ⟨256 * p.val + f.val, by omega⟩ := Fin.ext (by show 512 * (p.val / 2) + (256 * (p.val % 2) + f.val) = 256 * p.val + f.val; omega)
  unfold N layerNorm2
  rw [vslice_at _ _ (by omega), C_at, R_at, G_at, B_at]
  simp only [e]

theorem U_at (t : Fin 4) (p : Fin 8) (r f : Fin 256) :
    A.U t p (ix2 r f) = geluK (preact (A.trow t r) A.w A.o ⟨256 * p.val + f.val, by omega⟩) := by
  unfold U preact
  rw [upart_at]
  simp only [X_at, Wu_at, Bu_at]
  rfl

/-- The gated block, at a row and a column. -/
def gat (r : Fin 1024) (n : Fin 2048) : EReal :=
  gated geluK (fun t => A.row ⟨128 * (r.val / 128) + t.val, by omega⟩) A.w A.o (fun q => A.x3 (ix2 0 q)) (fun q => A.x4 (ix2 0 q)) (fun g i t => A.x5 (ix3 g i t))
    (A.x6 (ix3 ⟨n.val / 128, by omega⟩ ⟨r.val % 128, by omega⟩ ⟨n.val % 128, by omega⟩)) ⟨r.val % 128, by omega⟩ n

theorem P_at (t : Fin 4) (p : Fin 8) (e n : Fin 2) (i j : Fin 128) :
    A.P t p e n (ix2 i j) = A.gat ⟨256 * t.val + 128 * n.val + i.val, by omega⟩ ⟨256 * p.val + 128 * e.val + j.val, by omega⟩ := by
  have e1 : (256 * p.val + 128 * e.val + j.val) / 128 = 2 * p.val + e.val := by omega
  have e1' : (256 * p.val + (128 * e.val + j.val)) / 128 = 2 * p.val + e.val := by omega
  have e2' : (256 * p.val + (128 * e.val + j.val)) % 128 = j.val := by omega
  have e2 : (256 * p.val + 128 * e.val + j.val) % 128 = j.val := by omega
  have e3 : (256 * t.val + 128 * n.val + i.val) % 128 = i.val := by omega
  have e4 : (256 * t.val + 128 * n.val + i.val) / 128 = 2 * t.val + n.val := by omega
  have e5 : ∀ s : Nat, 128 * (2 * t.val + n.val) + s = 256 * t.val + (128 * n.val + s) := fun s => by omega
  have e6 : 256 * p.val + 128 * e.val + j.val = 256 * p.val + (128 * e.val + j.val) := by omega
  have hn : 128 * n.val = 0 ∨ 128 * n.val = 128 := by omega
  unfold P gat gated
  rw [piece_at _ _ hn (by omega), mixed_at _ _ hn (by omega), U_at, Bs_at]
  simp only [N_at, Ws_at, e1, e2, e1', e2', e3, e4, e5, e6, trow]

end Args

end Cert.KernelIdeal.Val
end
-- ==== Proof.SgPieces.lean ====
module

public import proofs.«01_k».proof.Proof.SgBlock
public import Idealize.ShloMosaic.Lib.Pipeline.ReadBack

/-!
# The spatial-gating kernel's stored pieces, and its block read at an index

The scratch's pieces are the canonical ones; the gated rows read back from it are the gated block's, and the
four output pieces are the layer normalisation of the residual plus the gated rows times the output projection.
-/

@[expose] public section

set_option maxRecDepth 16384

noncomputable section

namespace Cert.KernelIdeal.Val

open Cert.KernelIdeal Cert.KernelIdeal.Gen Idealize.ShloMosaic Idealize.ShloMosaic.TcCoe Idealize.SL.Sem
open Cert.Rows

namespace Args

variable (A : Args)

/-- The gated block as a function of the index. -/
def gatV : S1024x2048.Idx → EReal := fun y => A.gat (y 0) (y 1)

theorem P_eq (t : Fin 4) (p : Fin 8) (e n : Fin 2) (x : S128x128.Idx) :
    A.P t p e n x = A.gatV ((Rect.unit (s := S1024x2048) ![256 * t.val + 128 * n.val, 256 * p.val + 128 * e.val] S128x128.size (inb2 (by omega) (by omega))).emb x) := by
  idx_vars x
  rw [P_at]
  unfold gatV
  refine congrArg₂ A.gat (Fin.ext ?_) (Fin.ext ?_)
  · show 256 * t.val + 128 * n.val + x0.val = 256 * t.val + 128 * n.val + 1 * x0.val; rw [Nat.one_mul]
  · show 256 * p.val + 128 * e.val + x1.val = 256 * p.val + 128 * e.val + 1 * x1.val; rw [Nat.one_mul]

/-- The list holds a block of 128 by 128 at every chunk of sub-tile `t` and every group. -/
def has (L : List (View.Piece (Elt Ideal) S1024x2048 .bf16)) (t : Nat) : Bool :=
  (List.range 2).all fun n => (List.range 16).all fun g => L.any fun p =>
    decide (p.1.off 0 = 256 * t + 128 * n) && decide (p.1.off 1 = 128 * g) && decide (p.1.size 0 = 128) && decide (p.1.size 1 = 128) && decide (p.1.stride 0 = 1) && decide (p.1.stride 1 = 1)

theorem mem_of_has (L : List (View.Piece (Elt Ideal) S1024x2048 .bf16)) (t : Nat) (h : has L t = true) (r : Fin 1024) (n : Fin 2048) (hr : r.val / 256 = t) :
    ∃ p ∈ L, (ix2 r n : S1024x2048.Idx) ∈ p.1.set := by
  unfold has at h
  have h1 := List.all_eq_true.mp h (r.val % 256 / 128) (List.mem_range.mpr (by omega))
  have h2 := List.all_eq_true.mp h1 (n.val / 128) (List.mem_range.mpr (by omega))
  obtain ⟨p, hp, hq⟩ := List.any_eq_true.mp h2
  simp only [Bool.and_eq_true, decide_eq_true_eq] at hq
  obtain ⟨⟨⟨⟨⟨q0, q1⟩, q2⟩, q3⟩, q4⟩, q5⟩ := hq
  refine ⟨p, hp, (LoadRect.mem_set _).mpr fun a => ?_⟩
  fin_cases a
  · refine ⟨r.val % 128, ?_, ?_⟩
    · show r.val % 128 < p.1.size 0; omega
    · show r.val = p.1.off 0 + p.1.stride 0 * (r.val % 128); rw [q0, q4]; omega
  · refine ⟨n.val % 128, ?_, ?_⟩
    · show n.val % 128 < p.1.size 1; omega
    · show n.val = p.1.off 1 + p.1.stride 1 * (n.val % 128); rw [q1, q5]; omega

/-- Rows of the scratch read back, once all of a sub-tile's pieces are among the stored ones. -/
theorem read_at (L : List (View.Piece (Elt Ideal) S1024x2048 .bf16)) (hL : View.PiecesOf (Val := Elt Ideal) A.gatV L) (t : Fin 4) (h : has L t.val = true)
    (v : View sig .tc .vmem S1024x2048 .bf16) (inb) (r : Fin 256) (n : Fin 2048) :
    v.readCov L (Rect.unit (s := S1024x2048) ![256 * t.val, 0] S256x2048.size inb).toLoadRect (ix2 r n) = A.gat ⟨256 * t.val + r.val, by omega⟩ n := by
  rw [View.readCov_eq_canon']
  have e : (Rect.unit (s := S1024x2048) ![256 * t.val, 0] S256x2048.size inb).toLoadRect.idx (ix2 r n) = (ix2 (⟨256 * t.val + r.val, by omega⟩ : Fin 1024) n : S1024x2048.Idx) := by
    funext a
    fin_cases a
    · exact Fin.ext (by show 256 * t.val + 1 * r.val = 256 * t.val + r.val; omega)
    · exact Fin.ext (by show 0 + 1 * n.val = n.val; omega)
  show View.canon L ((Rect.unit (s := S1024x2048) ![256 * t.val, 0] S256x2048.size inb).toLoadRect.idx (ix2 r n)) = _
  rw [e, View.canon_apply_of_pieces A.gatV L hL.mem _ (mem_of_has L t.val h _ _ (by show (256 * t.val + r.val) / 256 = t.val; omega))]
  rfl

theorem hs32 (c : Dev nD) : View.PiecesOf (Val := Elt Ideal) A.gatV (kernelRun0_A.sl.HS0_32 (F := Ideal) c A.a1 A.h1 A.a2 A.h2 A.a3 A.h3 A.a4 A.h4 A.a5 A.h5 A.a6 A.h6 A.a7 A.h7 A.x0 A.x1 A.x2 A.x3 A.x4 A.x5 A.x6) :=
  ⟨A.P_eq 0 7 1 1,
   A.P_eq 0 7 1 0,
   A.P_eq 0 7 0 1,
   A.P_eq 0 7 0 0,
   A.P_eq 0 6 1 1,
   A.P_eq 0 6 1 0,
   A.P_eq 0 6 0 1,
   A.P_eq 0 6 0 0,
   A.P_eq 0 5 1 1,
   A.P_eq 0 5 1 0,
   A.P_eq 0 5 0 1,
   A.P_eq 0 5 0 0,
   A.P_eq 0 4 1 1,
   A.P_eq 0 4 1 0,
   A.P_eq 0 4 0 1,
   A.P_eq 0 4 0 0,
   A.P_eq 0 3 1 1,
   A.P_eq 0 3 1 0,
   A.P_eq 0 3 0 1,
   A.P_eq 0 3 0 0,
   A.P_eq 0 2 1 1,
   A.P_eq 0 2 1 0,
   A.P_eq 0 2 0 1,
   A.P_eq 0 2 0 0,
   A.P_eq 0 1 1 1,
   A.P_eq 0 1 1 0,
   A.P_eq 0 1 0 1,
   A.P_eq 0 1 0 0,
   A.P_eq 0 0 1 1,
   A.P_eq 0 0 1 0,
   A.P_eq 0 0 0 1,
   A.P_eq 0 0 0 0, trivial⟩

theorem hs64 (c : Dev nD) : View.PiecesOf (Val := Elt Ideal) A.gatV (kernelRun0_A.sl.HS0_64 (F := Ideal) c A.a1 A.h1 A.a2 A.h2 A.a3 A.h3 A.a4 A.h4 A.a5 A.h5 A.a6 A.h6 A.a7 A.h7 A.x0 A.x1 A.x2 A.x3 A.x4 A.x5 A.x6) :=
  ⟨A.P_eq 1 7 1 1,
   A.P_eq 1 7 1 0,
   A.P_eq 1 7 0 1,
   A.P_eq 1 7 0 0,
   A.P_eq 1 6 1 1,
   A.P_eq 1 6 1 0,
   A.P_eq 1 6 0 1,
   A.P_eq 1 6 0 0,
   A.P_eq 1 5 1 1,
   A.P_eq 1 5 1 0,
   A.P_eq 1 5 0 1,
   A.P_eq 1 5 0 0,
   A.P_eq 1 4 1 1,
   A.P_eq 1 4 1 0,
   A.P_eq 1 4 0 1,
   A.P_eq 1 4 0 0,
   A.P_eq 1 3 1 1,
   A.P_eq 1 3 1 0,
   A.P_eq 1 3 0 1,
   A.P_eq 1 3 0 0,
   A.P_eq 1 2 1 1,
   A.P_eq 1 2 1 0,
   A.P_eq 1 2 0 1,
   A.P_eq 1 2 0 0,
   A.P_eq 1 1 1 1,
   A.P_eq 1 1 1 0,
   A.P_eq 1 1 0 1,
   A.P_eq 1 1 0 0,
   A.P_eq 1 0 1 1,
   A.P_eq 1 0 1 0,
   A.P_eq 1 0 0 1,
   A.P_eq 1 0 0 0, hs32 A c⟩

theorem hs96 (c : Dev nD) : View.PiecesOf (Val := Elt Ideal) A.gatV (kernelRun0_A.sl.HS0_96 (F := Ideal) c A.a1 A.h1 A.a2 A.h2 A.a3 A.h3 A.a4 A.h4 A.a5 A.h5 A.a6 A.h6 A.a7 A.h7 A.x0 A.x1 A.x2 A.x3 A.x4 A.x5 A.x6) :=
  ⟨A.P_eq 2 7 1 1,
   A.P_eq 2 7 1 0,
   A.P_eq 2 7 0 1,
   A.P_eq 2 7 0 0,
   A.P_eq 2 6 1 1,
   A.P_eq 2 6 1 0,
   A.P_eq 2 6 0 1,
   A.P_eq 2 6 0 0,
   A.P_eq 2 5 1 1,
   A.P_eq 2 5 1 0,
   A.P_eq 2 5 0 1,
   A.P_eq 2 5 0 0,
   A.P_eq 2 4 1 1,
   A.P_eq 2 4 1 0,
   A.P_eq 2 4 0 1,
   A.P_eq 2 4 0 0,
   A.P_eq 2 3 1 1,
   A.P_eq 2 3 1 0,
   A.P_eq 2 3 0 1,
   A.P_eq 2 3 0 0,
   A.P_eq 2 2 1 1,
   A.P_eq 2 2 1 0,
   A.P_eq 2 2 0 1,
   A.P_eq 2 2 0 0,
   A.P_eq 2 1 1 1,
   A.P_eq 2 1 1 0,
   A.P_eq 2 1 0 1,
   A.P_eq 2 1 0 0,
   A.P_eq 2 0 1 1,
   A.P_eq 2 0 1 0,
   A.P_eq 2 0 0 1,
   A.P_eq 2 0 0 0, hs64 A c⟩

theorem hs128 (c : Dev nD) : View.PiecesOf (Val := Elt Ideal) A.gatV (kernelRun0_A.sl.HS0_128 (F := Ideal) c A.a1 A.h1 A.a2 A.h2 A.a3 A.h3 A.a4 A.h4 A.a5 A.h5 A.a6 A.h6 A.a7 A.h7 A.x0 A.x1 A.x2 A.x3 A.x4 A.x5 A.x6) :=
  ⟨A.P_eq 3 7 1 1,
   A.P_eq 3 7 1 0,
   A.P_eq 3 7 0 1,
   A.P_eq 3 7 0 0,
   A.P_eq 3 6 1 1,
   A.P_eq 3 6 1 0,
   A.P_eq 3 6 0 1,
   A.P_eq 3 6 0 0,
   A.P_eq 3 5 1 1,
   A.P_eq 3 5 1 0,
   A.P_eq 3 5 0 1,
   A.P_eq 3 5 0 0,
   A.P_eq 3 4 1 1,
   A.P_eq 3 4 1 0,
   A.P_eq 3 4 0 1,
   A.P_eq 3 4 0 0,
   A.P_eq 3 3 1 1,
   A.P_eq 3 3 1 0,
   A.P_eq 3 3 0 1,
   A.P_eq 3 3 0 0,
   A.P_eq 3 2 1 1,
   A.P_eq 3 2 1 0,
   A.P_eq 3 2 0 1,
   A.P_eq 3 2 0 0,
   A.P_eq 3 1 1 1,
   A.P_eq 3 1 1 0,
   A.P_eq 3 1 0 1,
   A.P_eq 3 1 0 0,
   A.P_eq 3 0 1 1,
   A.P_eq 3 0 1 0,
   A.P_eq 3 0 0 1,
   A.P_eq 3 0 0 0, hs96 A c⟩

theorem rd0 (c : Dev nD) (a12 : Memref sig .tc .vmem S1024x2048 .bf16) (r : Fin 256) (n : Fin 2048) :
    kernelRun0_A.sl.v926 (F := Ideal) c A.a1 A.h1 A.a2 A.h2 A.a3 A.h3 A.a4 A.h4 A.a5 A.h5 A.a6 A.h6 A.a7 A.h7 a12 A.x0 A.x1 A.x2 A.x3 A.x4 A.x5 A.x6 (ix2 r n) = A.gat ⟨256 * (0 : Fin 4).val + r.val, by omega⟩ n :=
  A.read_at _ (A.hs32 c) 0 (by sl_kernel_rfl) a12.view _ r n

theorem rd1 (c : Dev nD) (a12 : Memref sig .tc .vmem S1024x2048 .bf16) (r : Fin 256) (n : Fin 2048) :
    kernelRun0_A.sl.v1766 (F := Ideal) c A.a1 A.h1 A.a2 A.h2 A.a3 A.h3 A.a4 A.h4 A.a5 A.h5 A.a6 A.h6 A.a7 A.h7 a12 A.x0 A.x1 A.x2 A.x3 A.x4 A.x5 A.x6 (ix2 r n) = A.gat ⟨256 * (1 : Fin 4).val + r.val, by omega⟩ n :=
  A.read_at _ (A.hs64 c) 1 (by sl_kernel_rfl) a12.view _ r n

theorem rd2 (c : Dev nD) (a12 : Memref sig .tc .vmem S1024x2048 .bf16) (r : Fin 256) (n : Fin 2048) :
    kernelRun0_A.sl.v2606 (F := Ideal) c A.a1 A.h1 A.a2 A.h2 A.a3 A.h3 A.a4 A.h4 A.a5 A.h5 A.a6 A.h6 A.a7 A.h7 a12 A.x0 A.x1 A.x2 A.x3 A.x4 A.x5 A.x6 (ix2 r n) = A.gat ⟨256 * (2 : Fin 4).val + r.val, by omega⟩ n :=
  A.read_at _ (A.hs96 c) 2 (by sl_kernel_rfl) a12.view _ r n

theorem rd3 (c : Dev nD) (a12 : Memref sig .tc .vmem S1024x2048 .bf16) (r : Fin 256) (n : Fin 2048) :
    kernelRun0_A.sl.v3331 (F := Ideal) c A.a1 A.h1 A.a2 A.h2 A.a3 A.h3 A.a4 A.h4 A.a5 A.h5 A.a6 A.h6 A.a7 A.h7 a12 A.x0 A.x1 A.x2 A.x3 A.x4 A.x5 A.x6 (ix2 r n) = A.gat ⟨256 * (3 : Fin 4).val + r.val, by omega⟩ n :=
  A.read_at _ (A.hs128 c) 3 (by sl_kernel_rfl) a12.view _ r n

end Args

end Cert.KernelIdeal.Val
end
-- ==== Proof.SgOut.lean ====
module

public import proofs.«01_k».proof.Proof.SgPieces

/-!
# The spatial-gating kernel's output block, read at an index
-/

@[expose] public section

set_option maxRecDepth 16384

noncomputable section

namespace Cert.KernelIdeal.Val

open Cert.KernelIdeal Cert.KernelIdeal.Gen Idealize.ShloMosaic Idealize.ShloMosaic.TcCoe Idealize.SL.Sem
open Cert.Rows

/-- The residual plus the gated rows times the output projection. -/
def resid (h : Vec Ideal S256x2048 .bf16) (w : Vec Ideal S2048x1024 .bf16) (x : Vec Ideal S256x1024 .f32) : FVec Ideal S256x1024 .f32 :=
  addf (mulf (broadcast S256x1024 (Scalar.ofBits .f32 0x3FD744FD#32)) (k0_pay3 x)) (k0_pay126 h w)

/-- The mean of 1024 columns. -/
def meanK (s : FVec Ideal S256x1024 .f32) : FVec Ideal S256x1 .f32 :=
  divf (shapeCast S256x1 (multiReduction .add [1] S256 s 0x00000000#32 reduces_S256x1024_S256 (.inl rfl) rfl) shapeCasts_S256_S256x1) (broadcast S256x1 (Scalar.ofBits .f32 0x44800000#32))

/-- The layer normalisation of 1024 columns. -/
def normK (s : FVec Ideal S256x1024 .f32) (g b : Vec Ideal S1x1024 .f32) : FVec Ideal S256x1024 .f32 :=
  addf (mulf (mulf (subf s (broadcastTo S256x1024 (meanK s) broadcasts_S256x1_S256x1024))
    (broadcastTo S256x1024 (rsqrt (addf (meanK (mulf (subf s (broadcastTo S256x1024 (meanK s) broadcasts_S256x1_S256x1024)) (subf s (broadcastTo S256x1024 (meanK s) broadcasts_S256x1_S256x1024)))) (broadcast S256x1 (Scalar.ofBits .f32 0x3727C5AC#32)))) broadcasts_S256x1_S256x1024))
    (broadcastTo S256x1024 (shapeCast S1x1024 g shapeCasts_S1x1024_S1x1024) broadcasts_S1x1024_S256x1024))
    (broadcastTo S256x1024 (shapeCast S1x1024 b shapeCasts_S1x1024_S1x1024) broadcasts_S1x1024_S256x1024)

theorem resid_at (h : Vec Ideal S256x2048 .bf16) (w : Vec Ideal S2048x1024 .bf16) (x : Vec Ideal S256x1024 .f32) (r : Fin 256) (j : Fin 1024) :
    resid h w x (ix2 r j) = alpha32 * x (ix2 r j) + ∑ n : Fin 2048, h (ix2 r n) * w (ix2 n j) := by
  pointwise [resid, k0_pay3, k0_pay126]

theorem meanK_at (s : FVec Ideal S256x1024 .f32) (r : Fin 256) : meanK s (ix2 r 0) = mean (fun k => s (ix2 r k)) := by
  pointwise [meanK, mean]

theorem normK_at (s : FVec Ideal S256x1024 .f32) (g b : Vec Ideal S1x1024 .f32) (r : Fin 256) (j : Fin 1024) :
    normK s g b (ix2 r j) = layerNorm (fun k => s (ix2 r k)) (g (ix2 0 j)) (b (ix2 0 j)) j := by
  pointwise [normK, meanK, layerNorm, mean]

namespace Args

variable (A : Args)

/-- The output block as a function of the index, over the gated block. -/
def outG (w : Vec Ideal S2048x1024 .bf16) (g b : Vec Ideal S1x1024 .f32) : S1024x1024.Idx → EReal := fun y =>
  layerNorm (fun q => alpha32 * A.x0 (ix2 (y 0) q) + ∑ n : Fin 2048, A.gat (y 0) n * w (ix2 n q)) (g (ix2 0 (y 1))) (b (ix2 0 (y 1))) (y 1)

theorem O_eq (w : Vec Ideal S2048x1024 .bf16) (g b : Vec Ideal S1x1024 .f32) (w' : Vec Ideal S2048x1024 .bf16) (g' b' : Vec Ideal S1x1024 .f32)
    (hw : w' = w) (hg : g' = g) (hb : b' = b) (t : Fin 4) (h : Vec Ideal S256x2048 .bf16)
    (hh : ∀ (r : Fin 256) (n : Fin 2048), h (ix2 r n) = A.gat ⟨256 * t.val + r.val, by omega⟩ n) (x : S256x1024.Idx) :
    normK (resid h w' (A.X t)) g' b' x = A.outG w g b ((Rect.unit (s := S1024x1024) ![256 * t.val, 0] S256x1024.size (inb2 (by omega) (by omega))).emb x) := by
  subst hw hg hb
  idx_vars x
  rw [normK_at]
  simp only [resid_at, hh, X_at]
  have e : ((Rect.unit (s := S1024x1024) ![256 * t.val, 0] S256x1024.size (inb2 (by omega) (by omega))).emb (ix2 x0 x1)) = (ix2 (⟨256 * t.val + x0.val, by omega⟩ : Fin 1024) x1 : S1024x1024.Idx) := by
    funext a
    fin_cases a
    · exact Fin.ext (by show 256 * t.val + 1 * x0.val = 256 * t.val + x0.val; omega)
    · exact Fin.ext (by show 0 + 1 * x1.val = x1.val; omega)
  refine Eq.trans ?_ (congrArg (A.outG w' g' b') e.symm)
  rfl

end Args

theorem hz2 : (![0, 0] : Fin 2 → Nat) = fun _ => 0 := by decide

theorem out_eq (c : Dev nD) (i : grid0.Coords) (arg1 : Memref sig .tc .vmem S1024x1024 .f32) (harg1 : arg1.IsWhole) (arg2 : Memref sig .tc .vmem S1024x4096 .bf16) (harg2 : arg2.IsWhole) (arg3 : Memref sig .tc .vmem S1x4096 .f32) (harg3 : arg3.IsWhole) (arg4 : Memref sig .tc .vmem S1x2048 .f32) (harg4 : arg4.IsWhole) (arg5 : Memref sig .tc .vmem S1x2048 .f32) (harg5 : arg5.IsWhole) (arg6 : Memref sig .tc .vmem S16x128x128 .bf16) (harg6 : arg6.IsWhole) (arg7 : Memref sig .tc .vmem S16x128x128 .f32) (harg7 : arg7.IsWhole) (arg8 : Memref sig .tc .vmem S2048x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S1024x1024 .f32) (harg11 : arg11.IsWhole) (arg12 : Memref sig .tc .vmem S1024x2048 .bf16) (harg12 : arg12.IsWhole)
    (x0 : Vec Ideal S1024x1024 .f32) (x1 : Vec Ideal S1024x4096 .bf16) (x2 : Vec Ideal S1x4096 .f32) (x3 : Vec Ideal S1x2048 .f32) (x4 : Vec Ideal S1x2048 .f32) (x5 : Vec Ideal S16x128x128 .bf16) (x6 : Vec Ideal S16x128x128 .f32) (x7 : Vec Ideal S2048x1024 .bf16) (x8 : Vec Ideal S1x1024 .f32) (x9 : Vec Ideal S1x1024 .f32) (r : Fin 1024) (j : Fin 1024) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix2 r j) =
      layerNorm (fun q => alpha32 * x0 (ix2 r q) + ∑ n : Fin 2048, Args.gat ⟨arg1, harg1, arg2, harg2, arg3, harg3, arg4, harg4, arg5, harg5, arg6, harg6, arg7, harg7, x0, x1, x2, x3, x4, x5, x6⟩ r n * x7 (ix2 n q)) (x8 (ix2 0 j)) (x9 (ix2 0 j)) j := by
  let A : Args := ⟨arg1, harg1, arg2, harg2, arg3, harg3, arg4, harg4, arg5, harg5, arg6, harg6, arg7, harg7, x0, x1, x2, x3, x4, x5, x6⟩
  have e7 : View.readAt (Elt Ideal) arg8.view (Rect.unit (s := S2048x1024) ![0, 0] S2048x1024.size inb_S2048x1024_S2048x1024_0_0).toLoadRect (harg8.unread x7) = x7 := by
    rw [View.readAt_eq_ld, harg8.read_unread]; exact View.ld_unit_zero hz2 _ x7
  have e8 : View.readAt (Elt Ideal) arg9.view (Rect.unit (s := S1x1024) ![0, 0] S1x1024.size inb_S1x1024_S1x1024_0_0).toLoadRect (harg9.unread x8) = x8 := by
    rw [View.readAt_eq_ld, harg9.read_unread]; exact View.ld_unit_zero hz2 _ x8
  have e9 : View.readAt (Elt Ideal) arg10.view (Rect.unit (s := S1x1024) ![0, 0] S1x1024.size inb_S1x1024_S1x1024_0_0).toLoadRect (harg10.unread x9) = x9 := by
    rw [View.readAt_eq_ld, harg10.read_unread]; exact View.ld_unit_zero hz2 _ x9
  have hp : View.PiecesOf (Val := Elt Ideal) (A.outG x7 x8 x9) (kernelRun0_A (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9).1 :=
    ⟨Args.O_eq A x7 x8 x9 _ _ _ e7 e8 e9 3 (kernelRun0_A.sl.v3331 (F := Ideal) c arg1 harg1 arg2 harg2 arg3 harg3 arg4 harg4 arg5 harg5 arg6 harg6 arg7 harg7 arg12 x0 x1 x2 x3 x4 x5 x6) (A.rd3 c arg12),
     Args.O_eq A x7 x8 x9 _ _ _ e7 e8 e9 2 (kernelRun0_A.sl.v2606 (F := Ideal) c arg1 harg1 arg2 harg2 arg3 harg3 arg4 harg4 arg5 harg5 arg6 harg6 arg7 harg7 arg12 x0 x1 x2 x3 x4 x5 x6) (A.rd2 c arg12),
     Args.O_eq A x7 x8 x9 _ _ _ e7 e8 e9 1 (kernelRun0_A.sl.v1766 (F := Ideal) c arg1 harg1 arg2 harg2 arg3 harg3 arg4 harg4 arg5 harg5 arg6 harg6 arg7 harg7 arg12 x0 x1 x2 x3 x4 x5 x6) (A.rd1 c arg12),
     Args.O_eq A x7 x8 x9 _ _ _ e7 e8 e9 0 (kernelRun0_A.sl.v926 (F := Ideal) c arg1 harg1 arg2 harg2 arg3 harg3 arg4 harg4 arg5 harg5 arg6 harg6 arg7 harg7 arg12 x0 x1 x2 x3 x4 x5 x6) (A.rd0 c arg12), trivial⟩
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  rw [View.canon_apply_of_pieces (A.outG x7 x8 x9) _ hp.mem _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 _)]
  rfl

end Cert.KernelIdeal.Val
end
-- ==== Proof.SgArray.lean ====
module

public import proofs.«01_k».proof.Proof.SgOut

/-!
# The result array of the spatial-gating kernel

Every grid point writes back its block of one array, `result`, whose rows are `sgRow` of the rows of the arguments.
-/

@[expose] public section

set_option maxRecDepth 16384

noncomputable section

namespace Cert.KernelIdeal.Val

open Cert.KernelIdeal Cert.KernelIdeal.Gen Idealize.ShloMosaic Idealize.ShloMosaic.TcCoe Idealize.SL.Sem
open Idealize.ShloMosaic.Pipeline (Dat)
open Cert.Rows

variable (m : (ℓ : Loc nD τ sig) → Buf (Elt Ideal) ℓ) (ρ : Dev nD → PrngReg)

/-- Row `R` of an argument, its two leading axes laid end to end. -/
def rowOf (x : S8x4096x1024.Idx → EReal) (R : Fin 32768) (k : Fin 1024) : EReal :=
  x (ix3 (⟨R.val / 4096, by omega⟩ : Fin 8) (⟨R.val % 4096, by omega⟩ : Fin 4096) k)

theorem row_lt (t : Fin cfg0.N) (r : Fin 1024) : t.val * 1024 + r.val < 32768 := by
  have h : t.val < 32 := t.isLt
  omega

/-- The array the kernel leaves, from its arguments. -/
def result (x : S8x4096x1024.Idx → EReal) (w : S1024x4096.Idx → EReal) (o : S4096.Idx → EReal) (g b : S2048.Idx → EReal) (ws : S16x128x128.Idx → EReal) (bs : S16x128.Idx → EReal)
    (p : S2048x1024.Idx → EReal) (lg lb : S1024.Idx → EReal) : S32768x1024.Idx → EReal :=
  fun i => sgRow geluK (fun t => rowOf x ⟨128 * ((i 0).val / 128) + t.val, by have h : (i 0).val < 32768 := (i 0).isLt; omega⟩) (fun k n => w (ix2 k n)) (fun n => o (ix1 n)) (fun q => g (ix1 q)) (fun q => b (ix1 q))
    (fun g i t => ws (ix3 g i t)) (fun g i => bs (ix2 g i)) (fun n q => p (ix2 n q)) (fun q => lg (ix1 q)) (fun q => lb (ix1 q)) ⟨(i 0).val % 128, by omega⟩ (i 1)

theorem result_at (x : S8x4096x1024.Idx → EReal) (w : S1024x4096.Idx → EReal) (o : S4096.Idx → EReal) (g b : S2048.Idx → EReal) (ws : S16x128x128.Idx → EReal) (bs : S16x128.Idx → EReal)
    (p : S2048x1024.Idx → EReal) (lg lb : S1024.Idx → EReal) (R : Fin 32768) (j : Fin 1024) :
    result x w o g b ws bs p lg lb (ix2 R j) = sgRow geluK (fun t => rowOf x ⟨128 * (R.val / 128) + t.val, by omega⟩) (fun k n => w (ix2 k n)) (fun n => o (ix1 n)) (fun q => g (ix1 q)) (fun q => b (ix1 q))
    (fun g i t => ws (ix3 g i t)) (fun g i => bs (ix2 g i)) (fun n q => p (ix2 n q)) (fun q => lg (ix1 q)) (fun q => lb (ix1 q)) ⟨R.val % 128, by omega⟩ j := rfl

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 ∧ win0_5.index t 2 = 0 :=
  (by decide +kernel : ∀ t : Fin grid0.N, win0_5.index t 0 = 0 ∧ win0_5.index t 1 = 0 ∧ win0_5.index t 2 = 0)
theorem idx_6 : ∀ t : Fin cfg0.N, win0_6.index t 0 = 0 ∧ win0_6.index t 1 = 0 ∧ win0_6.index t 2 = 0 :=
  (by decide +kernel : ∀ t : Fin grid0.N, win0_6.index t 0 = 0 ∧ win0_6.index t 1 = 0 ∧ win0_6.index t 2 = 0)
theorem idx_7 : ∀ t : Fin cfg0.N, win0_7.index t 0 = 0 ∧ win0_7.index t 1 = 0 :=
  (by decide +kernel : ∀ t : Fin grid0.N, win0_7.index t 0 = 0 ∧ win0_7.index t 1 = 0)
theorem idx_8 : ∀ t : Fin cfg0.N, win0_8.index t 0 = 0 ∧ win0_8.index t 1 = 0 :=
  (by decide +kernel : ∀ t : Fin grid0.N, win0_8.index t 0 = 0 ∧ win0_8.index t 1 = 0)
theorem idx_9 : ∀ t : Fin cfg0.N, win0_9.index t 0 = 0 ∧ win0_9.index t 1 = 0 :=
  (by decide +kernel : ∀ t : Fin grid0.N, win0_9.index t 0 = 0 ∧ win0_9.index t 1 = 0)
theorem idx_10 : ∀ t : Fin cfg0.N, win0_10.index t 0 = t.val ∧ win0_10.index t 1 = 0 :=
  (by decide +kernel : ∀ t : Fin grid0.N, win0_10.index t 0 = t.val ∧ win0_10.index t 1 = 0)

/-- Window 0's block at point `t` holds rows `1024 t` to `1024 t + 1023` of argument 0. -/
theorem blk0 (c : Dev nD) (t : Fin cfg0.N) (r : Fin 1024) (k : Fin 1024) :
    (iblk m c 0 t : Vec Ideal S1024x1024 .f32) (ix2 r k) = rowOf (m ((c : Thread nD τ).loc main_arg0)) ⟨t.val * 1024 + r.val, row_lt t r⟩ k := by
  unfold iblk
  rw [View.read_apply]
  show V m c main_v2 _ = _
  have e : (V m c main_v2 : S32768x1024.Idx → EReal) = shapeCast S32768x1024 (m ((c : Thread nD τ).loc main_arg0)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 1024 + r.val) / 4096 * 4096 + (t.val * 1024 + r.val) % 4096) * 1024 + k.val
    = (win0_0.index t 0 * 1024 + 1 * r.val) * 1024 + (win0_0.index t 1 * 1024 + 1 * k.val)
  rw [(idx_0 t).1, (idx_0 t).2]; omega

theorem blk1 (c : Dev nD) (t : Fin cfg0.N) (r : Fin 1024) (k : Fin 4096) :
    (iblk m c 1 t : Vec Ideal S1024x4096 .bf16) (ix2 r k) = m ((c : Thread nD τ).loc main_arg1) (ix2 r k) := by
  unfold iblk
  rw [View.read_apply]
  show V m c main_v3 _ = _
  have e : (V m c main_v3 : S1024x4096.Idx → EReal) = (m ((c : Thread nD τ).loc main_arg1)) := by
    unfold V; after_results; rfl
  rw [e]
  congr 1
  funext a
  apply Fin.ext
  match a with
  | ⟨0, _⟩ => show win0_1.index t 0 * 1024 + 1 * r.val = r.val; rw [(idx_1 t).1]; omega
  | ⟨1, _⟩ => show win0_1.index t 1 * 4096 + 1 * k.val = k.val; rw [(idx_1 t).2]; omega

theorem blk2 (c : Dev nD) (t : Fin cfg0.N) (k : Fin 4096) :
    (iblk m c 2 t : Vec Ideal S1x4096 .f32) (ix2 0 k) = m ((c : Thread nD τ).loc main_arg2) (ix1 k) := by
  unfold iblk
  rw [View.read_apply]
  show V m c main_v4 _ = _
  have e : (V m c main_v4 : S1x4096.Idx → EReal) = shapeCast S1x4096 (m ((c : Thread nD τ).loc main_arg2)) shapeCasts_S4096_S1x4096 := by
    unfold V; after_results; rfl
  rw [e]
  refine shapeCast_apply _ _ _ _ ?_
  show (S4096.rowMajor _).val = (S1x4096.rowMajor _).val
  rw [Shape.rowMajor_val_one, Shape.rowMajor_val_two]
  show k.val = (win0_2.index t 0 * 1 + 1 * 0) * 4096 + (win0_2.index t 1 * 4096 + 1 * k.val)
  rw [(idx_2 t).1, (idx_2 t).2]; omega

theorem blk3 (c : Dev nD) (t : Fin cfg0.N) (k : Fin 2048) :
    (iblk m c 3 t : Vec Ideal S1x2048 .f32) (ix2 0 k) = m ((c : Thread nD τ).loc main_arg3) (ix1 k) := by
  unfold iblk
  rw [View.read_apply]
  show V m c main_v5 _ = _
  have e : (V m c main_v5 : S1x2048.Idx → EReal) = shapeCast S1x2048 (m ((c : Thread nD τ).loc main_arg3)) shapeCasts_S2048_S1x2048 := by
    unfold V; after_results; rfl
  rw [e]
  refine shapeCast_apply _ _ _ _ ?_
  show (S2048.rowMajor _).val = (S1x2048.rowMajor _).val
  rw [Shape.rowMajor_val_one, Shape.rowMajor_val_two]
  show k.val = (win0_3.index t 0 * 1 + 1 * 0) * 2048 + (win0_3.index t 1 * 2048 + 1 * k.val)
  rw [(idx_3 t).1, (idx_3 t).2]; omega

theorem blk4 (c : Dev nD) (t : Fin cfg0.N) (k : Fin 2048) :
    (iblk m c 4 t : Vec Ideal S1x2048 .f32) (ix2 0 k) = m ((c : Thread nD τ).loc main_arg4) (ix1 k) := by
  unfold iblk
  rw [View.read_apply]
  show V m c main_v6 _ = _
  have e : (V m c main_v6 : S1x2048.Idx → EReal) = shapeCast S1x2048 (m ((c : Thread nD τ).loc main_arg4)) shapeCasts_S2048_S1x2048 := by
    unfold V; after_results; rfl
  rw [e]
  refine shapeCast_apply _ _ _ _ ?_
  show (S2048.rowMajor _).val = (S1x2048.rowMajor _).val
  rw [Shape.rowMajor_val_one, Shape.rowMajor_val_two]
  show k.val = (win0_4.index t 0 * 1 + 1 * 0) * 2048 + (win0_4.index t 1 * 2048 + 1 * k.val)
  rw [(idx_4 t).1, (idx_4 t).2]; omega

theorem blk5 (c : Dev nD) (t : Fin cfg0.N) (r : Fin 16) (k : Fin 128) (l : Fin 128) :
    (iblk m c 5 t : Vec Ideal S16x128x128 .bf16) (ix3 r k l) = m ((c : Thread nD τ).loc main_arg5) (ix3 r k l) := by
  unfold iblk
  rw [View.read_apply]
  show V m c main_v7 _ = _
  have e : (V m c main_v7 : S16x128x128.Idx → EReal) = (m ((c : Thread nD τ).loc main_arg5)) := by
    unfold V; after_results; rfl
  rw [e]
  congr 1
  funext a
  apply Fin.ext
  match a with
  | ⟨0, _⟩ => show win0_5.index t 0 * 16 + 1 * r.val = r.val; rw [(idx_5 t).1]; omega
  | ⟨1, _⟩ => show win0_5.index t 1 * 128 + 1 * k.val = k.val; rw [(idx_5 t).2.1]; omega
  | ⟨2, _⟩ => show win0_5.index t 2 * 128 + 1 * l.val = l.val; rw [(idx_5 t).2.2]; omega

theorem blk7 (c : Dev nD) (t : Fin cfg0.N) (r : Fin 2048) (k : Fin 1024) :
    (iblk m c 7 t : Vec Ideal S2048x1024 .bf16) (ix2 r k) = m ((c : Thread nD τ).loc main_arg7) (ix2 r k) := by
  unfold iblk
  rw [View.read_apply]
  show V m c main_v8 _ = _
  have e : (V m c main_v8 : S2048x1024.Idx → EReal) = (m ((c : Thread nD τ).loc main_arg7)) := by
    unfold V; after_results; rfl
  rw [e]
  congr 1
  funext a
  apply Fin.ext
  match a with
  | ⟨0, _⟩ => show win0_7.index t 0 * 2048 + 1 * r.val = r.val; rw [(idx_7 t).1]; omega
  | ⟨1, _⟩ => show win0_7.index t 1 * 1024 + 1 * k.val = k.val; rw [(idx_7 t).2]; omega

theorem blk8 (c : Dev nD) (t : Fin cfg0.N) (k : Fin 1024) :
    (iblk m c 8 t : Vec Ideal S1x1024 .f32) (ix2 0 k) = m ((c : Thread nD τ).loc main_arg8) (ix1 k) := by
  unfold iblk
  rw [View.read_apply]
  show V m c main_v9 _ = _
  have e : (V m c main_v9 : S1x1024.Idx → EReal) = shapeCast S1x1024 (m ((c : Thread nD τ).loc main_arg8)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_8.index t 0 * 1 + 1 * 0) * 1024 + (win0_8.index t 1 * 1024 + 1 * k.val)
  rw [(idx_8 t).1, (idx_8 t).2]; omega

theorem blk9 (c : Dev nD) (t : Fin cfg0.N) (k : Fin 1024) :
    (iblk m c 9 t : Vec Ideal S1x1024 .f32) (ix2 0 k) = m ((c : Thread nD τ).loc main_arg9) (ix1 k) := by
  unfold iblk
  rw [View.read_apply]
  show V m c main_v10 _ = _
  have e : (V m c main_v10 : S1x1024.Idx → EReal) = shapeCast S1x1024 (m ((c : Thread nD τ).loc main_arg9)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_9.index t 0 * 1 + 1 * 0) * 1024 + (win0_9.index t 1 * 1024 + 1 * k.val)
  rw [(idx_9 t).1, (idx_9 t).2]; omega

theorem blk6 (c : Dev nD) (t : Fin cfg0.N) (g : Fin 16) (i l : Fin 128) :
    (iblk m c 6 t : Vec Ideal S16x128x128 .f32) (ix3 g i l) = m ((c : Thread nD τ).loc main_arg6) (ix2 g i) := by
  unfold iblk
  rw [View.read_apply]
  show V m c main_v1 _ = _
  have e : (V m c main_v1 : S16x128x128.Idx → EReal) = broadcastInDim S16x128x128 ![0, 1, 2] bcast_S16x128x1_S16x128x128_0_1_2 (broadcastInDim S16x128x1 ![0, 1] bcast_S16x128_S16x128x1_0_1 (m ((c : Thread nD τ).loc main_arg6))) := by
    unfold V; after_results
  have w : (win0_6.blk t).view.emb (ix3 g i l) = (ix3 g i l : S16x128x128.Idx) := by
    funext a
    apply Fin.ext
    match a with
    | ⟨0, _⟩ => show win0_6.index t 0 * 16 + 1 * g.val = g.val; rw [(idx_6 t).1]; omega
    | ⟨1, _⟩ => show win0_6.index t 1 * 128 + 1 * i.val = i.val; rw [(idx_6 t).2.1]; omega
    | ⟨2, _⟩ => show win0_6.index t 2 * 128 + 1 * l.val = l.val; rw [(idx_6 t).2.2]; omega
  refine Eq.trans (congrArg (V m c main_v1 : S16x128x128.Idx → EReal) w) ?_
  rw [e]
  pointwise []

/-- The result array of core `c`. -/
abbrev resultOf (c : Dev nD) : S32768x1024.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Where element `j` of point `t`'s block lies in the array. -/
theorem emb_10 (t : Fin cfg0.N) (j : S1024x1024.Idx) :
    (win0_10.blk t).view.emb j = ix2 (⟨t.val * 1024 + (j 0).val, row_lt t (j 0)⟩ : Fin 32768) (j 1) := by
  funext a
  apply Fin.ext
  match a with
  | ⟨0, _⟩ => show win0_10.index t 0 * 1024 + 1 * (j 0).val = _; rw [(idx_10 t).1]; show _ = t.val * 1024 + (j 0).val; omega
  | ⟨1, _⟩ => show win0_10.index t 1 * 1024 + 1 * (j 1).val = _; rw [(idx_10 t).2]; show _ = (j 1).val; omega

/-- What point `t` writes back is its block of the result array. -/
theorem flushed_eq_10 (c : Dev nD) (t : Fin cfg0.N) :
    (dats m 0 c).flushed 10 t = (win0_10.blk t).view.read (Elt Ideal) (resultOf m c) := by
  rw [Value.flushed10_A]
  refine funext fun (j : S1024x1024.Idx) => ?_
  show out0_A_10 (F := Ideal) c (grid0.coords t) _ _ _ _ _ _ _ _ _ _ _ _ _ _ _ _ _ _ _ _ _ _ _ _ _ _ _ _ _ _ _ _ _ _ j = resultOf m c ((win0_10.blk t).view.emb j)
  rw [emb_10]
  idx_vars j
  rw [out_eq]
  have hr : ∀ s : Nat, 128 * ((t.val * 1024 + j0.val) / 128) + s = t.val * 1024 + (128 * (j0.val / 128) + s) := fun s => by omega
  have hm : (t.val * 1024 + j0.val) % 128 = j0.val % 128 := by omega
  have hd : 128 * (j0.val / 128) + j0.val % 128 = j0.val := by omega
  refine Eq.trans ?_ (result_at _ _ _ _ _ _ _ _ _ _ (⟨t.val * 1024 + j0.val, row_lt t j0⟩ : Fin 32768) j1).symm
  unfold Args.gat sgRow Args.row Args.w Args.o
  simp only [blk0, blk1, blk2, blk3, blk4, blk5, blk6, blk7, blk8, blk9]
  simp only [hr, hm, hd]

/-- An index of the array is in point `t`'s block exactly when its row is one of the block's. -/
theorem mem_blk_10 (t : Fin cfg0.N) (i : S32768x1024.Idx) :
    i ∈ ((cfg0.win 10).blk t).view.set ↔ t.val * 1024 ≤ (i 0 : Nat) ∧ (i 0 : Nat) < t.val * 1024 + 1024 := by
  show i ∈ ((View.whole main_v11).slice (win0_10.rect t)).set ↔ _
  rw [View.set_slice_whole, Rect.mem_set_unit]
  have h1 : (i 1 : Nat) < 1024 := (i 1).isLt
  refine ⟨fun h => ?_, fun h a => ?_⟩
  · have : win0_10.index t 0 * 1024 ≤ (i 0 : Nat) ∧ (i 0 : Nat) < win0_10.index t 0 * 1024 + 1024 := h 0
    rw [(idx_10 t).1] at this; exact this
  · match a with
    | ⟨0, _⟩ => show win0_10.index t 0 * 1024 ≤ (i 0 : Nat) ∧ (i 0 : Nat) < win0_10.index t 0 * 1024 + 1024
                rw [(idx_10 t).1]; exact h
    | ⟨1, _⟩ => show win0_10.index t 1 * 1024 ≤ (i 1 : Nat) ∧ (i 1 : Nat) < win0_10.index t 1 * 1024 + 1024
                rw [(idx_10 t).2, Nat.zero_mul, Nat.zero_add]; exact ⟨Nat.zero_le _, h1⟩

/-- The array after the run. -/
theorem array_eq_10 (c : Dev nD) : (dats m 0 c).arrAt 10 cfg0.N = resultOf m c :=
  (dats m 0 c).arrAt_eq_of_cover 10 (resultOf m c) (fun t _ => flushed_eq_10 m c t) fun i =>
    have h0 : (i 0 : Nat) < 32768 := (i 0).isLt
    ⟨(⟨(i 0 : Nat) / 1024, by show (i 0 : Nat) / 1024 < 32; omega⟩ : Fin grid0.N), flush0_10 _, (mem_blk_10 _ i).mpr (by
      show (i 0 : Nat) / 1024 * 1024 ≤ (i 0 : Nat) ∧ (i 0 : Nat) < (i 0 : Nat) / 1024 * 1024 + 1024
      omega)⟩

/-- The run, read. -/
theorem run : θ_run defs (onTc (τ := τ) (main (F := Ideal))) ⟨m, fun _ => 0, ρ⟩ fun r => ∀ c : Dev nD,
      r.2.mem ((c : Thread nD τ).loc main_v11) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (array_eq_10 m c), (h c).2⟩) (Value.run_blocks m ρ)

end Cert.KernelIdeal.Val

end
-- ==== Proof.SgRefValue.lean ====
module

public import proofs.«01_k».proof.Proof.Gen.ReferenceIdeal.Run
public import proofs.«01_k».proof.Proof.Gen.ReferenceIdeal.Read
public import proofs.«01_k».proof.Proof.SgRows
public import Idealize.ShloMosaic.Lib.WordCmp

/-!
# The spatial-gating reference, row by row
-/

@[expose] public section

set_option maxRecDepth 16384

noncomputable section

namespace Cert.ReferenceIdeal.RefValue

open Cert.ReferenceIdeal Cert.ReferenceIdeal.Gen Cert.ReferenceIdeal.Read Idealize.ShloMosaic Idealize.ShloMosaic.TcCoe Idealize.SL.Sem
open Cert.Rows

variable (x : S8x4096x1024.Idx → EReal) (w : S1024x4096.Idx → EReal) (o : S4096.Idx → EReal) (g b : S2048.Idx → EReal) (ws : S16x128x128.Idx → EReal) (bs : S16x128.Idx → EReal)
  (d : S2048x1024.Idx → EReal) (lg lb : S1024.Idx → EReal)

/-- A row of the pre-activation. -/
def pre (p : Fin 8) (q : Fin 4096) (n : Fin 4096) : EReal :=
  preact (fun k => x (ix3 p q k)) (fun k n => w (ix2 k n)) (fun n => o (ix1 n)) n

theorem v3_at (p : Fin 8) (q n : Fin 4096) : val_main_v3 (F := Ideal) x w o (ix3 p q n) = pre x w o p q n := by
  pointwise [val_main_v3, val_main_v2, val_main_v1, val_main_v0, pre, preact]

theorem v16_at (p : Fin 8) (q n : Fin 4096) : val_main_v16 (F := Ideal) x w o (ix3 p q n) = geluR (pre x w o p q n) := by
  pointwise [val_main_v16, val_main_v15, val_main_v14, val_main_cst_2, val_main_v13, val_main_v12, val_main_cst_1, val_main_v11, val_main_v10, val_main_v9, val_main_cst_0, val_main_v8, val_main_v7, val_main_v6, val_main_cst, val_main_v5, val_main_v4, geluR, v3_at]

theorem v17_at (p : Fin 8) (q : Fin 4096) (n : Fin 2048) : val_main_v17 (F := Ideal) x w o (ix3 p q n) = geluR (pre x w o p q ⟨n.val, by omega⟩) := by
  pointwise [val_main_v17, v16_at]

/-- A row of the second half's activations. -/
def vrow (p : Fin 8) (q : Fin 4096) : Fin 2048 → EReal :=
  vRow geluR (fun k => x (ix3 p q k)) (fun k n => w (ix2 k n)) (fun n => o (ix1 n))

theorem v18_at (p : Fin 8) (q : Fin 4096) (n : Fin 2048) : val_main_v18 (F := Ideal) x w o (ix3 p q n) = vrow x w o p q n := by
  pointwise [val_main_v18, v16_at, vrow, vRow, pre]

theorem v42_at (p : Fin 8) (q : Fin 4096) (n : Fin 2048) :
    val_main_v42 (F := Ideal) x w o g b (ix3 p q n) = layerNorm2 (vrow x w o p q) (g (ix1 n)) (b (ix1 n)) n := by
  pointwise [val_main_v42, val_main_v41, val_main_v40, val_main_v39, val_main_v38, val_main_v37, val_main_v36, val_main_v35, val_main_v34, val_main_v33, val_main_v32, val_main_cst_7, val_main_v31, val_main_v30, val_main_v29, val_main_v28, val_main_cst_6, val_main_v27, val_main_v26, val_main_cst_5, val_main_v25, val_main_v24, val_main_v23, val_main_v22, val_main_v21, val_main_cst_4, val_main_v20, val_main_v19, val_main_cst_3, v18_at, layerNorm2, mean2]

theorem v47_at (k : Fin 16) (i t : Fin 128) : val_main_v47 (F := Ideal) ws (ix3 k i t) = if t ≤ i then ws (ix3 k i t) else 0 := by
  pointwise [val_main_v47, val_main_call1_v0, val_main_v46, val_main_cst_8, val_main_v45, val_main_v44, val_main_call0_v5, val_main_call0_c_0, val_main_call0_v4, val_main_call0_v3, val_main_call0_v2, val_main_call0_v1, val_main_call0_c, val_main_call0_v0, val_main_v43, val_main_c]
  rw [show IntOp.addi (BitVec.ofNat 32 i.val) 0#32 = BitVec.ofNat 32 i.val from BitVec.add_zero _, WordCmp.cmpi_sge_eq, WordCmp.toInt_ofNat_of_lt (by omega), WordCmp.toInt_ofNat_of_lt (by omega)]
  by_cases h : t ≤ i
  · have h' : (t.val : Int) ≤ (i.val : Int) := by exact_mod_cast h
    simp [h, h', Scalar.select]
  · have h' : ¬ (t.val : Int) ≤ (i.val : Int) := fun q => h (by exact_mod_cast q)
    rw [if_neg h, decide_eq_false h']
    rfl

theorem v48_at (p : Fin 8) (c : Fin 32) (i : Fin 128) (k : Fin 16) (l : Fin 128) :
    val_main_v48 (F := Ideal) x w o g b (ix5 p c i k l) = val_main_v42 (F := Ideal) x w o g b (ix3 p ⟨128 * c.val + i.val, by omega⟩ ⟨128 * k.val + l.val, by omega⟩) := by
  rw [val_main_v48_apply]
  congr 1
  funext a
  apply Fin.ext
  match a with
  | ⟨0, _⟩ => show ((((p.val * 32 + c.val) * 128 + i.val) * 16 + k.val) * 128 + l.val) / 8388608 = p.val; omega
  | ⟨1, _⟩ => show ((((p.val * 32 + c.val) * 128 + i.val) * 16 + k.val) * 128 + l.val) / 2048 % 4096 = 128 * c.val + i.val; omega
  | ⟨2, _⟩ => show ((((p.val * 32 + c.val) * 128 + i.val) * 16 + k.val) * 128 + l.val) % 2048 = 128 * k.val + l.val; omega

theorem v54_at (p : Fin 8) (c : Fin 32) (i : Fin 128) (k : Fin 16) (l : Fin 128) :
    val_main_v54 (F := Ideal) x w o g b ws bs (ix5 p c i k l)
      = ∑ t : Fin 128, val_main_v48 (F := Ideal) x w o g b (ix5 p c t k l) * val_main_v47 (F := Ideal) ws (ix3 k i t) + bs (ix2 k i) := by
  pointwise [val_main_v54, val_main_v53, val_main_v52, val_main_v51, val_main_v50, val_main_v49]

theorem v55_at (p : Fin 8) (q : Fin 4096) (n : Fin 2048) :
    val_main_v55 (F := Ideal) x w o g b ws bs (ix3 p q n)
      = val_main_v54 (F := Ideal) x w o g b ws bs (ix5 p ⟨q.val / 128, by omega⟩ ⟨q.val % 128, by omega⟩ ⟨n.val / 128, by omega⟩ ⟨n.val % 128, by omega⟩) := by
  rw [val_main_v55_apply]
  congr 1
  funext a
  apply Fin.ext
  match a with
  | ⟨0, _⟩ => show ((p.val * 4096 + q.val) * 2048 + n.val) / 8388608 = p.val; omega
  | ⟨1, _⟩ => show ((p.val * 4096 + q.val) * 2048 + n.val) / 262144 % 32 = q.val / 128; omega
  | ⟨2, _⟩ => show ((p.val * 4096 + q.val) * 2048 + n.val) / 2048 % 128 = q.val % 128; omega
  | ⟨3, _⟩ => show ((p.val * 4096 + q.val) * 2048 + n.val) / 128 % 16 = n.val / 128; omega
  | ⟨4, _⟩ => show ((p.val * 4096 + q.val) * 2048 + n.val) % 128 = n.val % 128; omega

/-- The rows of row `q`'s chunk. -/
def chunk (p : Fin 8) (q : Fin 4096) (t : Fin 128) : Fin 1024 → EReal := fun k => x (ix3 p ⟨128 * (q.val / 128) + t.val, by omega⟩ k)

theorem v56_at (p : Fin 8) (q : Fin 4096) (n : Fin 2048) :
    val_main_v56 (F := Ideal) x w o g b ws bs (ix3 p q n)
      = gated geluR (chunk x p q) (fun k n => w (ix2 k n)) (fun n => o (ix1 n)) (fun q => g (ix1 q)) (fun q => b (ix1 q)) (fun k i t => ws (ix3 k i t)) (bs (ix2 ⟨n.val / 128, by omega⟩ ⟨q.val % 128, by omega⟩)) ⟨q.val % 128, by omega⟩ n := by
  have e1 : 128 * (q.val / 128) + q.val % 128 = q.val := by omega
  have e2 : 128 * (n.val / 128) + n.val % 128 = n.val := by omega
  show val_main_v17 (F := Ideal) x w o (ix3 p q n) * val_main_v55 (F := Ideal) x w o g b ws bs (ix3 p q n) = _
  rw [v17_at, v55_at, v54_at]
  unfold gated chunk pre
  simp only [v48_at, v47_at, v42_at, e1, e2, mul_comm (layerNorm2 _ _ _ _), ite_mul, zero_mul]
  rfl

theorem v84_at (p : Fin 8) (q : Fin 4096) (j : Fin 1024) :
    val_main_v84 (F := Ideal) x w o g b ws bs d lg lb (ix3 p q j)
      = layerNorm (fun k => alpha32 * x (ix3 p q k) + ∑ n : Fin 2048, val_main_v56 (F := Ideal) x w o g b ws bs (ix3 p q n) * d (ix2 n k)) (lg (ix1 j)) (lb (ix1 j)) j := by
  pointwise [val_main_v84, val_main_v83, val_main_v82, val_main_v81, val_main_v80, val_main_v79, val_main_v78, val_main_v77, val_main_v76, val_main_v75, val_main_v74, val_main_cst_14, val_main_v73, val_main_v72, val_main_v71, val_main_v70, val_main_cst_13, val_main_v69, val_main_v68, val_main_cst_12, val_main_v67, val_main_v66, val_main_v65, val_main_v64, val_main_v63, val_main_cst_11, val_main_v62, val_main_v61, val_main_cst_10, val_main_v60, val_main_v59, val_main_v58, val_main_cst_9, val_main_v57, layerNorm, mean]

theorem ref_at (R : Fin 32768) (j : Fin 1024) :
    val_main_v85 (F := Ideal) x w o g b ws bs d lg lb (ix2 R j)
      = sgRow geluR (fun t k => x (ix3 (⟨(128 * (R.val / 128) + t.val) / 4096, by omega⟩ : Fin 8) (⟨(128 * (R.val / 128) + t.val) % 4096, by omega⟩ : Fin 4096) k)) (fun k n => w (ix2 k n)) (fun n => o (ix1 n)) (fun q => g (ix1 q)) (fun q => b (ix1 q))
    (fun g i t => ws (ix3 g i t)) (fun g i => bs (ix2 g i)) (fun n q => d (ix2 n q)) (fun q => lg (ix1 q)) (fun q => lb (ix1 q)) ⟨R.val % 128, by omega⟩ j := by
  have e : idx_main_v85 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  have c1 : ∀ t : Fin 128, (128 * (R.val / 128) + t.val) / 4096 = R.val / 4096 := fun t => by omega
  have c2 : ∀ t : Fin 128, (128 * (R.val / 128) + t.val) % 4096 = 128 * (R.val % 4096 / 128) + t.val := fun t => by omega
  have c3 : R.val % 4096 % 128 = R.val % 128 := by omega
  have c4 : (128 * (R.val / 128) + R.val % 128) / 4096 = R.val / 4096 := by omega
  have c5 : (128 * (R.val / 128) + R.val % 128) % 4096 = R.val % 4096 := by omega
  rw [val_main_v85_apply, e, v84_at]
  unfold sgRow
  simp only [v56_at, c1, c2, c3, c4, c5]
  rfl

end Cert.ReferenceIdeal.RefValue

end
-- ==== Proof.SgFinite.lean ====
module

public import proofs.«01_k».proof.Proof.Gen.Pre_finite
public import proofs.«01_k».proof.Proof.SgRows
public import Idealize.ShloMosaic.Lib.Pointwise

/-!
# What the precondition says: every entry of the three arrays is a real number
-/

@[expose] public section

noncomputable section

namespace Cert.Pre_finite

open Idealize.ShloMosaic
open Cert.Rows

/-- An extended real whose absolute value is below something is a real number. -/
theorem real_of_abs_lt (a y : EReal) (h : max a (-a) < y) : ∃ r : ℝ, a = (r : EReal) := by
  have ht : max a (-a) < ⊤ := lt_of_lt_of_le h le_top
  have h1 : a ≠ ⊤ := fun e => by rw [e] at ht; exact absurd (le_max_left _ _) (not_le.2 ht)
  have h2 : a ≠ ⊥ := fun e => by rw [e] at ht; exact absurd (le_max_right _ _) (not_le.2 ht)
  exact ⟨a.toReal, (EReal.coe_toReal h1 h2).symm⟩

variable [Facts] (x : FVec Ideal S8x4096x1024 .f32) (w : FVec Ideal S1024x4096 .f32) (o : FVec Ideal S4096 .f32) (g b : FVec Ideal S2048 .f32)
  (ws : FVec Ideal S16x128x128 .f32) (bs : FVec Ideal S16x128 .f32) (p : FVec Ideal S2048x1024 .f32) (lg lb : FVec Ideal S1024 .f32)

theorem real_x (h : (fn (F := Ideal) x w o g b ws bs p lg lb).1 = fun _ => 1#1) (i : S8x4096x1024.Idx) : ∃ r : ℝ, x i = (r : EReal) :=
  real_of_abs_lt _ _ ((Ideal.cmp_olt_eq_one _ _).1 (congrFun h i))

theorem real_w (h : (fn (F := Ideal) x w o g b ws bs p lg lb).2.1 = fun _ => 1#1) (i : S1024x4096.Idx) : ∃ r : ℝ, w i = (r : EReal) :=
  real_of_abs_lt _ _ ((Ideal.cmp_olt_eq_one _ _).1 (congrFun h i))

theorem real_o (h : (fn (F := Ideal) x w o g b ws bs p lg lb).2.2 = fun _ => 1#1) (i : S4096.Idx) : ∃ r : ℝ, o i = (r : EReal) :=
  real_of_abs_lt _ _ ((Ideal.cmp_olt_eq_one _ _).1 (congrFun h i))

end Cert.Pre_finite

end
-- ==== Proof.FfnBlock.lean ====
module

public import proofs.«01_k».proof.Proof.Gen.FfnIdeal.Value
public import proofs.«01_k».proof.Proof.Rows

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)
open Cert.Rows

theorem hz : (![0,0] : Fin 2 → Nat) = fun _ => 0 := funext fun a => by fin_cases a <;> rfl

/-- What one slice of 256 hidden units adds to the block. -/
def part (v0 : Vec Ideal S512x1024 .f32) (v3 v6 : Vec Ideal S1024x256 .bf16) (v19 : Vec Ideal S256x1024 .bf16) : Vec Ideal S512x1024 .f32 :=
  fun i => ∑ f : Fin 256, hid (∑ k : Fin 1024, v0 (ix2 (i 0) k) * v3 (ix2 k f)) (∑ k : Fin 1024, v0 (ix2 (i 0) k) * v6 (ix2 k f)) * v19 (ix2 f (i 1))

theorem s0 (v0 : Vec Ideal S512x1024 .f32) (g u : Vec Ideal S1024x256 .bf16) (d : Vec Ideal S256x1024 .bf16) : k0_pay4 v0 g u d = part v0 g u d := by
  funext i
  idx_vars i
  pointwise [k0_pay2, k0_pay3, k0_pay4, part, hid, zero_sub, Pi.add_apply]

theorem s1 (v0 a : Vec Ideal S512x1024 .f32) (g u : Vec Ideal S1024x256 .bf16) (d : Vec Ideal S256x1024 .bf16) : k0_pay8 (k0_pay5 v0 g) (k0_pay6 v0 u) (k0_pay7 v0 g) (FloatOps.ofBits FTy.f32 1065353216#32) d a = a + part v0 g u d := by
  funext i
  idx_vars i
  pointwise [k0_pay2, k0_pay3, k0_pay5, k0_pay6, k0_pay7, k0_pay8, part, hid, zero_sub, Pi.add_apply]

theorem s2 (v0 a : Vec Ideal S512x1024 .f32) (g u : Vec Ideal S1024x256 .bf16) (d : Vec Ideal S256x1024 .bf16) : k0_pay10 (k0_pay9 (k0_pay3 v0) g u d a) = a + part v0 g u d := by
  funext i
  idx_vars i
  pointwise [k0_pay10, k0_pay2, k0_pay3, k0_pay9, part, hid, zero_sub, Pi.add_apply]

theorem s3 (v0 a : Vec Ideal S512x1024 .f32) (g u : Vec Ideal S1024x256 .bf16) (d : Vec Ideal S256x1024 .bf16) : k0_pay11 (k0_pay3 v0) g u d a = a + part v0 g u d := by
  funext i
  idx_vars i
  pointwise [k0_pay11, k0_pay2, k0_pay3, part, hid, zero_sub, Pi.add_apply]

theorem s4 (v0 a : Vec Ideal S512x1024 .f32) (g u : Vec Ideal S1024x256 .bf16) (d : Vec Ideal S256x1024 .bf16) : k0_pay15 (k0_pay12 (k0_pay3 v0) g) (k0_pay13 (k0_pay3 v0) u) k0_pay14 d a = a + part v0 g u d := by
  funext i
  idx_vars i
  pointwise [k0_pay12, k0_pay13, k0_pay14, k0_pay15, k0_pay2, k0_pay3, part, hid, zero_sub, Pi.add_apply]

theorem s5 (v0 a : Vec Ideal S512x1024 .f32) (g u : Vec Ideal S1024x256 .bf16) (d : Vec Ideal S256x1024 .bf16) : k0_pay17 (k0_pay16 (k0_pay3 v0) g u d) a = a + part v0 g u d := by
  funext i
  idx_vars i
  pointwise [k0_pay16, k0_pay17, k0_pay2, k0_pay3, part, hid, zero_sub, Pi.add_apply]

theorem s6 (v0 a : Vec Ideal S512x1024 .f32) (g u : Vec Ideal S1024x256 .bf16) (d : Vec Ideal S256x1024 .bf16) : k0_pay18 (k0_pay3 v0) g u d a = a + part v0 g u d := by
  funext i
  idx_vars i
  pointwise [k0_pay18, k0_pay2, k0_pay3, part, hid, zero_sub, Pi.add_apply]

theorem s7 (v0 a : Vec Ideal S512x1024 .f32) (g u : Vec Ideal S1024x256 .bf16) (d : Vec Ideal S256x1024 .bf16) : k0_pay21 (k0_pay3 v0) (k0_pay19 (k0_pay3 v0) g) (k0_pay20 u) (constant S512x256 .f32 0x00000000#32) d a = a + part v0 g u d := by
  funext i
  idx_vars i
  pointwise [k0_pay19, k0_pay2, k0_pay20, k0_pay21, k0_pay3, part, hid, zero_sub, Pi.add_apply]

theorem s8 (v0 a : Vec Ideal S512x1024 .f32) (g u : Vec Ideal S1024x256 .bf16) (d : Vec Ideal S256x1024 .bf16) : k0_pay24 (k0_pay22 (k0_pay3 v0) g u) (k0_pay23 d) (constant S512x1024 .f32 0x00000000#32) a = a + part v0 g u d := by
  funext i
  idx_vars i
  pointwise [k0_pay2, k0_pay22, k0_pay23, k0_pay24, k0_pay3, part, hid, zero_sub, Pi.add_apply]

theorem s9 (v0 a : Vec Ideal S512x1024 .f32) (g u : Vec Ideal S1024x256 .bf16) (d : Vec Ideal S256x1024 .bf16) : k0_pay25 (k0_pay3 v0) g u d a = a + part v0 g u d := by
  funext i
  idx_vars i
  pointwise [k0_pay2, k0_pay25, k0_pay3, part, hid, zero_sub, Pi.add_apply]

theorem s10 (v0 a : Vec Ideal S512x1024 .f32) (g u : Vec Ideal S1024x256 .bf16) (d : Vec Ideal S256x1024 .bf16) : k0_pay27 (k0_pay3 v0) (k0_pay26 (k0_pay3 v0) g) u d a = a + part v0 g u d := by
  funext i
  idx_vars i
  pointwise [k0_pay2, k0_pay26, k0_pay27, k0_pay3, part, hid, zero_sub, Pi.add_apply]

/-- The hidden unit `f`'s share of column `j` of row `r`. -/
def share (x0 : Vec Ideal S512x1024 .f32) (x1 : Vec Ideal S1024x5632 .bf16) (x2 : Vec Ideal S2816x1024 .bf16) (r : Fin 512) (j : Fin 1024) (f : Fin 2816) : EReal :=
  hid (∑ k : Fin 1024, x0 (ix2 r k) * x1 (ix2 k ⟨f.val, by omega⟩)) (∑ k : Fin 1024, x0 (ix2 r k) * x1 (ix2 k ⟨2816 + f.val, by omega⟩)) * x2 (ix2 f j)

/-- A slice of the weights read where it lies. -/
theorem part_at (x0 : Vec Ideal S512x1024 .f32) (x1 : Vec Ideal S1024x5632 .bf16) (x2 : Vec Ideal S2816x1024 .bf16) (o p : Nat)
    (hg : ∀ a, (![0, o] : Fin 2 → Nat) a + (![1024, 256] : Fin 2 → Nat) a ≤ S1024x5632.size a)
    (hu : ∀ a, (![0, p] : Fin 2 → Nat) a + (![1024, 256] : Fin 2 → Nat) a ≤ S1024x5632.size a)
    (hd : ∀ a, (![o, 0] : Fin 2 → Nat) a + (![256, 1024] : Fin 2 → Nat) a ≤ S2816x1024.size a)
    (ho : o + 256 ≤ 2816) (hp : p = 2816 + o) (r : Fin 512) (j : Fin 1024) :
    part x0 (View.ld (Val := Elt Ideal) (e' := .bf16) x1 (Rect.unit ![0, o] ![1024, 256] hg)) (View.ld (Val := Elt Ideal) (e' := .bf16) x1 (Rect.unit ![0, p] ![1024, 256] hu)) (View.ld (Val := Elt Ideal) (e' := .bf16) x2 (Rect.unit ![o, 0] ![256, 1024] hd)) (ix2 r j)
      = ∑ f : Fin 256, share x0 x1 x2 r j ⟨o + f.val, by omega⟩ := by
  subst hp
  pointwise [part, share, Nat.add_assoc]

theorem last_eq (v1 v267 : Vec Ideal S512x1024 .f32) (g b : Vec Ideal S1x1024 .f32) (r : Fin 512) (j : Fin 1024) :
    k0_pay1 (k0_pay28 g) (k0_pay29 b) (k0_pay30 v1 v267) (k0_pay31 v1 v267) (ix2 r j) = layerNorm (fun k => alpha32 * v1 (ix2 r k) + v267 (ix2 r k)) (g (ix2 0 j)) (b (ix2 0 j)) j := by
  pointwise [k0_pay1, k0_pay28, k0_pay29, k0_pay30, k0_pay31, layerNorm, mean]

set_option maxHeartbeats 1000000 in
theorem out_eq (c : Dev nD) (i : grid0.Coords) (arg1 : Memref sig .tc .vmem S512x1024 .f32) (harg1 : arg1.IsWhole) (arg2 : Memref sig .tc .vmem S1024x5632 .bf16) (harg2 : arg2.IsWhole) (arg3 : Memref sig .tc .vmem S2816x1024 .bf16) (harg3 : arg3.IsWhole) (arg4 : Memref sig .tc .vmem S1x1024 .f32) (harg4 : arg4.IsWhole) (arg5 : Memref sig .tc .vmem S1x1024 .f32) (harg5 : arg5.IsWhole) (arg6 : Memref sig .tc .vmem S512x1024 .f32) (harg6 : arg6.IsWhole) (arg7 : Memref sig .tc .vmem S512x1024 .f32) (harg7 : arg7.IsWhole)
    (x0 : Vec Ideal S512x1024 .f32) (x1 : Vec Ideal S1024x5632 .bf16) (x2 : Vec Ideal S2816x1024 .bf16) (x3 : Vec Ideal S1x1024 .f32) (x4 : Vec Ideal S1x1024 .f32) (r : Fin 512) (j : Fin 1024) :
    out0_A_5 (F := Ideal) c i arg1 harg1 arg2 harg2 arg3 harg3 arg4 harg4 arg5 harg5 arg6 harg6 arg7 harg7 x0 x1 x2 x3 x4 (ix2 r j) =
      layerNorm (fun k => alpha32 * x0 (ix2 r k) + ∑ f : Fin 2816, share x0 x1 x2 r k f) (x3 (ix2 0 j)) (x4 (ix2 0 j)) j := by
  unfold out0_A_5
  rw [View.read_writes_eq_canon _ _ _ (cover0_A_5 c i arg1 harg1 arg2 harg2 arg3 harg3 arg4 harg4 arg5 harg5 arg6 harg6 arg7 harg7 x0 x1 x2 x3 x4)]
  unfold kernelRun0_A; dsimp only; sl_unfold_words
  rw [View.canon_unit_zero hz]
  simp only [View.readAt_eq_ld, harg1.read_unread, harg2.read_unread, harg3.read_unread, harg4.read_unread, harg5.read_unread, ↓View.readCov_cons_toLoadRect, s0, s1, s2, s3, s4, s5, s6, s7, s8, s9, s10]
  have e0 : View.ld (Val := Elt Ideal) (e' := .f32) x0 (Rect.unit ![0, 0] ![512, 1024] inb_S512x1024_S512x1024_0_0) = x0 := View.ld_unit_zero hz _ x0
  have e3 : View.ld (Val := Elt Ideal) (e' := .f32) x3 (Rect.unit ![0, 0] ![1, 1024] inb_S1x1024_S1x1024_0_0) = x3 := View.ld_unit_zero hz _ x3
  have e4 : View.ld (Val := Elt Ideal) (e' := .f32) x4 (Rect.unit ![0, 0] ![1, 1024] inb_S1x1024_S1x1024_0_0) = x4 := View.ld_unit_zero hz _ x4
  rw [e0, e3, e4, last_eq, show k0_pay2 x0 = x0 from shapeCast_self _ _]
  refine congrArg (fun s => layerNorm s (x3 (ix2 0 j)) (x4 (ix2 0 j)) j) (funext fun k => congrArg (alpha32 * x0 (ix2 r k) + ·) ?_)
  rw [Fin.sum_univ_tiles 11 256 rfl]
  simp (disch := omega) only [Pi.add_apply, part_at]
  rw [sum_eleven]
  rfl

end Cert.FfnIdeal.Val
end
-- ==== Proof.FfnArray.lean ====
module

public import proofs.«01_k».proof.Proof.FfnBlock

/-!
# The feed-forward kernel's result array

Every grid point writes back its block of one array, `result`, whose rows are `ffnRow` of the rows of the argument.
-/

@[expose] public section

set_option maxRecDepth 16384

noncomputable section

namespace Cert.FfnIdeal.Val

open Cert.FfnIdeal Cert.FfnIdeal.Gen Idealize.ShloMosaic Idealize.ShloMosaic.TcCoe Idealize.SL.Sem
open Idealize.ShloMosaic.Pipeline (Dat)
open Cert.Rows

variable (m : (ℓ : Loc nD τ sig) → Buf (Elt Ideal) ℓ) (ρ : Dev nD → PrngReg)

/-- Row `R` of the argument, its two leading axes laid end to end. -/
def rowOf (x : S8x4096x1024.Idx → EReal) (R : Fin 32768) (k : Fin 1024) : EReal :=
  x (ix3 (⟨R.val / 4096, by omega⟩ : Fin 8) (⟨R.val % 4096, by omega⟩ : Fin 4096) k)

/-- The array the kernel leaves, from the five arguments. -/
def result (x : S8x4096x1024.Idx → EReal) (w : S1024x5632.Idx → EReal) (d : S2816x1024.Idx → EReal) (g b : S1024.Idx → EReal) :
    S32768x1024.Idx → EReal :=
  fun i => ffnRow (rowOf x (i 0)) (fun k n => w (ix2 k n)) (fun f q => d (ix2 f q)) (fun q => g (ix1 q)) (fun q => b (ix1 q)) (i 1)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = 0 ∧ win0_1.index t 1 = 0 :=
  (by decide +kernel : ∀ t : Fin grid0.N, win0_1.index t 0 = 0 ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = t.val ∧ win0_5.index t 1 = 0 :=
  (by decide +kernel : ∀ t : Fin grid0.N, win0_5.index t 0 = t.val ∧ win0_5.index t 1 = 0)

theorem row_lt (t : Fin cfg0.N) (r : Fin 512) : t.val * 512 + r.val < 32768 := by
  have h : t.val < 64 := t.isLt
  omega

/-- Window 0's block at point `t` holds rows `512 t` to `512 t + 511` of the argument. -/
theorem blk0 (c : Dev nD) (t : Fin cfg0.N) (r : Fin 512) (k : Fin 1024) :
    (iblk m c 0 t : Vec Ideal S512x1024 .f32) (ix2 r k) = rowOf (m ((c : Thread nD τ).loc main_arg0)) ⟨t.val * 512 + r.val, row_lt t r⟩ k := by
  unfold iblk
  rw [View.read_apply]
  show V m c main_v0 _ = _
  have e : (V m c main_v0 : S32768x1024.Idx → EReal) = shapeCast S32768x1024 (m ((c : Thread nD τ).loc main_arg0)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 + r.val) / 4096 * 4096 + (t.val * 512 + r.val) % 4096) * 1024 + k.val
    = (win0_0.index t 0 * 512 + 1 * r.val) * 1024 + (win0_0.index t 1 * 1024 + 1 * k.val)
  rw [(idx_0 t).1, (idx_0 t).2]; omega

theorem blk1 (c : Dev nD) (t : Fin cfg0.N) (r : Fin 1024) (k : Fin 5632) :
    (iblk m c 1 t : Vec Ideal S1024x5632 .bf16) (ix2 r k) = m ((c : Thread nD τ).loc main_arg1) (ix2 r k) := by
  unfold iblk
  rw [View.read_apply]
  show V m c main_v1 _ = _
  have e : (V m c main_v1 : S1024x5632.Idx → EReal) = (m ((c : Thread nD τ).loc main_arg1)) := by
    unfold V; after_results; rfl
  rw [e]
  congr 1
  funext a
  apply Fin.ext
  match a with
  | ⟨0, _⟩ => show win0_1.index t 0 * 1024 + 1 * r.val = r.val; rw [(idx_1 t).1]; omega
  | ⟨1, _⟩ => show win0_1.index t 1 * 5632 + 1 * k.val = k.val; rw [(idx_1 t).2]; omega

theorem blk2 (c : Dev nD) (t : Fin cfg0.N) (r : Fin 2816) (k : Fin 1024) :
    (iblk m c 2 t : Vec Ideal S2816x1024 .bf16) (ix2 r k) = m ((c : Thread nD τ).loc main_arg2) (ix2 r k) := by
  unfold iblk
  rw [View.read_apply]
  show V m c main_v2 _ = _
  have e : (V m c main_v2 : S2816x1024.Idx → EReal) = (m ((c : Thread nD τ).loc main_arg2)) := by
    unfold V; after_results; rfl
  rw [e]
  congr 1
  funext a
  apply Fin.ext
  match a with
  | ⟨0, _⟩ => show win0_2.index t 0 * 2816 + 1 * r.val = r.val; rw [(idx_2 t).1]; omega
  | ⟨1, _⟩ => show win0_2.index t 1 * 1024 + 1 * k.val = k.val; rw [(idx_2 t).2]; omega

theorem blk3 (c : Dev nD) (t : Fin cfg0.N) (k : Fin 1024) :
    (iblk m c 3 t : Vec Ideal S1x1024 .f32) (ix2 0 k) = m ((c : Thread nD τ).loc main_arg3) (ix1 k) := by
  unfold iblk
  rw [View.read_apply]
  show V m c main_v3 _ = _
  have e : (V m c main_v3 : S1x1024.Idx → EReal) = shapeCast S1x1024 (m ((c : Thread nD τ).loc main_arg3)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_3.index t 0 * 1 + 1 * 0) * 1024 + (win0_3.index t 1 * 1024 + 1 * k.val)
  rw [(idx_3 t).1, (idx_3 t).2]; omega

theorem blk4 (c : Dev nD) (t : Fin cfg0.N) (k : Fin 1024) :
    (iblk m c 4 t : Vec Ideal S1x1024 .f32) (ix2 0 k) = m ((c : Thread nD τ).loc main_arg4) (ix1 k) := by
  unfold iblk
  rw [View.read_apply]
  show V m c main_v4 _ = _
  have e : (V m c main_v4 : S1x1024.Idx → EReal) = shapeCast S1x1024 (m ((c : Thread nD τ).loc main_arg4)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_4.index t 0 * 1 + 1 * 0) * 1024 + (win0_4.index t 1 * 1024 + 1 * k.val)
  rw [(idx_4 t).1, (idx_4 t).2]; omega

/-- The result array of core `c`. -/
abbrev resultOf (c : Dev nD) : S32768x1024.Idx → EReal :=
  result (m ((c : Thread nD τ).loc main_arg0)) (m ((c : Thread nD τ).loc main_arg1)) (m ((c : Thread nD τ).loc main_arg2))
    (m ((c : Thread nD τ).loc main_arg3)) (m ((c : Thread nD τ).loc main_arg4))

/-- What point `t` writes back is its block of the result array. -/
theorem flushed_eq (c : Dev nD) (t : Fin cfg0.N) :
    (dats m 0 c).flushed 5 t = (win0_5.blk t).view.read (Elt Ideal) (resultOf m c) := by
  rw [Value.flushed5_A]
  refine funext fun (j : S512x1024.Idx) => ?_
  show out0_A_5 (F := Ideal) c (grid0.coords t) _ _ _ _ _ _ _ _ _ _ _ _ _ _ _ _ _ _ _ j = resultOf m c ((win0_5.blk t).view.emb j)
  have ej : (win0_5.blk t).view.emb j = ix2 (⟨t.val * 512 + (j 0).val, row_lt t (j 0)⟩ : Fin 32768) (j 1) := by
    funext a
    apply Fin.ext
    match a with
    | ⟨0, _⟩ => show win0_5.index t 0 * 512 + 1 * (j 0).val = _; rw [(idx_5 t).1]; show _ = t.val * 512 + (j 0).val; omega
    | ⟨1, _⟩ => show win0_5.index t 1 * 1024 + 1 * (j 1).val = _; rw [(idx_5 t).2]; show _ = (j 1).val; omega
  rw [ej]
  idx_vars j
  rw [out_eq]
  simp only [share, blk0, blk1, blk2, blk3, blk4]
  rfl

/-- An index of the array is in point `t`'s block exactly when its row is one of the block's. -/
theorem mem_blk (t : Fin cfg0.N) (i : S32768x1024.Idx) :
    i ∈ ((cfg0.win 5).blk t).view.set ↔ t.val * 512 ≤ (i 0 : Nat) ∧ (i 0 : Nat) < t.val * 512 + 512 := by
  show i ∈ ((View.whole main_v5).slice (win0_5.rect t)).set ↔ _
  rw [View.set_slice_whole, Rect.mem_set_unit]
  have h1 : (i 1 : Nat) < 1024 := (i 1).isLt
  refine ⟨fun h => ?_, fun h a => ?_⟩
  · have : win0_5.index t 0 * 512 ≤ (i 0 : Nat) ∧ (i 0 : Nat) < win0_5.index t 0 * 512 + 512 := h 0
    rw [(idx_5 t).1] at this; exact this
  · match a with
    | ⟨0, _⟩ => show win0_5.index t 0 * 512 ≤ (i 0 : Nat) ∧ (i 0 : Nat) < win0_5.index t 0 * 512 + 512
                rw [(idx_5 t).1]; exact h
    | ⟨1, _⟩ => show win0_5.index t 1 * 1024 ≤ (i 1 : Nat) ∧ (i 1 : Nat) < win0_5.index t 1 * 1024 + 1024
                rw [(idx_5 t).2, Nat.zero_mul, Nat.zero_add]; exact ⟨Nat.zero_le _, h1⟩

/-- The array after the run. -/
theorem array_eq (c : Dev nD) : (dats m 0 c).arrAt 5 cfg0.N = resultOf m c :=
  (dats m 0 c).arrAt_eq_of_cover 5 (resultOf m c) (fun t _ => flushed_eq m c t) fun i =>
    have h0 : (i 0 : Nat) < 32768 := (i 0).isLt
    ⟨(⟨(i 0 : Nat) / 512, by show (i 0 : Nat) / 512 < 64; omega⟩ : Fin grid0.N), flush0_5 _, (mem_blk _ i).mpr (by
      show (i 0 : Nat) / 512 * 512 ≤ (i 0 : Nat) ∧ (i 0 : Nat) < (i 0 : Nat) / 512 * 512 + 512
      omega)⟩

/-- The run, read. -/
theorem run : θ_run defs (onTc (τ := τ) (main (F := Ideal))) ⟨m, fun _ => 0, ρ⟩ fun r => ∀ c : Dev nD,
      r.2.mem ((c : Thread nD τ).loc main_v5) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun _ h c => ⟨(h c).1.trans (array_eq m c), (h c).2⟩) (Value.run_blocks m ρ)

end Cert.FfnIdeal.Val

end
-- ==== Proof.FfnRefValue.lean ====
module

public import proofs.«01_k».proof.Proof.Gen.FfnRefIdeal.Run
public import proofs.«01_k».proof.Proof.Gen.FfnRefIdeal.Read
public import proofs.«01_k».proof.Proof.Rows

/-!
# The feed-forward reference's result, row by row
-/

@[expose] public section

set_option maxRecDepth 16384

noncomputable section

namespace Cert.FfnRefIdeal.RefValue

open Cert.FfnRefIdeal Cert.FfnRefIdeal.Gen Cert.FfnRefIdeal.Read Idealize.ShloMosaic Idealize.ShloMosaic.TcCoe Idealize.SL.Sem
open Cert.Rows

variable (x : S8x4096x1024.Idx → EReal) (w : S1024x5632.Idx → EReal) (d : S2816x1024.Idx → EReal) (g b : S1024.Idx → EReal)

theorem ref_at (R : Fin 32768) (j : Fin 1024) :
    val_main_v33 (F := Ideal) x w d g b (ix2 R j) = ffnRow (fun k => x (ix3 (⟨R.val / 4096, by omega⟩ : Fin 8) (⟨R.val % 4096, by omega⟩ : Fin 4096) k))
      (fun k n => w (ix2 k n)) (fun f q => d (ix2 f q)) (fun q => g (ix1 q)) (fun q => b (ix1 q)) j := by
  have e33 : idx_main_v33 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v33_apply, e33]
  generalize (⟨R.val / 4096, _⟩ : Fin 8) = p
  generalize (⟨R.val % 4096, _⟩ : Fin 4096) = q
  pointwise [val_main_v32, val_main_v31, val_main_v30, val_main_v29, val_main_v28, val_main_v27, val_main_v26, val_main_v25, val_main_v24, val_main_v23, val_main_v22, val_main_cst_4, val_main_v21, val_main_v20, val_main_v19, val_main_v18, val_main_cst_3, val_main_v17, val_main_v16, val_main_cst_2, val_main_v15, val_main_v14, val_main_v13, val_main_v12, val_main_v11, val_main_cst_1, val_main_v10, val_main_v9, val_main_cst_0, val_main_v8, val_main_v7, val_main_v6, val_main_v5, val_main_call0_v5, val_main_call0_v4, val_main_call0_cst_0, val_main_call0_v3, val_main_call0_v2, val_main_call0_cst, val_main_call0_v1, val_main_call0_v0, val_main_v4, val_main_v3, val_main_v2, val_main_v1, val_main_v0, val_main_cst, ffnRow, layerNorm, mean, hid]

end Cert.FfnRefIdeal.RefValue

end
-- ==== Proof.MixBlock.lean ====
module

public import proofs.«01_k».proof.Proof.Gen.MixIdeal.Value
public import proofs.«01_k».proof.Proof.Rows

/-!
# One block of the feed-forward kernel that first closes the time-mixing layer
-/

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.Rows

theorem hz : (![0,0] : Fin 2 → Nat) = fun _ => 0 := funext fun a => by fin_cases a <;> rfl

/-- What one slice of 256 hidden units adds to the block. -/
def part (x : Vec Ideal S512x1024 .bf16) (g u : Vec Ideal S1024x256 .bf16) (d : Vec Ideal S256x1024 .bf16) : Vec Ideal S512x1024 .f32 :=
  fun i => ∑ f : Fin 256, hid (∑ k : Fin 1024, x (ix2 (i 0) k) * g (ix2 k f)) (∑ k : Fin 1024, x (ix2 (i 0) k) * u (ix2 k f)) * d (ix2 f (i 1))

section
variable (x : Vec Ideal S512x1024 .bf16) (a : Vec Ideal S512x1024 .f32) (g u : Vec Ideal S1024x256 .bf16) (d : Vec Ideal S256x1024 .bf16)

theorem s0 : k0_pay4 x g u d = part x g u d := by
  funext i
  idx_vars i
  pointwise [k0_pay4, part, hid, zero_sub, Pi.add_apply]

theorem s1 : k0_pay6 (k0_pay5 x g u) d a = a + part x g u d := by
  funext i
  idx_vars i
  pointwise [k0_pay5, k0_pay6, part, hid, zero_sub, Pi.add_apply]

theorem s2 : k0_pay7 x g u d a = a + part x g u d := by
  funext i
  idx_vars i
  pointwise [k0_pay7, part, hid, zero_sub, Pi.add_apply]

theorem s3 : k0_pay8 x g u d a = a + part x g u d := by
  funext i
  idx_vars i
  pointwise [k0_pay8, part, hid, zero_sub, Pi.add_apply]

theorem s4 : k0_pay13 (k0_pay9 x g) (k0_pay10 x u) (k0_pay11 x g) k0_pay12 d a = a + part x g u d := by
  funext i
  idx_vars i
  pointwise [k0_pay9, k0_pay10, k0_pay11, k0_pay12, k0_pay13, part, hid, zero_sub, Pi.add_apply]

theorem s5 : k0_pay14 x g u d a = a + part x g u d := by
  funext i
  idx_vars i
  pointwise [k0_pay14, part, hid, zero_sub, Pi.add_apply]

theorem s6 : k0_pay15 x g u d a = a + part x g u d := by
  funext i
  idx_vars i
  pointwise [k0_pay15, part, hid, zero_sub, Pi.add_apply]

theorem s7 : k0_pay20 (k0_pay16 x g) (k0_pay17 x u) (k0_pay18 x g) k0_pay19 d a = a + part x g u d := by
  funext i
  idx_vars i
  pointwise [k0_pay16, k0_pay17, k0_pay18, k0_pay19, k0_pay20, part, hid, zero_sub, Pi.add_apply]

theorem s8 : k0_pay22 (k0_pay21 x g u d a) = a + part x g u d := by
  funext i
  idx_vars i
  pointwise [k0_pay21, k0_pay22, part, hid, zero_sub, Pi.add_apply]

theorem s9 : k0_pay23 x g u d a = a + part x g u d := by
  funext i
  idx_vars i
  pointwise [k0_pay23, part, hid, zero_sub, Pi.add_apply]

theorem s10 : k0_pay27 (k0_pay24 x g) (k0_pay25 x u) (k0_pay26 x g) d a = a + part x g u d := by
  funext i
  idx_vars i
  pointwise [k0_pay24, k0_pay25, k0_pay26, k0_pay27, part, hid, zero_sub, Pi.add_apply]

end

/-- The normalised sum of the residual and the gated mixing output's projection, as the block holds it. -/
theorem mixed_eq (y h x : Vec Ideal S512x1024 .f32) (w : Vec Ideal S1024x1024 .bf16) (g b : Vec Ideal S1x1024 .f32) (r : Fin 512) (j : Fin 1024) :
    k0_pay2 y h w x g b (ix2 r j) = mixRow (fun k => x (ix2 r k)) (fun k => y (ix2 r k)) (fun k => h (ix2 r k)) (fun k q => w (ix2 k q)) (fun q => g (ix2 0 q)) (fun q => b (ix2 0 q)) j := by
  pointwise [k0_pay2, mixRow, layerNorm, mean]

/-- The hidden unit `f`'s share of column `j` of row `r`. -/
def share (x0 : Vec Ideal S512x1024 .bf16) (x1 : Vec Ideal S1024x5632 .bf16) (x2 : Vec Ideal S2816x1024 .bf16) (r : Fin 512) (j : Fin 1024) (f : Fin 2816) : EReal :=
  hid (∑ k : Fin 1024, x0 (ix2 r k) * x1 (ix2 k ⟨f.val, by omega⟩)) (∑ k : Fin 1024, x0 (ix2 r k) * x1 (ix2 k ⟨2816 + f.val, by omega⟩)) * x2 (ix2 f j)

/-- A slice of the weights read where it lies. -/
theorem part_at (x0 : Vec Ideal S512x1024 .bf16) (x1 : Vec Ideal S1024x5632 .bf16) (x2 : Vec Ideal S2816x1024 .bf16) (o p : Nat)
    (hg : ∀ a, (![0, o] : Fin 2 → Nat) a + (![1024, 256] : Fin 2 → Nat) a ≤ S1024x5632.size a)
    (hu : ∀ a, (![0, p] : Fin 2 → Nat) a + (![1024, 256] : Fin 2 → Nat) a ≤ S1024x5632.size a)
    (hd : ∀ a, (![o, 0] : Fin 2 → Nat) a + (![256, 1024] : Fin 2 → Nat) a ≤ S2816x1024.size a)
    (ho : o + 256 ≤ 2816) (hp : p = 2816 + o) (r : Fin 512) (j : Fin 1024) :
    part x0 (View.ld (Val := Elt Ideal) (e' := .bf16) x1 (Rect.unit ![0, o] ![1024, 256] hg)) (View.ld (Val := Elt Ideal) (e' := .bf16) x1 (Rect.unit ![0, p] ![1024, 256] hu)) (View.ld (Val := Elt Ideal) (e' := .bf16) x2 (Rect.unit ![o, 0] ![256, 1024] hd)) (ix2 r j)
      = ∑ f : Fin 256, share x0 x1 x2 r j ⟨o + f.val, by omega⟩ := by
  subst hp
  pointwise [part, share, Nat.add_assoc]

theorem last_eq (x a : Vec Ideal S512x1024 .f32) (g b : Vec Ideal S1x1024 .f32) (r : Fin 512) (j : Fin 1024) :
    k0_pay1 (k0_pay28 g) (k0_pay29 b) (k0_pay30 x a) (k0_pay31 x a) (ix2 r j) = layerNorm (fun k => alpha32 * x (ix2 r k) + a (ix2 r k)) (g (ix2 0 j)) (b (ix2 0 j)) j := by
  pointwise [k0_pay1, k0_pay28, k0_pay29, k0_pay30, k0_pay31, layerNorm, mean]

set_option maxHeartbeats 1000000 in
theorem out_eq (c : Dev nD) (i : grid0.Coords) (arg1 : Memref sig .tc .vmem S512x1024 .f32) (harg1 : arg1.IsWhole) (arg2 : Memref sig .tc .vmem S512x1024 .f32) (harg2 : arg2.IsWhole) (arg3 : Memref sig .tc .vmem S512x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1x1024 .f32) (harg6 : arg6.IsWhole) (arg7 : Memref sig .tc .vmem S1024x5632 .bf16) (harg7 : arg7.IsWhole) (arg8 : Memref sig .tc .vmem S2816x1024 .bf16) (harg8 : arg8.IsWhole) (arg9 : Memref sig .tc .vmem S1x1024 .f32) (harg9 : arg9.IsWhole) (arg10 : Memref sig .tc .vmem S1x1024 .f32) (harg10 : arg10.IsWhole) (arg11 : Memref sig .tc .vmem S512x1024 .f32) (harg11 : arg11.IsWhole) (arg12 : Memref sig .tc .vmem S512x1024 .f32) (harg12 : arg12.IsWhole)
    (x0 x1 x2 : Vec Ideal S512x1024 .f32) (x3 : Vec Ideal S1024x1024 .bf16) (x4 x5 : Vec Ideal S1x1024 .f32) (x6 : Vec Ideal S1024x5632 .bf16) (x7 : Vec Ideal S2816x1024 .bf16) (x8 x9 : Vec Ideal S1x1024 .f32) (r : Fin 512) (j : Fin 1024) :
    out0_A_10 (F := Ideal) c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9 (ix2 r j) =
      ffnRow (mixRow (fun k => x0 (ix2 r k)) (fun k => x1 (ix2 r k)) (fun k => x2 (ix2 r k)) (fun k q => x3 (ix2 k q)) (fun q => x4 (ix2 0 q)) (fun q => x5 (ix2 0 q)))
        (fun k n => x6 (ix2 k n)) (fun f q => x7 (ix2 f q)) (fun q => x8 (ix2 0 q)) (fun q => x9 (ix2 0 q)) j := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 x0 x1 x2 x3 x4 x5 x6 x7 x8 x9)]
  unfold kernelRun0_A; dsimp only; sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, ↓View.readCov_cons_toLoadRect, s0, s1, s2, s3, s4, s5, s6, s7, s8, s9, s10]
  have e0 : View.ld (Val := Elt Ideal) (e' := .f32) x0 (Rect.unit ![0, 0] ![512, 1024] inb_S512x1024_S512x1024_0_0) = x0 := View.ld_unit_zero hz _ x0
  have e1 : View.ld (Val := Elt Ideal) (e' := .f32) x1 (Rect.unit ![0, 0] ![512, 1024] inb_S512x1024_S512x1024_0_0) = x1 := View.ld_unit_zero hz _ x1
  have e2 : View.ld (Val := Elt Ideal) (e' := .f32) x2 (Rect.unit ![0, 0] ![512, 1024] inb_S512x1024_S512x1024_0_0) = x2 := View.ld_unit_zero hz _ x2
  have e3 : View.ld (Val := Elt Ideal) (e' := .bf16) x3 (Rect.unit ![0, 0] ![1024, 1024] inb_S1024x1024_S1024x1024_0_0) = x3 := View.ld_unit_zero hz _ x3
  have e4 : View.ld (Val := Elt Ideal) (e' := .f32) x4 (Rect.unit ![0, 0] ![1, 1024] inb_S1x1024_S1x1024_0_0) = x4 := View.ld_unit_zero hz _ x4
  have e5 : View.ld (Val := Elt Ideal) (e' := .f32) x5 (Rect.unit ![0, 0] ![1, 1024] inb_S1x1024_S1x1024_0_0) = x5 := View.ld_unit_zero hz _ x5
  have e8 : View.ld (Val := Elt Ideal) (e' := .f32) x8 (Rect.unit ![0, 0] ![1, 1024] inb_S1x1024_S1x1024_0_0) = x8 := View.ld_unit_zero hz _ x8
  have e9 : View.ld (Val := Elt Ideal) (e' := .f32) x9 (Rect.unit ![0, 0] ![1, 1024] inb_S1x1024_S1x1024_0_0) = x9 := View.ld_unit_zero hz _ x9
  rw [e0, e1, e2, e3, e4, e5, e8, e9, last_eq, show k0_pay3 x1 x2 x3 x0 x4 x5 = k0_pay2 x1 x2 x3 x0 x4 x5 from rfl]
  simp only [mixed_eq]
  generalize hX : (k0_pay2 x1 x2 x3 x0 x4 x5 : Vec Ideal S512x1024 .f32) = X
  have hm : ∀ k, mixRow (fun k => x0 (ix2 r k)) (fun k => x1 (ix2 r k)) (fun k => x2 (ix2 r k)) (fun k q => x3 (ix2 k q)) (fun q => x4 (ix2 0 q)) (fun q => x5 (ix2 0 q)) k = X (ix2 r k) := fun k => by rw [← hX, mixed_eq]
  unfold ffnRow
  simp only [hm]
  refine congrArg (fun s => layerNorm s (x8 (ix2 0 j)) (x9 (ix2 0 j)) j) (funext fun k => congrArg (alpha32 * X (ix2 r k) + ·) ?_)
  refine Eq.trans ?_ (show ∑ f : Fin 2816, share X x6 x7 r k f = _ from rfl)
  rw [Fin.sum_univ_tiles 11 256 rfl]
  simp (disch := omega) only [Pi.add_apply, part_at]
  rw [sum_eleven]
  rfl

end Cert.MixIdeal.Val
end
-- ==== Proof.MixArray.lean ====
module

public import proofs.«01_k».proof.Proof.MixBlock

/-!
# The result array of the feed-forward kernel that closes the time-mixing layer

Every grid point writes back its block of one array, `result`, whose rows are `ffnRow` of `mixRow` of the rows of the arguments.
-/

@[expose] public section

set_option maxRecDepth 16384

noncomputable section

namespace Cert.MixIdeal.Val

open Cert.MixIdeal Cert.MixIdeal.Gen Idealize.ShloMosaic Idealize.ShloMosaic.TcCoe Idealize.SL.Sem
open Idealize.ShloMosaic.Pipeline (Dat)
open Cert.Rows

variable (m : (ℓ : Loc nD τ sig) → Buf (Elt Ideal) ℓ) (ρ : Dev nD → PrngReg)

/-- Row `R` of an argument, its two leading axes laid end to end. -/
def rowOf (x : S8x4096x1024.Idx → EReal) (R : Fin 32768) (k : Fin 1024) : EReal :=
  x (ix3 (⟨R.val / 4096, by omega⟩ : Fin 8) (⟨R.val % 4096, by omega⟩ : Fin 4096) k)

theorem row_lt (t : Fin cfg0.N) (r : Fin 512) : t.val * 512 + r.val < 32768 := by
  have h : t.val < 64 := t.isLt
  omega

/-- The array the kernel leaves, from its arguments. -/
def result (x y h : S8x4096x1024.Idx → EReal) (o : S1024x1024.Idx → EReal) (g0 b0 : S1024.Idx → EReal) (w : S1024x5632.Idx → EReal) (d : S2816x1024.Idx → EReal) (g b : S1024.Idx → EReal) :
    S32768x1024.Idx → EReal :=
  fun i => ffnRow (mixRow (rowOf x (i 0)) (rowOf y (i 0)) (rowOf h (i 0)) (fun k q => o (ix2 k q)) (fun q => g0 (ix1 q)) (fun q => b0 (ix1 q)))
    (fun k n => w (ix2 k n)) (fun f q => d (ix2 f q)) (fun q => g (ix1 q)) (fun q => b (ix1 q)) (i 1)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val ∧ win0_1.index t 1 = 0 :=
  (by decide +kernel : ∀ t : Fin grid0.N, win0_1.index t 0 = t.val ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = 0 ∧ win0_7.index t 1 = 0 :=
  (by decide +kernel : ∀ t : Fin grid0.N, win0_7.index t 0 = 0 ∧ win0_7.index t 1 = 0)
theorem idx_8 : ∀ t : Fin cfg0.N, win0_8.index t 0 = 0 ∧ win0_8.index t 1 = 0 :=
  (by decide +kernel : ∀ t : Fin grid0.N, win0_8.index t 0 = 0 ∧ win0_8.index t 1 = 0)
theorem idx_9 : ∀ t : Fin cfg0.N, win0_9.index t 0 = 0 ∧ win0_9.index t 1 = 0 :=
  (by decide +kernel : ∀ t : Fin grid0.N, win0_9.index t 0 = 0 ∧ win0_9.index t 1 = 0)
theorem idx_10 : ∀ t : Fin cfg0.N, win0_10.index t 0 = t.val ∧ win0_10.index t 1 = 0 :=
  (by decide +kernel : ∀ t : Fin grid0.N, win0_10.index t 0 = t.val ∧ win0_10.index t 1 = 0)

/-- Window 0's block at point `t` holds rows `512 t` to `512 t + 511` of argument 0. -/
theorem blk0 (c : Dev nD) (t : Fin cfg0.N) (r : Fin 512) (k : Fin 1024) :
    (iblk m c 0 t : Vec Ideal S512x1024 .f32) (ix2 r k) = rowOf (m ((c : Thread nD τ).loc main_arg0)) ⟨t.val * 512 + r.val, row_lt t r⟩ k := by
  unfold iblk
  rw [View.read_apply]
  show V m c main_v5 _ = _
  have e : (V m c main_v5 : S32768x1024.Idx → EReal) = shapeCast S32768x1024 (m ((c : Thread nD τ).loc main_arg0)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 + r.val) / 4096 * 4096 + (t.val * 512 + r.val) % 4096) * 1024 + k.val
    = (win0_0.index t 0 * 512 + 1 * r.val) * 1024 + (win0_0.index t 1 * 1024 + 1 * k.val)
  rw [(idx_0 t).1, (idx_0 t).2]; omega

/-- Window 1's block at point `t` holds rows `512 t` to `512 t + 511` of argument 1. -/
theorem blk1 (c : Dev nD) (t : Fin cfg0.N) (r : Fin 512) (k : Fin 1024) :
    (iblk m c 1 t : Vec Ideal S512x1024 .f32) (ix2 r k) = rowOf (m ((c : Thread nD τ).loc main_arg1)) ⟨t.val * 512 + r.val, row_lt t r⟩ k := by
  unfold iblk
  rw [View.read_apply]
  show V m c main_v0 _ = _
  have e : (V m c main_v0 : S32768x1024.Idx → EReal) = shapeCast S32768x1024 (m ((c : Thread nD τ).loc main_arg1)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 + r.val) / 4096 * 4096 + (t.val * 512 + r.val) % 4096) * 1024 + k.val
    = (win0_1.index t 0 * 512 + 1 * r.val) * 1024 + (win0_1.index t 1 * 1024 + 1 * k.val)
  rw [(idx_1 t).1, (idx_1 t).2]; omega

/-- Window 2's block at point `t` holds rows `512 t` to `512 t + 511` of argument 2. -/
theorem blk2 (c : Dev nD) (t : Fin cfg0.N) (r : Fin 512) (k : Fin 1024) :
    (iblk m c 2 t : Vec Ideal S512x1024 .f32) (ix2 r k) = rowOf (m ((c : Thread nD τ).loc main_arg2)) ⟨t.val * 512 + r.val, row_lt t r⟩ k := by
  unfold iblk
  rw [View.read_apply]
  show V m c main_v1 _ = _
  have e : (V m c main_v1 : S32768x1024.Idx → EReal) = shapeCast S32768x1024 (m ((c : Thread nD τ).loc main_arg2)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 + r.val) / 4096 * 4096 + (t.val * 512 + r.val) % 4096) * 1024 + k.val
    = (win0_2.index t 0 * 512 + 1 * r.val) * 1024 + (win0_2.index t 1 * 1024 + 1 * k.val)
  rw [(idx_2 t).1, (idx_2 t).2]; omega

theorem blk3 (c : Dev nD) (t : Fin cfg0.N) (r : Fin 1024) (k : Fin 1024) :
    (iblk m c 3 t : Vec Ideal S1024x1024 .bf16) (ix2 r k) = m ((c : Thread nD τ).loc main_arg3) (ix2 r k) := by
  unfold iblk
  rw [View.read_apply]
  show V m c main_v2 _ = _
  have e : (V m c main_v2 : S1024x1024.Idx → EReal) = (m ((c : Thread nD τ).loc main_arg3)) := by
    unfold V; after_results; rfl
  rw [e]
  congr 1
  funext a
  apply Fin.ext
  match a with
  | ⟨0, _⟩ => show win0_3.index t 0 * 1024 + 1 * r.val = r.val; rw [(idx_3 t).1]; omega
  | ⟨1, _⟩ => show win0_3.index t 1 * 1024 + 1 * k.val = k.val; rw [(idx_3 t).2]; omega

theorem blk4 (c : Dev nD) (t : Fin cfg0.N) (k : Fin 1024) :
    (iblk m c 4 t : Vec Ideal S1x1024 .f32) (ix2 0 k) = m ((c : Thread nD τ).loc main_arg4) (ix1 k) := by
  unfold iblk
  rw [View.read_apply]
  show V m c main_v3 _ = _
  have e : (V m c main_v3 : S1x1024.Idx → EReal) = shapeCast S1x1024 (m ((c : Thread nD τ).loc main_arg4)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_4.index t 0 * 1 + 1 * 0) * 1024 + (win0_4.index t 1 * 1024 + 1 * k.val)
  rw [(idx_4 t).1, (idx_4 t).2]; omega

theorem blk5 (c : Dev nD) (t : Fin cfg0.N) (k : Fin 1024) :
    (iblk m c 5 t : Vec Ideal S1x1024 .f32) (ix2 0 k) = m ((c : Thread nD τ).loc main_arg5) (ix1 k) := by
  unfold iblk
  rw [View.read_apply]
  show V m c main_v4 _ = _
  have e : (V m c main_v4 : S1x1024.Idx → EReal) = shapeCast S1x1024 (m ((c : Thread nD τ).loc main_arg5)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_5.index t 0 * 1 + 1 * 0) * 1024 + (win0_5.index t 1 * 1024 + 1 * k.val)
  rw [(idx_5 t).1, (idx_5 t).2]; omega

theorem blk6 (c : Dev nD) (t : Fin cfg0.N) (r : Fin 1024) (k : Fin 5632) :
    (iblk m c 6 t : Vec Ideal S1024x5632 .bf16) (ix2 r k) = m ((c : Thread nD τ).loc main_arg6) (ix2 r k) := by
  unfold iblk
  rw [View.read_apply]
  show V m c main_v6 _ = _
  have e : (V m c main_v6 : S1024x5632.Idx → EReal) = (m ((c : Thread nD τ).loc main_arg6)) := by
    unfold V; after_results; rfl
  rw [e]
  congr 1
  funext a
  apply Fin.ext
  match a with
  | ⟨0, _⟩ => show win0_6.index t 0 * 1024 + 1 * r.val = r.val; rw [(idx_6 t).1]; omega
  | ⟨1, _⟩ => show win0_6.index t 1 * 5632 + 1 * k.val = k.val; rw [(idx_6 t).2]; omega

theorem blk7 (c : Dev nD) (t : Fin cfg0.N) (r : Fin 2816) (k : Fin 1024) :
    (iblk m c 7 t : Vec Ideal S2816x1024 .bf16) (ix2 r k) = m ((c : Thread nD τ).loc main_arg7) (ix2 r k) := by
  unfold iblk
  rw [View.read_apply]
  show V m c main_v7 _ = _
  have e : (V m c main_v7 : S2816x1024.Idx → EReal) = (m ((c : Thread nD τ).loc main_arg7)) := by
    unfold V; after_results; rfl
  rw [e]
  congr 1
  funext a
  apply Fin.ext
  match a with
  | ⟨0, _⟩ => show win0_7.index t 0 * 2816 + 1 * r.val = r.val; rw [(idx_7 t).1]; omega
  | ⟨1, _⟩ => show win0_7.index t 1 * 1024 + 1 * k.val = k.val; rw [(idx_7 t).2]; omega

theorem blk8 (c : Dev nD) (t : Fin cfg0.N) (k : Fin 1024) :
    (iblk m c 8 t : Vec Ideal S1x1024 .f32) (ix2 0 k) = m ((c : Thread nD τ).loc main_arg8) (ix1 k) := by
  unfold iblk
  rw [View.read_apply]
  show V m c main_v8 _ = _
  have e : (V m c main_v8 : S1x1024.Idx → EReal) = shapeCast S1x1024 (m ((c : Thread nD τ).loc main_arg8)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_8.index t 0 * 1 + 1 * 0) * 1024 + (win0_8.index t 1 * 1024 + 1 * k.val)
  rw [(idx_8 t).1, (idx_8 t).2]; omega

theorem blk9 (c : Dev nD) (t : Fin cfg0.N) (k : Fin 1024) :
    (iblk m c 9 t : Vec Ideal S1x1024 .f32) (ix2 0 k) = m ((c : Thread nD τ).loc main_arg9) (ix1 k) := by
  unfold iblk
  rw [View.read_apply]
  show V m c main_v9 _ = _
  have e : (V m c main_v9 : S1x1024.Idx → EReal) = shapeCast S1x1024 (m ((c : Thread nD τ).loc main_arg9)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_9.index t 0 * 1 + 1 * 0) * 1024 + (win0_9.index t 1 * 1024 + 1 * k.val)
  rw [(idx_9 t).1, (idx_9 t).2]; omega

/-- The result array of core `c`. -/
abbrev resultOf (c : Dev nD) : S32768x1024.Idx → EReal :=
  result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- Where element `j` of point `t`'s block lies in the array. -/
theorem emb_10 (t : Fin cfg0.N) (j : S512x1024.Idx) :
    (win0_10.blk t).view.emb j = ix2 (⟨t.val * 512 + (j 0).val, row_lt t (j 0)⟩ : Fin 32768) (j 1) := by
  funext a
  apply Fin.ext
  match a with
  | ⟨0, _⟩ => show win0_10.index t 0 * 512 + 1 * (j 0).val = _; rw [(idx_10 t).1]; show _ = t.val * 512 + (j 0).val; omega
  | ⟨1, _⟩ => show win0_10.index t 1 * 1024 + 1 * (j 1).val = _; rw [(idx_10 t).2]; show _ = (j 1).val; omega

/-- What point `t` writes back is its block of the result array. -/
theorem flushed_eq_10 (c : Dev nD) (t : Fin cfg0.N) :
    (dats m 0 c).flushed 10 t = (win0_10.blk t).view.read (Elt Ideal) (resultOf m c) := by
  rw [Value.flushed10_A]
  refine funext fun (j : S512x1024.Idx) => ?_
  show out0_A_10 (F := Ideal) c (grid0.coords t) _ _ _ _ _ _ _ _ _ _ _ _ _ _ _ _ _ _ _ _ _ _ _ _ _ _ _ _ _ _ _ _ _ _ j = resultOf m c ((win0_10.blk t).view.emb j)
  rw [emb_10]
  idx_vars j
  rw [out_eq]
  simp only [blk0, blk1, blk2, blk3, blk4, blk5, blk6, blk7, blk8, blk9]
  rfl

/-- An index of the array is in point `t`'s block exactly when its row is one of the block's. -/
theorem mem_blk_10 (t : Fin cfg0.N) (i : S32768x1024.Idx) :
    i ∈ ((cfg0.win 10).blk t).view.set ↔ t.val * 512 ≤ (i 0 : Nat) ∧ (i 0 : Nat) < t.val * 512 + 512 := by
  show i ∈ ((View.whole main_v10).slice (win0_10.rect t)).set ↔ _
  rw [View.set_slice_whole, Rect.mem_set_unit]
  have h1 : (i 1 : Nat) < 1024 := (i 1).isLt
  refine ⟨fun h => ?_, fun h a => ?_⟩
  · have : win0_10.index t 0 * 512 ≤ (i 0 : Nat) ∧ (i 0 : Nat) < win0_10.index t 0 * 512 + 512 := h 0
    rw [(idx_10 t).1] at this; exact this
  · match a with
    | ⟨0, _⟩ => show win0_10.index t 0 * 512 ≤ (i 0 : Nat) ∧ (i 0 : Nat) < win0_10.index t 0 * 512 + 512
                rw [(idx_10 t).1]; exact h
    | ⟨1, _⟩ => show win0_10.index t 1 * 1024 ≤ (i 1 : Nat) ∧ (i 1 : Nat) < win0_10.index t 1 * 1024 + 1024
                rw [(idx_10 t).2, Nat.zero_mul, Nat.zero_add]; exact ⟨Nat.zero_le _, h1⟩

/-- The array after the run. -/
theorem array_eq_10 (c : Dev nD) : (dats m 0 c).arrAt 10 cfg0.N = resultOf m c :=
  (dats m 0 c).arrAt_eq_of_cover 10 (resultOf m c) (fun t _ => flushed_eq_10 m c t) fun i =>
    have h0 : (i 0 : Nat) < 32768 := (i 0).isLt
    ⟨(⟨(i 0 : Nat) / 512, by show (i 0 : Nat) / 512 < 64; omega⟩ : Fin grid0.N), flush0_10 _, (mem_blk_10 _ i).mpr (by
      show (i 0 : Nat) / 512 * 512 ≤ (i 0 : Nat) ∧ (i 0 : Nat) < (i 0 : Nat) / 512 * 512 + 512
      omega)⟩

/-- The run, read. -/
theorem run : θ_run defs (onTc (τ := τ) (main (F := Ideal))) ⟨m, fun _ => 0, ρ⟩ fun r => ∀ c : Dev nD,
      r.2.mem ((c : Thread nD τ).loc main_v10) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun _ h c => ⟨(h c).1.trans (array_eq_10 m c), (h c).2⟩) (Value.run_blocks m ρ)

end Cert.MixIdeal.Val

end
-- ==== Proof.MixRefValue.lean ====
module

public import proofs.«01_k».proof.Proof.Gen.MixRefIdeal.Run
public import proofs.«01_k».proof.Proof.Gen.MixRefIdeal.Read
public import proofs.«01_k».proof.Proof.Rows

/-!
# The reference of the feed-forward kernel that closes the time-mixing layer, row by row
-/

@[expose] public section

set_option maxRecDepth 16384

noncomputable section

namespace Cert.MixRefIdeal.RefValue

open Cert.MixRefIdeal Cert.MixRefIdeal.Gen Cert.MixRefIdeal.Read Idealize.ShloMosaic Idealize.ShloMosaic.TcCoe Idealize.SL.Sem
open Cert.Rows

variable (x y h : S8x4096x1024.Idx → EReal) (o : S1024x1024.Idx → EReal) (g0 b0 : S1024.Idx → EReal) (w : S1024x5632.Idx → EReal) (d : S2816x1024.Idx → EReal) (g b : S1024.Idx → EReal)

set_option maxHeartbeats 1000000 in
theorem ref_at (R : Fin 32768) (j : Fin 1024) :
    val_main_v62 (F := Ideal) x y h o g0 b0 w d g b (ix2 R j) = ffnRow (mixRow (fun k => x (ix3 (⟨R.val / 4096, by omega⟩ : Fin 8) (⟨R.val % 4096, by omega⟩ : Fin 4096) k))
        (fun k => y (ix3 (⟨R.val / 4096, by omega⟩ : Fin 8) (⟨R.val % 4096, by omega⟩ : Fin 4096) k)) (fun k => h (ix3 (⟨R.val / 4096, by omega⟩ : Fin 8) (⟨R.val % 4096, by omega⟩ : Fin 4096) k))
        (fun k q => o (ix2 k q)) (fun q => g0 (ix1 q)) (fun q => b0 (ix1 q)))
      (fun k n => w (ix2 k n)) (fun f q => d (ix2 f q)) (fun q => g (ix1 q)) (fun q => b (ix1 q)) j := by
  have e : idx_main_v62 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v62_apply, e]
  generalize (⟨R.val / 4096, _⟩ : Fin 8) = p
  generalize (⟨R.val % 4096, _⟩ : Fin 4096) = q
  pointwise [val_main_v61, val_main_v60, val_main_v59, val_main_v58, val_main_v57, val_main_v56, val_main_v55, val_main_v54, val_main_v53, val_main_v52, val_main_v51, val_main_cst_10, val_main_v50, val_main_v49, val_main_v48, val_main_v47, val_main_cst_9, val_main_v46, val_main_v45, val_main_cst_8, val_main_v44, val_main_v43, val_main_v42, val_main_v41, val_main_v40, val_main_cst_7, val_main_v39, val_main_v38, val_main_cst_6, val_main_v37, val_main_v36, val_main_v35, val_main_v34, val_main_call0_v5, val_main_call0_v4, val_main_call0_cst_0, val_main_call0_v3, val_main_call0_v2, val_main_call0_cst, val_main_call0_v1, val_main_call0_v0, val_main_v33, val_main_v32, val_main_v31, val_main_v30, val_main_v29, val_main_cst_5, val_main_v28, val_main_v27, val_main_v26, val_main_v25, val_main_v24, val_main_v23, val_main_v22, val_main_v21, val_main_v20, val_main_v19, val_main_v18, val_main_cst_4, val_main_v17, val_main_v16, val_main_v15, val_main_v14, val_main_cst_3, val_main_v13, val_main_v12, val_main_cst_2, val_main_v11, val_main_v10, val_main_v9, val_main_v8, val_main_v7, val_main_cst_1, val_main_v6, val_main_v5, val_main_cst_0, val_main_v4, val_main_v3, val_main_v2, val_main_cst, val_main_v1, val_main_v0, ffnRow, mixRow, layerNorm, mean, hid]

end Cert.MixRefIdeal.RefValue

end
-- ==== Proof.PreRows.lean ====
module

public import proofs.«01_k».proof.Proof.Rows

/-!
# One row of the projections in front of the recurrence, on the extended reals

A row of a layer's input is mixed with the row before it, six times, and each mixed row is projected.
-/

@[expose] public section

noncomputable section

namespace Cert.Rows

open Idealize.ShloMosaic

/-- The word of `0.5`. -/
abbrev half : EReal := Ideal.ofBits .f32 0x3F000000#32

theorem absf_eq (z : EReal) : FloatOps.absf (F := Ideal) (φ := .f32) z = max z (-z) := rfl

theorem log1p_eq (z : EReal) : Ideal.log1p z = Ideal.log (1 + z) := rfl

theorem self_ne (a b c : EReal) [Decidable (a ≠ a)] : (if a ≠ a then b else c) = c := if_neg fun h => h rfl

theorem sel_pos {α : Type} {c : BitVec 1} (a b : α) (h : c = 1#1) : Scalar.select c a b = a := if_pos h

theorem sel_neg {α : Type} {c : BitVec 1} (a b : α) (h : ¬c = 1#1) : Scalar.select c a b = b := if_neg h

/-- The logistic function. -/
def logi (z : EReal) : EReal := Ideal.div 1 (1 + Ideal.exp (-z))

/-- A row moved towards the row before it, by the column's share. -/
def shift (x p u : Fin 1024 → EReal) (k : Fin 1024) : EReal := x k + (p k - x k) * u k

/-- The logarithm of the decay, from the decay's parameter. -/
def logDecay (z : EReal) : EReal := -Ideal.exp (-(max (-z) 0 + Ideal.log (1 + Ideal.exp (-max (-z) (- -z)))) - half)

/-- Row `R` of an array of sequences laid end to end. -/
def rowAt (x : Fin 8 → Fin 4096 → Fin 1024 → EReal) (R : Fin 32768) (k : Fin 1024) : EReal :=
  x ⟨R.val / 4096, by omega⟩ ⟨R.val % 4096, by omega⟩ k

/-- The row before row `R`: zero at a sequence's start. -/
def prevAt (x : Fin 8 → Fin 4096 → Fin 1024 → EReal) (R : Fin 32768) (k : Fin 1024) : EReal :=
  if R.val % 4096 = 0 then 0 else x ⟨R.val / 4096, by omega⟩ ⟨R.val % 4096 - 1, by omega⟩ k

/-- Row `R` mixed with the row before it. -/
def mixedAt (x : Fin 8 → Fin 4096 → Fin 1024 → EReal) (u : Fin 1024 → EReal) (R : Fin 32768) : Fin 1024 → EReal :=
  shift (rowAt x R) (prevAt x R) u

/-- A row times a matrix. -/
def projRow (y : Fin 1024 → EReal) (w : Fin 1024 → Fin 1024 → EReal) (j : Fin 1024) : EReal := ∑ k : Fin 1024, y k * w k j

/-- A row of the decays' logarithms. -/
def decayRow (y : Fin 1024 → EReal) (o : Fin 1024 → EReal) (w1 : Fin 1024 → Fin 64 → EReal) (w2 : Fin 64 → Fin 1024 → EReal) (j : Fin 1024) : EReal :=
  logDecay (o j + ∑ l : Fin 64, Ideal.tanh (∑ k : Fin 1024, y k * w1 k l) * w2 l j)

/-- A row of rates: the logistic function of an offset plus a product through a narrow middle. -/
def rateRow {n : Nat} (y : Fin 1024 → EReal) (o : Fin 1024 → EReal) (w1 : Fin 1024 → Fin n → EReal) (w2 : Fin n → Fin 1024 → EReal) (j : Fin 1024) : EReal :=
  logi (o j + ∑ l : Fin n, (∑ k : Fin 1024, y k * w1 k l) * w2 l j)

/-- A row of the gate. -/
def gateRow (y : Fin 1024 → EReal) (w1 : Fin 1024 → Fin 160 → EReal) (w2 : Fin 160 → Fin 1024 → EReal) (j : Fin 1024) : EReal :=
  ∑ l : Fin 160, logi (∑ k : Fin 1024, y k * w1 k l) * w2 l j

/-- A row of values moved towards the first layer's. -/
def resRow (y f : Fin 1024 → EReal) (w : Fin 1024 → Fin 1024 → EReal) (o : Fin 1024 → EReal) (w1 : Fin 1024 → Fin 32 → EReal) (w2 : Fin 32 → Fin 1024 → EReal)
    (j : Fin 1024) : EReal :=
  projRow y w j + (f j - projRow y w j) * rateRow y o w1 w2 j

end Cert.Rows

end
-- ==== Proof.PreBlock.lean ====
module

public import proofs.«01_k».proof.Proof.Gen.PreIdeal.Value
public import proofs.«01_k».proof.Proof.PreRows
public import Idealize.ShloMosaic.Lib.Pipeline.ReadBack
public import Idealize.ShloMosaic.Lib.WordCmp

/-!
# One block of the projections' kernel
-/

@[expose] public section

set_option maxRecDepth 16384

noncomputable section

namespace Cert.PreIdeal.Val

open Cert.PreIdeal Cert.PreIdeal.Gen Idealize.ShloMosaic Idealize.ShloMosaic.TcCoe Idealize.SL.Sem
open Cert.Rows

theorem hz : (![0,0] : Fin 2 → Nat) = fun _ => 0 := funext fun a => by fin_cases a <;> rfl

/-- The row before row `r` of a block: the last of the eight rows `p` carries for the first one (nothing at a
    sequence's start), the block's own row otherwise. -/
def prev (i : grid0.Coords) (x : Vec Ideal S512x1024 .f32) (p : Vec Ideal S8x1024 .f32) (r : Fin 512) (k : Fin 1024) : EReal :=
  if r.val = 0 then p (ix2 7 k) * (if (i 0).val % 8 = 0 then 0 else 1) else x (ix2 (⟨r.val - 1, by omega⟩ : Fin 512) k)

/-- A block's row mixed with the one before it, by row `n` of the shares. -/
def mixed (i : grid0.Coords) (x : Vec Ideal S512x1024 .f32) (p : Vec Ideal S8x1024 .f32) (mu : Vec Ideal S6x1024 .f32) (n : Fin 6) (r : Fin 512) : Fin 1024 → EReal :=
  shift (fun k => x (ix2 r k)) (prev i x p r) (fun k => mu (ix2 n k))

section
variable (i : grid0.Coords) (x : Vec Ideal S512x1024 .f32) (p : Vec Ideal S8x1024 .f32)

theorem start_eq : ∀ n : Fin 64, (Scalar.cmpi .eq (Scalar.select (Scalar.andi (Scalar.xori (Scalar.cmpi .slt (Scalar.remsi (BitVec.ofNat 32 n.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n.val) (Scalar.select (Scalar.cmpi .eq 8#32 0#32) 1#32 8#32)) 0#32)) (Scalar.addi (Scalar.remsi (BitVec.ofNat 32 n.val) (Scalar.select (Scalar.cmpi .eq 8#32 0#32) 1#32 8#32)) (Scalar.select (Scalar.cmpi .eq 8#32 0#32) 1#32 8#32)) (Scalar.remsi (BitVec.ofNat 32 n.val) (Scalar.select (Scalar.cmpi .eq 8#32 0#32) 1#32 8#32))) 0#32 : BitVec 1) = 1#1 ↔ n.val % 8 = 0 := by decide +kernel

theorem moved_at (r : Fin 512) (k : Fin 1024) :
    k0_pay5 i (View.ld x r0_0) (View.ld p r0_1) (ix2 r k) = prev i x p r k - x (ix2 r k) := by
  pointwise [k0_pay5, k0_pay4]
  congr 1
  have h0 : IntOp.cmpi .eq (BitVec.ofNat 32 r.val) 0#32 = (1#1 : BitVec 1) ↔ r.val = 0 :=
    (by decide +kernel : ∀ r : Fin 512, IntOp.cmpi .eq (BitVec.ofNat 32 r.val) 0#32 = (1#1 : BitVec 1) ↔ r.val = 0) r
  have h1 := start_eq (i 0)
  unfold prev
  by_cases hr : r.val = 0
  · refine (sel_pos _ _ (h0.mpr hr)).trans (Eq.trans ?_ (if_pos hr).symm)
    by_cases hi : (i 0).val % 8 = 0
    · exact (sel_pos _ _ (h1.mpr hi)).trans (by rw [if_pos hi, mul_zero])
    · exact (sel_neg _ _ fun h => hi (h1.mp h)).trans (by rw [if_neg hi, mul_one])
  · refine (sel_neg _ _ fun h => hr (h0.mp h)).trans (Eq.trans ?_ (if_neg hr).symm)
    refine congrArg (fun q => x (ix2 q k)) (Fin.ext ?_)
    show (r.val + 512 - 1) % 512 = r.val - 1
    omega
end

section
variable (i : grid0.Coords) (x0 : Vec Ideal S512x1024 .f32) (x1 : Vec Ideal S8x1024 .f32) (x2 : Vec Ideal S6x1024 .f32) (x3 : Vec Ideal S3x1024x1024 .bf16) (x4 : Vec Ideal S1x1024 .f32) (x5 : Vec Ideal S1024x64 .bf16) (x6 : Vec Ideal S64x1024 .bf16) (x7 : Vec Ideal S1x1024 .f32) (x8 : Vec Ideal S1024x64 .bf16) (x9 : Vec Ideal S64x1024 .bf16) (x10 : Vec Ideal S1024x160 .bf16) (x11 : Vec Ideal S160x1024 .bf16)

theorem out_at_12 (r : Fin 512) (j : Fin 1024) : out0_12 i x0 x1 x2 x3 x4 x5 x6 x7 x8 x9 x10 x11 (ix2 r j) = projRow (mixed i x0 x1 x2 0 r) (fun k l => x3 (ix3 0 k l)) j := by
  unfold out0_12
  rw [View.canon_unit_zero hz]
  pointwise [k0_pay8, k0_pay6, k0_pay4, k0_pay7, moved_at, mixed, shift, projRow, decayRow, logDecay, rateRow, gateRow, resRow, logi, absf_eq, half, zero_sub, Nat.zero_add]

/-- Output 1 of the block, as a function of the index. -/
def G13 (i : grid0.Coords) (x0 : Vec Ideal S512x1024 .f32) (x1 : Vec Ideal S8x1024 .f32) (x2 : Vec Ideal S6x1024 .f32) (x3 : Vec Ideal S3x1024x1024 .bf16) (x4 : Vec Ideal S1x1024 .f32) (x5 : Vec Ideal S1024x64 .bf16) (x6 : Vec Ideal S64x1024 .bf16) (x7 : Vec Ideal S1x1024 .f32) (x8 : Vec Ideal S1024x64 .bf16) (x9 : Vec Ideal S64x1024 .bf16) (x10 : Vec Ideal S1024x160 .bf16) (x11 : Vec Ideal S160x1024 .bf16) : S512x1024.Idx → EReal := fun y => decayRow (mixed i x0 x1 x2 1 (y 0)) (fun k => x4 (ix2 0 k)) (fun k l => x5 (ix2 k l)) (fun k l => x6 (ix2 k l)) (y 1)

theorem p13_0 (z : S512x256.Idx) : k0_pay20 (k0_pay18 (k0_pay37 i x0 x1 x2 x3 x4 x5 x6 x7 x8 x9 x10 x11) (View.ld x4 r0_18) (View.ld x6 r0_19)) (k0_pay19 (F := Ideal)) z = G13 i x0 x1 x2 x3 x4 x5 x6 x7 x8 x9 x10 x11 (r0_20.emb z) := by
  idx_vars z
  have e : r0_20.emb (ix2 z0 z1) = ix2 z0 (⟨768 + z1.val, by omega⟩ : Fin 1024) := by
    funext a
    apply Fin.ext
    match a with
    | ⟨0, _⟩ => show 0 + 1 * z0.val = z0.val; omega
    | ⟨1, _⟩ => show 768 + 1 * z1.val = 768 + z1.val; omega
  rw [e]
  pointwise [k0_pay20, k0_pay18, k0_pay37, k0_pay19, k0_pay9, k0_pay36, k0_pay7, k0_pay4, k0_pay6, moved_at, G13, mixed, shift, projRow, decayRow, logDecay, rateRow, gateRow, resRow, logi, absf_eq, half, zero_sub, Nat.zero_add]

theorem p13_1 (z : S512x256.Idx) : k0_pay17 (k0_pay37 i x0 x1 x2 x3 x4 x5 x6 x7 x8 x9 x10 x11) (View.ld x4 r0_15) (View.ld x6 r0_16) z = G13 i x0 x1 x2 x3 x4 x5 x6 x7 x8 x9 x10 x11 (r0_17.emb z) := by
  idx_vars z
  have e : r0_17.emb (ix2 z0 z1) = ix2 z0 (⟨512 + z1.val, by omega⟩ : Fin 1024) := by
    funext a
    apply Fin.ext
    match a with
    | ⟨0, _⟩ => show 0 + 1 * z0.val = z0.val; omega
    | ⟨1, _⟩ => show 512 + 1 * z1.val = 512 + z1.val; omega
  rw [e]
  pointwise [k0_pay17, k0_pay37, k0_pay9, k0_pay36, k0_pay7, k0_pay4, k0_pay6, moved_at, G13, mixed, shift, projRow, decayRow, logDecay, rateRow, gateRow, resRow, logi, absf_eq, half, zero_sub, Nat.zero_add]

theorem p13_2 (z : S512x256.Idx) : k0_pay16 (k0_pay37 i x0 x1 x2 x3 x4 x5 x6 x7 x8 x9 x10 x11) (View.ld x4 r0_12) (View.ld x6 r0_13) z = G13 i x0 x1 x2 x3 x4 x5 x6 x7 x8 x9 x10 x11 (r0_14.emb z) := by
  idx_vars z
  have e : r0_14.emb (ix2 z0 z1) = ix2 z0 (⟨256 + z1.val, by omega⟩ : Fin 1024) := by
    funext a
    apply Fin.ext
    match a with
    | ⟨0, _⟩ => show 0 + 1 * z0.val = z0.val; omega
    | ⟨1, _⟩ => show 256 + 1 * z1.val = 256 + z1.val; omega
  rw [e]
  pointwise [k0_pay16, k0_pay37, k0_pay9, k0_pay36, k0_pay7, k0_pay4, k0_pay6, moved_at, G13, mixed, shift, projRow, decayRow, logDecay, rateRow, gateRow, resRow, logi, absf_eq, half, zero_sub, Nat.zero_add]

theorem p13_3 (z : S512x256.Idx) : k0_pay15 (k0_pay13 (k0_pay36 i x0 x1 x2 x3 x4 x5 x6 x7 x8 x9 x10 x11) (View.ld x5 r0_6) (View.ld x4 r0_9) (View.ld x6 r0_10)) (k0_pay14 (k0_pay36 i x0 x1 x2 x3 x4 x5 x6 x7 x8 x9 x10 x11) (View.ld x5 r0_6) (View.ld x4 r0_9) (View.ld x6 r0_10)) (Scalar.ofBits (F := Ideal) .f32 0x00000000#32) z = G13 i x0 x1 x2 x3 x4 x5 x6 x7 x8 x9 x10 x11 (r0_11.emb z) := by
  idx_vars z
  have e : r0_11.emb (ix2 z0 z1) = ix2 z0 (⟨0 + z1.val, by omega⟩ : Fin 1024) := by
    funext a
    apply Fin.ext
    match a with
    | ⟨0, _⟩ => show 0 + 1 * z0.val = z0.val; omega
    | ⟨1, _⟩ => show 0 + 1 * z1.val = 0 + z1.val; omega
  rw [e]
  pointwise [k0_pay15, k0_pay13, k0_pay36, k0_pay14, k0_pay12, k0_pay7, k0_pay9, k0_pay4, k0_pay6, moved_at, G13, mixed, shift, projRow, decayRow, logDecay, rateRow, gateRow, resRow, logi, absf_eq, half, zero_sub, Nat.zero_add]

theorem out_at_13 (r : Fin 512) (j : Fin 1024) : out0_13 i x0 x1 x2 x3 x4 x5 x6 x7 x8 x9 x10 x11 (ix2 r j) = decayRow (mixed i x0 x1 x2 1 r) (fun k => x4 (ix2 0 k)) (fun k l => x5 (ix2 k l)) (fun k l => x6 (ix2 k l)) j := by
  have hL : View.PiecesOf (Val := Elt Ideal) (G13 i x0 x1 x2 x3 x4 x5 x6 x7 x8 x9 x10 x11) ([⟨r0_20, k0_pay20 (k0_pay18 (k0_pay37 i x0 x1 x2 x3 x4 x5 x6 x7 x8 x9 x10 x11) (View.ld x4 r0_18) (View.ld x6 r0_19)) (k0_pay19 (F := Ideal))⟩,
    ⟨r0_17, k0_pay17 (k0_pay37 i x0 x1 x2 x3 x4 x5 x6 x7 x8 x9 x10 x11) (View.ld x4 r0_15) (View.ld x6 r0_16)⟩,
    ⟨r0_14, k0_pay16 (k0_pay37 i x0 x1 x2 x3 x4 x5 x6 x7 x8 x9 x10 x11) (View.ld x4 r0_12) (View.ld x6 r0_13)⟩,
    ⟨r0_11, k0_pay15 (k0_pay13 (k0_pay36 i x0 x1 x2 x3 x4 x5 x6 x7 x8 x9 x10 x11) (View.ld x5 r0_6) (View.ld x4 r0_9) (View.ld x6 r0_10)) (k0_pay14 (k0_pay36 i x0 x1 x2 x3 x4 x5 x6 x7 x8 x9 x10 x11) (View.ld x5 r0_6) (View.ld x4 r0_9) (View.ld x6 r0_10)) (Scalar.ofBits (F := Ideal) .f32 0x00000000#32)⟩] : List (View.Piece (Elt Ideal) S512x1024 .f32)) := ⟨p13_0 i x0 x1 x2 x3 x4 x5 x6 x7 x8 x9 x10 x11, p13_1 i x0 x1 x2 x3 x4 x5 x6 x7 x8 x9 x10 x11, p13_2 i x0 x1 x2 x3 x4 x5 x6 x7 x8 x9 x10 x11, p13_3 i x0 x1 x2 x3 x4 x5 x6 x7 x8 x9 x10 x11, trivial⟩
  unfold out0_13
  exact View.canon_apply_of_pieces (Val := Elt Ideal) (G13 i x0 x1 x2 x3 x4 x5 x6 x7 x8 x9 x10 x11) _ hL.mem (ix2 r j) (cover0_13 (F := Ideal) _ _ _ _ (ix2 r j))

theorem out_at_14 (r : Fin 512) (j : Fin 1024) : out0_14 i x0 x1 x2 x3 x4 x5 x6 x7 x8 x9 x10 x11 (ix2 r j) = projRow (mixed i x0 x1 x2 2 r) (fun k l => x3 (ix3 1 k l)) j := by
  unfold out0_14
  rw [View.canon_unit_zero hz]
  pointwise [k0_pay10, k0_pay34, k0_pay35, k0_pay4, k0_pay6, k0_pay7, moved_at, mixed, shift, projRow, decayRow, logDecay, rateRow, gateRow, resRow, logi, absf_eq, half, zero_sub, Nat.zero_add]

/-- Output 3 of the block, as a function of the index. -/
def G15 (i : grid0.Coords) (x0 : Vec Ideal S512x1024 .f32) (x1 : Vec Ideal S8x1024 .f32) (x2 : Vec Ideal S6x1024 .f32) (x3 : Vec Ideal S3x1024x1024 .bf16) (x4 : Vec Ideal S1x1024 .f32) (x5 : Vec Ideal S1024x64 .bf16) (x6 : Vec Ideal S64x1024 .bf16) (x7 : Vec Ideal S1x1024 .f32) (x8 : Vec Ideal S1024x64 .bf16) (x9 : Vec Ideal S64x1024 .bf16) (x10 : Vec Ideal S1024x160 .bf16) (x11 : Vec Ideal S160x1024 .bf16) : S512x1024.Idx → EReal := fun y => projRow (mixed i x0 x1 x2 3 (y 0)) (fun k l => x3 (ix3 2 k l)) (y 1)

theorem p15_0 (z : S512x256.Idx) : k0_pay25 (k0_pay38 i x0 x1 x2 x3 x4 x5 x6 x7 x8 x9 x10 x11) (View.ld x3 r0_25) z = G15 i x0 x1 x2 x3 x4 x5 x6 x7 x8 x9 x10 x11 (r0_20.emb z) := by
  idx_vars z
  have e : r0_20.emb (ix2 z0 z1) = ix2 z0 (⟨768 + z1.val, by omega⟩ : Fin 1024) := by
    funext a
    apply Fin.ext
    match a with
    | ⟨0, _⟩ => show 0 + 1 * z0.val = z0.val; omega
    | ⟨1, _⟩ => show 768 + 1 * z1.val = 768 + z1.val; omega
  rw [e]
  pointwise [k0_pay25, k0_pay38, k0_pay11, k0_pay34, k0_pay35, k0_pay4, k0_pay6, k0_pay7, moved_at, G15, mixed, shift, projRow, decayRow, logDecay, rateRow, gateRow, resRow, logi, absf_eq, half, zero_sub, Nat.zero_add]

theorem p15_1 (z : S512x256.Idx) : k0_pay24 (k0_pay38 i x0 x1 x2 x3 x4 x5 x6 x7 x8 x9 x10 x11) (View.ld x3 r0_24) z = G15 i x0 x1 x2 x3 x4 x5 x6 x7 x8 x9 x10 x11 (r0_17.emb z) := by
  idx_vars z
  have e : r0_17.emb (ix2 z0 z1) = ix2 z0 (⟨512 + z1.val, by omega⟩ : Fin 1024) := by
    funext a
    apply Fin.ext
    match a with
    | ⟨0, _⟩ => show 0 + 1 * z0.val = z0.val; omega
    | ⟨1, _⟩ => show 512 + 1 * z1.val = 512 + z1.val; omega
  rw [e]
  pointwise [k0_pay24, k0_pay38, k0_pay11, k0_pay34, k0_pay35, k0_pay4, k0_pay6, k0_pay7, moved_at, G15, mixed, shift, projRow, decayRow, logDecay, rateRow, gateRow, resRow, logi, absf_eq, half, zero_sub, Nat.zero_add]

theorem p15_2 (z : S512x256.Idx) : k0_pay23 (k0_pay38 i x0 x1 x2 x3 x4 x5 x6 x7 x8 x9 x10 x11) (View.ld x3 r0_23) z = G15 i x0 x1 x2 x3 x4 x5 x6 x7 x8 x9 x10 x11 (r0_14.emb z) := by
  idx_vars z
  have e : r0_14.emb (ix2 z0 z1) = ix2 z0 (⟨256 + z1.val, by omega⟩ : Fin 1024) := by
    funext a
    apply Fin.ext
    match a with
    | ⟨0, _⟩ => show 0 + 1 * z0.val = z0.val; omega
    | ⟨1, _⟩ => show 256 + 1 * z1.val = 256 + z1.val; omega
  rw [e]
  pointwise [k0_pay23, k0_pay38, k0_pay11, k0_pay34, k0_pay35, k0_pay4, k0_pay6, k0_pay7, moved_at, G15, mixed, shift, projRow, decayRow, logDecay, rateRow, gateRow, resRow, logi, absf_eq, half, zero_sub, Nat.zero_add]

theorem p15_3 (z : S512x256.Idx) : k0_pay22 (k0_pay38 i x0 x1 x2 x3 x4 x5 x6 x7 x8 x9 x10 x11) (View.ld x3 r0_22) z = G15 i x0 x1 x2 x3 x4 x5 x6 x7 x8 x9 x10 x11 (r0_11.emb z) := by
  idx_vars z
  have e : r0_11.emb (ix2 z0 z1) = ix2 z0 (⟨0 + z1.val, by omega⟩ : Fin 1024) := by
    funext a
    apply Fin.ext
    match a with
    | ⟨0, _⟩ => show 0 + 1 * z0.val = z0.val; omega
    | ⟨1, _⟩ => show 0 + 1 * z1.val = 0 + z1.val; omega
  rw [e]
  pointwise [k0_pay22, k0_pay38, k0_pay11, k0_pay34, k0_pay35, k0_pay4, k0_pay6, k0_pay7, moved_at, G15, mixed, shift, projRow, decayRow, logDecay, rateRow, gateRow, resRow, logi, absf_eq, half, zero_sub, Nat.zero_add]

theorem out_at_15 (r : Fin 512) (j : Fin 1024) : out0_15 i x0 x1 x2 x3 x4 x5 x6 x7 x8 x9 x10 x11 (ix2 r j) = projRow (mixed i x0 x1 x2 3 r) (fun k l => x3 (ix3 2 k l)) j := by
  have hL : View.PiecesOf (Val := Elt Ideal) (G15 i x0 x1 x2 x3 x4 x5 x6 x7 x8 x9 x10 x11) ([⟨r0_20, k0_pay25 (k0_pay38 i x0 x1 x2 x3 x4 x5 x6 x7 x8 x9 x10 x11) (View.ld x3 r0_25)⟩,
    ⟨r0_17, k0_pay24 (k0_pay38 i x0 x1 x2 x3 x4 x5 x6 x7 x8 x9 x10 x11) (View.ld x3 r0_24)⟩,
    ⟨r0_14, k0_pay23 (k0_pay38 i x0 x1 x2 x3 x4 x5 x6 x7 x8 x9 x10 x11) (View.ld x3 r0_23)⟩,
    ⟨r0_11, k0_pay22 (k0_pay38 i x0 x1 x2 x3 x4 x5 x6 x7 x8 x9 x10 x11) (View.ld x3 r0_22)⟩] : List (View.Piece (Elt Ideal) S512x1024 .f32)) := ⟨p15_0 i x0 x1 x2 x3 x4 x5 x6 x7 x8 x9 x10 x11, p15_1 i x0 x1 x2 x3 x4 x5 x6 x7 x8 x9 x10 x11, p15_2 i x0 x1 x2 x3 x4 x5 x6 x7 x8 x9 x10 x11, p15_3 i x0 x1 x2 x3 x4 x5 x6 x7 x8 x9 x10 x11, trivial⟩
  unfold out0_15
  exact View.canon_apply_of_pieces (Val := Elt Ideal) (G15 i x0 x1 x2 x3 x4 x5 x6 x7 x8 x9 x10 x11) _ hL.mem (ix2 r j) (cover0_15 (F := Ideal) _ _ _ _ (ix2 r j))

/-- Output 4 of the block, as a function of the index. -/
def G16 (i : grid0.Coords) (x0 : Vec Ideal S512x1024 .f32) (x1 : Vec Ideal S8x1024 .f32) (x2 : Vec Ideal S6x1024 .f32) (x3 : Vec Ideal S3x1024x1024 .bf16) (x4 : Vec Ideal S1x1024 .f32) (x5 : Vec Ideal S1024x64 .bf16) (x6 : Vec Ideal S64x1024 .bf16) (x7 : Vec Ideal S1x1024 .f32) (x8 : Vec Ideal S1024x64 .bf16) (x9 : Vec Ideal S64x1024 .bf16) (x10 : Vec Ideal S1024x160 .bf16) (x11 : Vec Ideal S160x1024 .bf16) : S512x1024.Idx → EReal := fun y => rateRow (mixed i x0 x1 x2 4 (y 0)) (fun k => x7 (ix2 0 k)) (fun k l => x8 (ix2 k l)) (fun k l => x9 (ix2 k l)) (y 1)

theorem p16_0 (z : S512x256.Idx) : k0_pay2 (k0_pay40 i x0 x1 x2 x3 x4 x5 x6 x7 x8 x9 x10 x11) (View.ld x7 r0_18) (View.ld x9 r0_19) z = G16 i x0 x1 x2 x3 x4 x5 x6 x7 x8 x9 x10 x11 (r0_20.emb z) := by
  idx_vars z
  have e : r0_20.emb (ix2 z0 z1) = ix2 z0 (⟨768 + z1.val, by omega⟩ : Fin 1024) := by
    funext a
    apply Fin.ext
    match a with
    | ⟨0, _⟩ => show 0 + 1 * z0.val = z0.val; omega
    | ⟨1, _⟩ => show 768 + 1 * z1.val = 768 + z1.val; omega
  rw [e]
  pointwise [k0_pay2, k0_pay40, k0_pay26, k0_pay39, k0_pay21, k0_pay34, k0_pay35, k0_pay4, k0_pay6, k0_pay7, moved_at, G16, mixed, shift, projRow, decayRow, logDecay, rateRow, gateRow, resRow, logi, absf_eq, half, zero_sub, Nat.zero_add]

theorem p16_1 (z : S512x256.Idx) : k0_pay1 (k0_pay32 (k0_pay40 i x0 x1 x2 x3 x4 x5 x6 x7 x8 x9 x10 x11) (View.ld x7 r0_15) (View.ld x9 r0_16)) (k0_pay33 (F := Ideal)) z = G16 i x0 x1 x2 x3 x4 x5 x6 x7 x8 x9 x10 x11 (r0_17.emb z) := by
  idx_vars z
  have e : r0_17.emb (ix2 z0 z1) = ix2 z0 (⟨512 + z1.val, by omega⟩ : Fin 1024) := by
    funext a
    apply Fin.ext
    match a with
    | ⟨0, _⟩ => show 0 + 1 * z0.val = z0.val; omega
    | ⟨1, _⟩ => show 512 + 1 * z1.val = 512 + z1.val; omega
  rw [e]
  pointwise [k0_pay1, k0_pay32, k0_pay40, k0_pay33, k0_pay26, k0_pay39, k0_pay21, k0_pay34, k0_pay35, k0_pay4, k0_pay6, k0_pay7, moved_at, G16, mixed, shift, projRow, decayRow, logDecay, rateRow, gateRow, resRow, logi, absf_eq, half, zero_sub, Nat.zero_add]

theorem p16_2 (z : S512x256.Idx) : k0_pay31 (k0_pay40 i x0 x1 x2 x3 x4 x5 x6 x7 x8 x9 x10 x11) (View.ld x7 r0_12) (View.ld x9 r0_13) z = G16 i x0 x1 x2 x3 x4 x5 x6 x7 x8 x9 x10 x11 (r0_14.emb z) := by
  idx_vars z
  have e : r0_14.emb (ix2 z0 z1) = ix2 z0 (⟨256 + z1.val, by omega⟩ : Fin 1024) := by
    funext a
    apply Fin.ext
    match a with
    | ⟨0, _⟩ => show 0 + 1 * z0.val = z0.val; omega
    | ⟨1, _⟩ => show 256 + 1 * z1.val = 256 + z1.val; omega
  rw [e]
  pointwise [k0_pay31, k0_pay40, k0_pay26, k0_pay39, k0_pay21, k0_pay34, k0_pay35, k0_pay4, k0_pay6, k0_pay7, moved_at, G16, mixed, shift, projRow, decayRow, logDecay, rateRow, gateRow, resRow, logi, absf_eq, half, zero_sub, Nat.zero_add]

theorem p16_3 (z : S512x256.Idx) : k0_pay30 (k0_pay28 (View.ld x7 r0_9)) (k0_pay29 (k0_pay39 i x0 x1 x2 x3 x4 x5 x6 x7 x8 x9 x10 x11) (View.ld x8 r0_6) (View.ld x9 r0_10)) z = G16 i x0 x1 x2 x3 x4 x5 x6 x7 x8 x9 x10 x11 (r0_11.emb z) := by
  idx_vars z
  have e : r0_11.emb (ix2 z0 z1) = ix2 z0 (⟨0 + z1.val, by omega⟩ : Fin 1024) := by
    funext a
    apply Fin.ext
    match a with
    | ⟨0, _⟩ => show 0 + 1 * z0.val = z0.val; omega
    | ⟨1, _⟩ => show 0 + 1 * z1.val = 0 + z1.val; omega
  rw [e]
  pointwise [k0_pay30, k0_pay28, k0_pay29, k0_pay39, k0_pay26, k0_pay21, k0_pay34, k0_pay35, k0_pay4, k0_pay6, k0_pay7, moved_at, G16, mixed, shift, projRow, decayRow, logDecay, rateRow, gateRow, resRow, logi, absf_eq, half, zero_sub, Nat.zero_add]

theorem out_at_16 (r : Fin 512) (j : Fin 1024) : out0_16 i x0 x1 x2 x3 x4 x5 x6 x7 x8 x9 x10 x11 (ix2 r j) = rateRow (mixed i x0 x1 x2 4 r) (fun k => x7 (ix2 0 k)) (fun k l => x8 (ix2 k l)) (fun k l => x9 (ix2 k l)) j := by
  have hL : View.PiecesOf (Val := Elt Ideal) (G16 i x0 x1 x2 x3 x4 x5 x6 x7 x8 x9 x10 x11) ([⟨r0_20, k0_pay2 (k0_pay40 i x0 x1 x2 x3 x4 x5 x6 x7 x8 x9 x10 x11) (View.ld x7 r0_18) (View.ld x9 r0_19)⟩,
    ⟨r0_17, k0_pay1 (k0_pay32 (k0_pay40 i x0 x1 x2 x3 x4 x5 x6 x7 x8 x9 x10 x11) (View.ld x7 r0_15) (View.ld x9 r0_16)) (k0_pay33 (F := Ideal))⟩,
    ⟨r0_14, k0_pay31 (k0_pay40 i x0 x1 x2 x3 x4 x5 x6 x7 x8 x9 x10 x11) (View.ld x7 r0_12) (View.ld x9 r0_13)⟩,
    ⟨r0_11, k0_pay30 (k0_pay28 (View.ld x7 r0_9)) (k0_pay29 (k0_pay39 i x0 x1 x2 x3 x4 x5 x6 x7 x8 x9 x10 x11) (View.ld x8 r0_6) (View.ld x9 r0_10))⟩] : List (View.Piece (Elt Ideal) S512x1024 .f32)) := ⟨p16_0 i x0 x1 x2 x3 x4 x5 x6 x7 x8 x9 x10 x11, p16_1 i x0 x1 x2 x3 x4 x5 x6 x7 x8 x9 x10 x11, p16_2 i x0 x1 x2 x3 x4 x5 x6 x7 x8 x9 x10 x11, p16_3 i x0 x1 x2 x3 x4 x5 x6 x7 x8 x9 x10 x11, trivial⟩
  unfold out0_16
  exact View.canon_apply_of_pieces (Val := Elt Ideal) (G16 i x0 x1 x2 x3 x4 x5 x6 x7 x8 x9 x10 x11) _ hL.mem (ix2 r j) (cover0_16 (F := Ideal) _ _ _ _ (ix2 r j))

theorem out_at_17 (r : Fin 512) (j : Fin 1024) : out0_17 i x0 x1 x2 x3 x4 x5 x6 x7 x8 x9 x10 x11 (ix2 r j) = gateRow (mixed i x0 x1 x2 5 r) (fun k l => x10 (ix2 k l)) (fun k l => x11 (ix2 k l)) j := by
  unfold out0_17
  rw [View.canon_unit_zero hz]
  pointwise [k0_pay3, k0_pay27, k0_pay34, k0_pay35, k0_pay4, k0_pay6, k0_pay7, moved_at, mixed, shift, projRow, decayRow, logDecay, rateRow, gateRow, resRow, logi, absf_eq, half, zero_sub, Nat.zero_add]

end

end Cert.PreIdeal.Val

end
-- ==== Proof.PreArray.lean ====
module

public import proofs.«01_k».proof.Proof.PreBlock

/-!
# The arrays the projections' kernel leaves
-/

@[expose] public section

set_option maxRecDepth 16384

noncomputable section

namespace Cert.PreIdeal.Val

open Cert.PreIdeal Cert.PreIdeal.Gen Idealize.ShloMosaic Idealize.ShloMosaic.TcCoe Idealize.SL.Sem
open Idealize.ShloMosaic.Pipeline (Dat)
open Idealize.ShloMosaic.StableHlo
open Cert.Rows

/-- The receptances, from the arguments. -/
def result0 (x : S8x4096x1024.Idx → EReal) (mu : S6x1024.Idx → EReal) (w : S3x1024x1024.Idx → EReal) : S32768x1024.Idx → EReal := fun i => projRow (mixedAt (fun b t k => x (ix3 b t k)) (fun k => mu (ix2 0 k)) (i 0)) (fun k l => w (ix3 0 k l)) (i 1)

/-- The decays' logarithms, from the arguments. -/
def result1 (x : S8x4096x1024.Idx → EReal) (mu : S6x1024.Idx → EReal) (w0 : S1024.Idx → EReal) (w1 : S1024x64.Idx → EReal) (w2 : S64x1024.Idx → EReal) : S32768x1024.Idx → EReal := fun i => decayRow (mixedAt (fun b t k => x (ix3 b t k)) (fun k => mu (ix2 1 k)) (i 0)) (fun k => w0 (ix1 k)) (fun k l => w1 (ix2 k l)) (fun k l => w2 (ix2 k l)) (i 1)

/-- The keys, from the arguments. -/
def result2 (x : S8x4096x1024.Idx → EReal) (mu : S6x1024.Idx → EReal) (w : S3x1024x1024.Idx → EReal) : S32768x1024.Idx → EReal := fun i => projRow (mixedAt (fun b t k => x (ix3 b t k)) (fun k => mu (ix2 2 k)) (i 0)) (fun k l => w (ix3 1 k l)) (i 1)

/-- The values, from the arguments. -/
def result3 (x : S8x4096x1024.Idx → EReal) (mu : S6x1024.Idx → EReal) (w : S3x1024x1024.Idx → EReal) : S32768x1024.Idx → EReal := fun i => projRow (mixedAt (fun b t k => x (ix3 b t k)) (fun k => mu (ix2 3 k)) (i 0)) (fun k l => w (ix3 2 k l)) (i 1)

/-- The learning rates, from the arguments. -/
def result4 (x : S8x4096x1024.Idx → EReal) (mu : S6x1024.Idx → EReal) (a0 : S1024.Idx → EReal) (a1 : S1024x64.Idx → EReal) (a2 : S64x1024.Idx → EReal) : S32768x1024.Idx → EReal := fun i => rateRow (mixedAt (fun b t k => x (ix3 b t k)) (fun k => mu (ix2 4 k)) (i 0)) (fun k => a0 (ix1 k)) (fun k l => a1 (ix2 k l)) (fun k l => a2 (ix2 k l)) (i 1)

/-- The gates, from the arguments. -/
def result5 (x : S8x4096x1024.Idx → EReal) (mu : S6x1024.Idx → EReal) (g1 : S1024x160.Idx → EReal) (g2 : S160x1024.Idx → EReal) : S32768x1024.Idx → EReal := fun i => gateRow (mixedAt (fun b t k => x (ix3 b t k)) (fun k => mu (ix2 5 k)) (i 0)) (fun k l => g1 (ix2 k l)) (fun k l => g2 (ix2 k l)) (i 1)

variable (m : (ℓ : Loc nD τ sig) → Buf (Elt Ideal) ℓ) (ρ : Dev nD → PrngReg)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val * 64 - 1 ∧ win0_1.index t 1 = 0 :=
  (by decide +kernel : ∀ t : Fin grid0.N, win0_1.index t 0 = t.val * 64 - 1 ∧ win0_1.index t 1 = 0)
theorem idx_2 : ∀ t : Fin cfg0.N, win0_2.index t 0 = 0 ∧ win0_2.index t 1 = 0 :=
  (by decide +kernel : ∀ t : Fin grid0.N, win0_2.index t 0 = 0 ∧ win0_2.index t 1 = 0)
theorem idx_3 : ∀ t : Fin cfg0.N, win0_3.index t 0 = 0 ∧ win0_3.index t 1 = 0 ∧ win0_3.index t 2 = 0 :=
  (by decide +kernel : ∀ t : Fin grid0.N, win0_3.index t 0 = 0 ∧ win0_3.index t 1 = 0 ∧ win0_3.index t 2 = 0)
theorem idx_4 : ∀ t : Fin cfg0.N, win0_4.index t 0 = 0 ∧ win0_4.index t 1 = 0 :=
  (by decide +kernel : ∀ t : Fin grid0.N, win0_4.index t 0 = 0 ∧ win0_4.index t 1 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = 0 ∧ win0_7.index t 1 = 0 :=
  (by decide +kernel : ∀ t : Fin grid0.N, win0_7.index t 0 = 0 ∧ win0_7.index t 1 = 0)
theorem idx_8 : ∀ t : Fin cfg0.N, win0_8.index t 0 = 0 ∧ win0_8.index t 1 = 0 :=
  (by decide +kernel : ∀ t : Fin grid0.N, win0_8.index t 0 = 0 ∧ win0_8.index t 1 = 0)
theorem idx_9 : ∀ t : Fin cfg0.N, win0_9.index t 0 = 0 ∧ win0_9.index t 1 = 0 :=
  (by decide +kernel : ∀ t : Fin grid0.N, win0_9.index t 0 = 0 ∧ win0_9.index t 1 = 0)
theorem idx_10 : ∀ t : Fin cfg0.N, win0_10.index t 0 = 0 ∧ win0_10.index t 1 = 0 :=
  (by decide +kernel : ∀ t : Fin grid0.N, win0_10.index t 0 = 0 ∧ win0_10.index t 1 = 0)
theorem idx_11 : ∀ t : Fin cfg0.N, win0_11.index t 0 = 0 ∧ win0_11.index t 1 = 0 :=
  (by decide +kernel : ∀ t : Fin grid0.N, win0_11.index t 0 = 0 ∧ win0_11.index t 1 = 0)
theorem idx_12 : ∀ t : Fin cfg0.N, win0_12.index t 0 = t.val ∧ win0_12.index t 1 = 0 :=
  (by decide +kernel : ∀ t : Fin grid0.N, win0_12.index t 0 = t.val ∧ win0_12.index t 1 = 0)
theorem idx_13 : ∀ t : Fin cfg0.N, win0_13.index t 0 = t.val ∧ win0_13.index t 1 = 0 :=
  (by decide +kernel : ∀ t : Fin grid0.N, win0_13.index t 0 = t.val ∧ win0_13.index t 1 = 0)
theorem idx_14 : ∀ t : Fin cfg0.N, win0_14.index t 0 = t.val ∧ win0_14.index t 1 = 0 :=
  (by decide +kernel : ∀ t : Fin grid0.N, win0_14.index t 0 = t.val ∧ win0_14.index t 1 = 0)
theorem idx_15 : ∀ t : Fin cfg0.N, win0_15.index t 0 = t.val ∧ win0_15.index t 1 = 0 :=
  (by decide +kernel : ∀ t : Fin grid0.N, win0_15.index t 0 = t.val ∧ win0_15.index t 1 = 0)
theorem idx_16 : ∀ t : Fin cfg0.N, win0_16.index t 0 = t.val ∧ win0_16.index t 1 = 0 :=
  (by decide +kernel : ∀ t : Fin grid0.N, win0_16.index t 0 = t.val ∧ win0_16.index t 1 = 0)
theorem idx_17 : ∀ t : Fin cfg0.N, win0_17.index t 0 = t.val ∧ win0_17.index t 1 = 0 :=
  (by decide +kernel : ∀ t : Fin grid0.N, win0_17.index t 0 = t.val ∧ win0_17.index t 1 = 0)

theorem coords_eq : ∀ t : Fin cfg0.N, ((grid0.coords t) 0).val = t.val :=
  (by decide +kernel : ∀ t : Fin grid0.N, ((grid0.coords t) 0).val = t.val)

/-- Row `R` of an argument, its two leading axes laid end to end. -/
def rowOf (x : S8x4096x1024.Idx → EReal) (R : Fin 32768) (k : Fin 1024) : EReal :=
  x (ix3 (⟨R.val / 4096, by omega⟩ : Fin 8) (⟨R.val % 4096, by omega⟩ : Fin 4096) k)

theorem row_lt (t : Fin cfg0.N) (r : Fin 512) : t.val * 512 + r.val < 32768 := by
  have h : t.val < 64 := t.isLt
  omega

/-- Window 0's block at point `t` holds rows `512 t` to `512 t + 511` of argument 0. -/
theorem blk0 (c : Dev nD) (t : Fin cfg0.N) (r : Fin 512) (k : Fin 1024) :
    (iblk m c 0 t : Vec Ideal S512x1024 .f32) (ix2 r k) = rowOf (m ((c : Thread nD τ).loc main_arg0)) ⟨t.val * 512 + r.val, row_lt t r⟩ k := by
  unfold iblk
  rw [View.read_apply]
  show V m c main_v0 _ = _
  have e : (V m c main_v0 : S32768x1024.Idx → EReal) = shapeCast S32768x1024 (m ((c : Thread nD τ).loc main_arg0)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 + r.val) / 4096 * 4096 + (t.val * 512 + r.val) % 4096) * 1024 + k.val
    = (win0_0.index t 0 * 512 + 1 * r.val) * 1024 + (win0_0.index t 1 * 1024 + 1 * k.val)
  rw [(idx_0 t).1, (idx_0 t).2]; omega

/-- The eight rows staged next to point `t`'s block end with the row before the block. -/
theorem blk1 (c : Dev nD) (t : Fin cfg0.N) (h : t.val ≠ 0) (k : Fin 1024) :
    (iblk m c 1 t : Vec Ideal S8x1024 .f32) (ix2 7 k) = rowOf (m ((c : Thread nD τ).loc main_arg0)) ⟨t.val * 512 - 1, by have := row_lt t 0; omega⟩ k := by
  unfold iblk
  rw [View.read_apply]
  show V m c main_v0 _ = _
  have e : (V m c main_v0 : S32768x1024.Idx → EReal) = shapeCast S32768x1024 (m ((c : Thread nD τ).loc main_arg0)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 - 1) / 4096 * 4096 + (t.val * 512 - 1) % 4096) * 1024 + k.val
    = (win0_1.index t 0 * 8 + 1 * 7) * 1024 + (win0_1.index t 1 * 1024 + 1 * k.val)
  rw [(idx_1 t).1, (idx_1 t).2]; omega

theorem blk2 (c : Dev nD) (t : Fin cfg0.N) (r : Fin 6) (k : Fin 1024) :
    (iblk m c 2 t : Vec Ideal S6x1024 .f32) (ix2 r k) = m ((c : Thread nD τ).loc main_arg1) (ix2 r k) := by
  unfold iblk
  rw [View.read_apply]
  show V m c main_arg1 _ = _
  have e : (V m c main_arg1 : S6x1024.Idx → EReal) = (m ((c : Thread nD τ).loc main_arg1)) := by
    unfold V; after_results
  rw [e]
  congr 1
  funext a
  apply Fin.ext
  match a with
  | ⟨0, _⟩ => show win0_2.index t 0 * 6 + 1 * r.val = r.val; rw [(idx_2 t).1]; omega
  | ⟨1, _⟩ => show win0_2.index t 1 * 1024 + 1 * k.val = k.val; rw [(idx_2 t).2]; omega

theorem blk3 (c : Dev nD) (t : Fin cfg0.N) (r : Fin 3) (k : Fin 1024) (l : Fin 1024) :
    (iblk m c 3 t : Vec Ideal S3x1024x1024 .bf16) (ix3 r k l) = m ((c : Thread nD τ).loc main_arg2) (ix3 r k l) := by
  unfold iblk
  rw [View.read_apply]
  show V m c main_v1 _ = _
  have e : (V m c main_v1 : S3x1024x1024.Idx → EReal) = (m ((c : Thread nD τ).loc main_arg2)) := by
    unfold V; after_results; rfl
  rw [e]
  congr 1
  funext a
  apply Fin.ext
  match a with
  | ⟨0, _⟩ => show win0_3.index t 0 * 3 + 1 * r.val = r.val; rw [(idx_3 t).1]; omega
  | ⟨1, _⟩ => show win0_3.index t 1 * 1024 + 1 * k.val = k.val; rw [(idx_3 t).2.1]; omega
  | ⟨2, _⟩ => show win0_3.index t 2 * 1024 + 1 * l.val = l.val; rw [(idx_3 t).2.2]; omega

theorem blk4 (c : Dev nD) (t : Fin cfg0.N) (k : Fin 1024) :
    (iblk m c 4 t : Vec Ideal S1x1024 .f32) (ix2 0 k) = m ((c : Thread nD τ).loc main_arg3) (ix1 k) := by
  unfold iblk
  rw [View.read_apply]
  show V m c main_v2 _ = _
  have e : (V m c main_v2 : S1x1024.Idx → EReal) = shapeCast S1x1024 (m ((c : Thread nD τ).loc main_arg3)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_4.index t 0 * 1 + 1 * 0) * 1024 + (win0_4.index t 1 * 1024 + 1 * k.val)
  rw [(idx_4 t).1, (idx_4 t).2]; omega

theorem blk5 (c : Dev nD) (t : Fin cfg0.N) (r : Fin 1024) (k : Fin 64) :
    (iblk m c 5 t : Vec Ideal S1024x64 .bf16) (ix2 r k) = m ((c : Thread nD τ).loc main_arg4) (ix2 r k) := by
  unfold iblk
  rw [View.read_apply]
  show V m c main_v3 _ = _
  have e : (V m c main_v3 : S1024x64.Idx → EReal) = (m ((c : Thread nD τ).loc main_arg4)) := by
    unfold V; after_results; rfl
  rw [e]
  congr 1
  funext a
  apply Fin.ext
  match a with
  | ⟨0, _⟩ => show win0_5.index t 0 * 1024 + 1 * r.val = r.val; rw [(idx_5 t).1]; omega
  | ⟨1, _⟩ => show win0_5.index t 1 * 64 + 1 * k.val = k.val; rw [(idx_5 t).2]; omega

theorem blk6 (c : Dev nD) (t : Fin cfg0.N) (r : Fin 64) (k : Fin 1024) :
    (iblk m c 6 t : Vec Ideal S64x1024 .bf16) (ix2 r k) = m ((c : Thread nD τ).loc main_arg5) (ix2 r k) := by
  unfold iblk
  rw [View.read_apply]
  show V m c main_v4 _ = _
  have e : (V m c main_v4 : S64x1024.Idx → EReal) = (m ((c : Thread nD τ).loc main_arg5)) := by
    unfold V; after_results; rfl
  rw [e]
  congr 1
  funext a
  apply Fin.ext
  match a with
  | ⟨0, _⟩ => show win0_6.index t 0 * 64 + 1 * r.val = r.val; rw [(idx_6 t).1]; omega
  | ⟨1, _⟩ => show win0_6.index t 1 * 1024 + 1 * k.val = k.val; rw [(idx_6 t).2]; omega

theorem blk7 (c : Dev nD) (t : Fin cfg0.N) (k : Fin 1024) :
    (iblk m c 7 t : Vec Ideal S1x1024 .f32) (ix2 0 k) = m ((c : Thread nD τ).loc main_arg6) (ix1 k) := by
  unfold iblk
  rw [View.read_apply]
  show V m c main_v5 _ = _
  have e : (V m c main_v5 : S1x1024.Idx → EReal) = shapeCast S1x1024 (m ((c : Thread nD τ).loc main_arg6)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_7.index t 0 * 1 + 1 * 0) * 1024 + (win0_7.index t 1 * 1024 + 1 * k.val)
  rw [(idx_7 t).1, (idx_7 t).2]; omega

theorem blk8 (c : Dev nD) (t : Fin cfg0.N) (r : Fin 1024) (k : Fin 64) :
    (iblk m c 8 t : Vec Ideal S1024x64 .bf16) (ix2 r k) = m ((c : Thread nD τ).loc main_arg7) (ix2 r k) := by
  unfold iblk
  rw [View.read_apply]
  show V m c main_v6 _ = _
  have e : (V m c main_v6 : S1024x64.Idx → EReal) = (m ((c : Thread nD τ).loc main_arg7)) := by
    unfold V; after_results; rfl
  rw [e]
  congr 1
  funext a
  apply Fin.ext
  match a with
  | ⟨0, _⟩ => show win0_8.index t 0 * 1024 + 1 * r.val = r.val; rw [(idx_8 t).1]; omega
  | ⟨1, _⟩ => show win0_8.index t 1 * 64 + 1 * k.val = k.val; rw [(idx_8 t).2]; omega

theorem blk9 (c : Dev nD) (t : Fin cfg0.N) (r : Fin 64) (k : Fin 1024) :
    (iblk m c 9 t : Vec Ideal S64x1024 .bf16) (ix2 r k) = m ((c : Thread nD τ).loc main_arg8) (ix2 r k) := by
  unfold iblk
  rw [View.read_apply]
  show V m c main_v7 _ = _
  have e : (V m c main_v7 : S64x1024.Idx → EReal) = (m ((c : Thread nD τ).loc main_arg8)) := by
    unfold V; after_results; rfl
  rw [e]
  congr 1
  funext a
  apply Fin.ext
  match a with
  | ⟨0, _⟩ => show win0_9.index t 0 * 64 + 1 * r.val = r.val; rw [(idx_9 t).1]; omega
  | ⟨1, _⟩ => show win0_9.index t 1 * 1024 + 1 * k.val = k.val; rw [(idx_9 t).2]; omega

theorem blk10 (c : Dev nD) (t : Fin cfg0.N) (r : Fin 1024) (k : Fin 160) :
    (iblk m c 10 t : Vec Ideal S1024x160 .bf16) (ix2 r k) = m ((c : Thread nD τ).loc main_arg9) (ix2 r k) := by
  unfold iblk
  rw [View.read_apply]
  show V m c main_v8 _ = _
  have e : (V m c main_v8 : S1024x160.Idx → EReal) = (m ((c : Thread nD τ).loc main_arg9)) := by
    unfold V; after_results; rfl
  rw [e]
  congr 1
  funext a
  apply Fin.ext
  match a with
  | ⟨0, _⟩ => show win0_10.index t 0 * 1024 + 1 * r.val = r.val; rw [(idx_10 t).1]; omega
  | ⟨1, _⟩ => show win0_10.index t 1 * 160 + 1 * k.val = k.val; rw [(idx_10 t).2]; omega

theorem blk11 (c : Dev nD) (t : Fin cfg0.N) (r : Fin 160) (k : Fin 1024) :
    (iblk m c 11 t : Vec Ideal S160x1024 .bf16) (ix2 r k) = m ((c : Thread nD τ).loc main_arg10) (ix2 r k) := by
  unfold iblk
  rw [View.read_apply]
  show V m c main_v9 _ = _
  have e : (V m c main_v9 : S160x1024.Idx → EReal) = (m ((c : Thread nD τ).loc main_arg10)) := by
    unfold V; after_results; rfl
  rw [e]
  congr 1
  funext a
  apply Fin.ext
  match a with
  | ⟨0, _⟩ => show win0_11.index t 0 * 160 + 1 * r.val = r.val; rw [(idx_11 t).1]; omega
  | ⟨1, _⟩ => show win0_11.index t 1 * 1024 + 1 * k.val = k.val; rw [(idx_11 t).2]; omega

/-- The row before row `r` of point `t`'s block is the row before it in the array. -/
theorem prev_eq (c : Dev nD) (t : Fin cfg0.N) (r : Fin 512) (k : Fin 1024) :
    prev (grid0.coords t) (iblk m c 0 t) (iblk m c 1 t) r k = prevAt (fun b t k => m ((c : Thread nD τ).loc main_arg0) (ix3 b t k)) ⟨t.val * 512 + r.val, row_lt t r⟩ k := by
  unfold prev prevAt
  rw [coords_eq]
  by_cases hr : r.val = 0
  · rw [if_pos hr]
    by_cases h8 : t.val % 8 = 0
    · rw [if_pos h8, mul_zero, if_pos (by show (t.val * 512 + r.val) % 4096 = 0; omega)]
    · rw [if_neg h8, mul_one, if_neg (by show ¬(t.val * 512 + r.val) % 4096 = 0; omega), blk1 m c t (by omega)]
      unfold rowOf
      refine congrArg₂ (fun a b => (m ((c : Thread nD τ).loc main_arg0)) (ix3 a b k)) (Fin.ext ?_) (Fin.ext ?_)
      · show (t.val * 512 - 1) / 4096 = (t.val * 512 + r.val) / 4096; omega
      · show (t.val * 512 - 1) % 4096 = (t.val * 512 + r.val) % 4096 - 1; omega
  · rw [if_neg hr, if_neg (by show ¬(t.val * 512 + r.val) % 4096 = 0; omega), blk0]
    unfold rowOf
    refine congrArg₂ (fun a b => (m ((c : Thread nD τ).loc main_arg0)) (ix3 a b k)) (Fin.ext ?_) (Fin.ext ?_)
    · show (t.val * 512 + (r.val - 1)) / 4096 = (t.val * 512 + r.val) / 4096; omega
    · show (t.val * 512 + (r.val - 1)) % 4096 = (t.val * 512 + r.val) % 4096 - 1; omega

theorem mixed_eq (c : Dev nD) (t : Fin cfg0.N) (n : Fin 6) (r : Fin 512) :
    mixed (grid0.coords t) (iblk m c 0 t) (iblk m c 1 t) (iblk m c 2 t) n r
      = mixedAt (fun b t k => m ((c : Thread nD τ).loc main_arg0) (ix3 b t k)) (fun k => (m ((c : Thread nD τ).loc main_arg1)) (ix2 n k)) ⟨t.val * 512 + r.val, row_lt t r⟩ := by
  funext k
  unfold mixed mixedAt shift
  beta_reduce
  rw [prev_eq, blk0, blk2]
  rfl

/-- The receptances of core `c`. -/
abbrev resultOf0 (c : Dev nD) : S32768x1024.Idx → EReal :=
  result0 (m ((c : Thread nD τ).loc main_arg0)) (m ((c : Thread nD τ).loc main_arg1)) (m ((c : Thread nD τ).loc main_arg2))

/-- Where element `j` of point `t`'s block lies in the array. -/
theorem emb_12 (t : Fin cfg0.N) (j : S512x1024.Idx) :
    (win0_12.blk t).view.emb j = ix2 (⟨t.val * 512 + (j 0).val, row_lt t (j 0)⟩ : Fin 32768) (j 1) := by
  funext a
  apply Fin.ext
  match a with
  | ⟨0, _⟩ => show win0_12.index t 0 * 512 + 1 * (j 0).val = _; rw [(idx_12 t).1]; show _ = t.val * 512 + (j 0).val; omega
  | ⟨1, _⟩ => show win0_12.index t 1 * 1024 + 1 * (j 1).val = _; rw [(idx_12 t).2]; show _ = (j 1).val; omega

/-- What point `t` writes back is its block of the result array. -/
theorem flushed_eq_12 (c : Dev nD) (t : Fin cfg0.N) :
    (dats m 0 c).flushed 12 t = (win0_12.blk t).view.read (Elt Ideal) (resultOf0 m c) := by
  rw [Value.flushed12]
  refine funext fun (j : S512x1024.Idx) => ?_
  show out0_12 (F := Ideal) (grid0.coords t) _ _ _ _ _ _ _ _ _ _ _ _ j = resultOf0 m c ((win0_12.blk t).view.emb j)
  rw [emb_12]
  idx_vars j
  rw [out_at_12, mixed_eq]
  simp only [blk3]
  rfl

/-- An index of the array is in point `t`'s block exactly when its row is one of the block's. -/
theorem mem_blk_12 (t : Fin cfg0.N) (i : S32768x1024.Idx) :
    i ∈ ((cfg0.win 12).blk t).view.set ↔ t.val * 512 ≤ (i 0 : Nat) ∧ (i 0 : Nat) < t.val * 512 + 512 := by
  show i ∈ ((View.whole main_v10_0).slice (win0_12.rect t)).set ↔ _
  rw [View.set_slice_whole, Rect.mem_set_unit]
  have h1 : (i 1 : Nat) < 1024 := (i 1).isLt
  refine ⟨fun h => ?_, fun h a => ?_⟩
  · have : win0_12.index t 0 * 512 ≤ (i 0 : Nat) ∧ (i 0 : Nat) < win0_12.index t 0 * 512 + 512 := h 0
    rw [(idx_12 t).1] at this; exact this
  · match a with
    | ⟨0, _⟩ => show win0_12.index t 0 * 512 ≤ (i 0 : Nat) ∧ (i 0 : Nat) < win0_12.index t 0 * 512 + 512
                rw [(idx_12 t).1]; exact h
    | ⟨1, _⟩ => show win0_12.index t 1 * 1024 ≤ (i 1 : Nat) ∧ (i 1 : Nat) < win0_12.index t 1 * 1024 + 1024
                rw [(idx_12 t).2, Nat.zero_mul, Nat.zero_add]; exact ⟨Nat.zero_le _, h1⟩

/-- The array after the run. -/
theorem array_eq_12 (c : Dev nD) : (dats m 0 c).arrAt 12 cfg0.N = resultOf0 m c :=
  (dats m 0 c).arrAt_eq_of_cover 12 (resultOf0 m c) (fun t _ => flushed_eq_12 m c t) fun i =>
    have h0 : (i 0 : Nat) < 32768 := (i 0).isLt
    ⟨(⟨(i 0 : Nat) / 512, by show (i 0 : Nat) / 512 < 64; omega⟩ : Fin grid0.N), flush0_12 _, (mem_blk_12 _ i).mpr (by
      show (i 0 : Nat) / 512 * 512 ≤ (i 0 : Nat) ∧ (i 0 : Nat) < (i 0 : Nat) / 512 * 512 + 512
      omega)⟩

/-- The decays' logarithms of core `c`. -/
abbrev resultOf1 (c : Dev nD) : S32768x1024.Idx → EReal :=
  result1 (m ((c : Thread nD τ).loc main_arg0)) (m ((c : Thread nD τ).loc main_arg1)) (m ((c : Thread nD τ).loc main_arg3)) (m ((c : Thread nD τ).loc main_arg4)) (m ((c : Thread nD τ).loc main_arg5))

/-- Where element `j` of point `t`'s block lies in the array. -/
theorem emb_13 (t : Fin cfg0.N) (j : S512x1024.Idx) :
    (win0_13.blk t).view.emb j = ix2 (⟨t.val * 512 + (j 0).val, row_lt t (j 0)⟩ : Fin 32768) (j 1) := by
  funext a
  apply Fin.ext
  match a with
  | ⟨0, _⟩ => show win0_13.index t 0 * 512 + 1 * (j 0).val = _; rw [(idx_13 t).1]; show _ = t.val * 512 + (j 0).val; omega
  | ⟨1, _⟩ => show win0_13.index t 1 * 1024 + 1 * (j 1).val = _; rw [(idx_13 t).2]; show _ = (j 1).val; omega

/-- What point `t` writes back is its block of the result array. -/
theorem flushed_eq_13 (c : Dev nD) (t : Fin cfg0.N) :
    (dats m 0 c).flushed 13 t = (win0_13.blk t).view.read (Elt Ideal) (resultOf1 m c) := by
  rw [Value.flushed13]
  refine funext fun (j : S512x1024.Idx) => ?_
  show out0_13 (F := Ideal) (grid0.coords t) _ _ _ _ _ _ _ _ _ _ _ _ j = resultOf1 m c ((win0_13.blk t).view.emb j)
  rw [emb_13]
  idx_vars j
  rw [out_at_13, mixed_eq]
  simp only [blk4, blk5, blk6]
  rfl

/-- An index of the array is in point `t`'s block exactly when its row is one of the block's. -/
theorem mem_blk_13 (t : Fin cfg0.N) (i : S32768x1024.Idx) :
    i ∈ ((cfg0.win 13).blk t).view.set ↔ t.val * 512 ≤ (i 0 : Nat) ∧ (i 0 : Nat) < t.val * 512 + 512 := by
  show i ∈ ((View.whole main_v10_1).slice (win0_13.rect t)).set ↔ _
  rw [View.set_slice_whole, Rect.mem_set_unit]
  have h1 : (i 1 : Nat) < 1024 := (i 1).isLt
  refine ⟨fun h => ?_, fun h a => ?_⟩
  · have : win0_13.index t 0 * 512 ≤ (i 0 : Nat) ∧ (i 0 : Nat) < win0_13.index t 0 * 512 + 512 := h 0
    rw [(idx_13 t).1] at this; exact this
  · match a with
    | ⟨0, _⟩ => show win0_13.index t 0 * 512 ≤ (i 0 : Nat) ∧ (i 0 : Nat) < win0_13.index t 0 * 512 + 512
                rw [(idx_13 t).1]; exact h
    | ⟨1, _⟩ => show win0_13.index t 1 * 1024 ≤ (i 1 : Nat) ∧ (i 1 : Nat) < win0_13.index t 1 * 1024 + 1024
                rw [(idx_13 t).2, Nat.zero_mul, Nat.zero_add]; exact ⟨Nat.zero_le _, h1⟩

/-- The array after the run. -/
theorem array_eq_13 (c : Dev nD) : (dats m 0 c).arrAt 13 cfg0.N = resultOf1 m c :=
  (dats m 0 c).arrAt_eq_of_cover 13 (resultOf1 m c) (fun t _ => flushed_eq_13 m c t) fun i =>
    have h0 : (i 0 : Nat) < 32768 := (i 0).isLt
    ⟨(⟨(i 0 : Nat) / 512, by show (i 0 : Nat) / 512 < 64; omega⟩ : Fin grid0.N), flush0_13 _, (mem_blk_13 _ i).mpr (by
      show (i 0 : Nat) / 512 * 512 ≤ (i 0 : Nat) ∧ (i 0 : Nat) < (i 0 : Nat) / 512 * 512 + 512
      omega)⟩

/-- The keys of core `c`. -/
abbrev resultOf2 (c : Dev nD) : S32768x1024.Idx → EReal :=
  result2 (m ((c : Thread nD τ).loc main_arg0)) (m ((c : Thread nD τ).loc main_arg1)) (m ((c : Thread nD τ).loc main_arg2))

/-- Where element `j` of point `t`'s block lies in the array. -/
theorem emb_14 (t : Fin cfg0.N) (j : S512x1024.Idx) :
    (win0_14.blk t).view.emb j = ix2 (⟨t.val * 512 + (j 0).val, row_lt t (j 0)⟩ : Fin 32768) (j 1) := by
  funext a
  apply Fin.ext
  match a with
  | ⟨0, _⟩ => show win0_14.index t 0 * 512 + 1 * (j 0).val = _; rw [(idx_14 t).1]; show _ = t.val * 512 + (j 0).val; omega
  | ⟨1, _⟩ => show win0_14.index t 1 * 1024 + 1 * (j 1).val = _; rw [(idx_14 t).2]; show _ = (j 1).val; omega

/-- What point `t` writes back is its block of the result array. -/
theorem flushed_eq_14 (c : Dev nD) (t : Fin cfg0.N) :
    (dats m 0 c).flushed 14 t = (win0_14.blk t).view.read (Elt Ideal) (resultOf2 m c) := by
  rw [Value.flushed14]
  refine funext fun (j : S512x1024.Idx) => ?_
  show out0_14 (F := Ideal) (grid0.coords t) _ _ _ _ _ _ _ _ _ _ _ _ j = resultOf2 m c ((win0_14.blk t).view.emb j)
  rw [emb_14]
  idx_vars j
  rw [out_at_14, mixed_eq]
  simp only [blk3]
  rfl

/-- An index of the array is in point `t`'s block exactly when its row is one of the block's. -/
theorem mem_blk_14 (t : Fin cfg0.N) (i : S32768x1024.Idx) :
    i ∈ ((cfg0.win 14).blk t).view.set ↔ t.val * 512 ≤ (i 0 : Nat) ∧ (i 0 : Nat) < t.val * 512 + 512 := by
  show i ∈ ((View.whole main_v10_2).slice (win0_14.rect t)).set ↔ _
  rw [View.set_slice_whole, Rect.mem_set_unit]
  have h1 : (i 1 : Nat) < 1024 := (i 1).isLt
  refine ⟨fun h => ?_, fun h a => ?_⟩
  · have : win0_14.index t 0 * 512 ≤ (i 0 : Nat) ∧ (i 0 : Nat) < win0_14.index t 0 * 512 + 512 := h 0
    rw [(idx_14 t).1] at this; exact this
  · match a with
    | ⟨0, _⟩ => show win0_14.index t 0 * 512 ≤ (i 0 : Nat) ∧ (i 0 : Nat) < win0_14.index t 0 * 512 + 512
                rw [(idx_14 t).1]; exact h
    | ⟨1, _⟩ => show win0_14.index t 1 * 1024 ≤ (i 1 : Nat) ∧ (i 1 : Nat) < win0_14.index t 1 * 1024 + 1024
                rw [(idx_14 t).2, Nat.zero_mul, Nat.zero_add]; exact ⟨Nat.zero_le _, h1⟩

/-- The array after the run. -/
theorem array_eq_14 (c : Dev nD) : (dats m 0 c).arrAt 14 cfg0.N = resultOf2 m c :=
  (dats m 0 c).arrAt_eq_of_cover 14 (resultOf2 m c) (fun t _ => flushed_eq_14 m c t) fun i =>
    have h0 : (i 0 : Nat) < 32768 := (i 0).isLt
    ⟨(⟨(i 0 : Nat) / 512, by show (i 0 : Nat) / 512 < 64; omega⟩ : Fin grid0.N), flush0_14 _, (mem_blk_14 _ i).mpr (by
      show (i 0 : Nat) / 512 * 512 ≤ (i 0 : Nat) ∧ (i 0 : Nat) < (i 0 : Nat) / 512 * 512 + 512
      omega)⟩

/-- The values of core `c`. -/
abbrev resultOf3 (c : Dev nD) : S32768x1024.Idx → EReal :=
  result3 (m ((c : Thread nD τ).loc main_arg0)) (m ((c : Thread nD τ).loc main_arg1)) (m ((c : Thread nD τ).loc main_arg2))

/-- Where element `j` of point `t`'s block lies in the array. -/
theorem emb_15 (t : Fin cfg0.N) (j : S512x1024.Idx) :
    (win0_15.blk t).view.emb j = ix2 (⟨t.val * 512 + (j 0).val, row_lt t (j 0)⟩ : Fin 32768) (j 1) := by
  funext a
  apply Fin.ext
  match a with
  | ⟨0, _⟩ => show win0_15.index t 0 * 512 + 1 * (j 0).val = _; rw [(idx_15 t).1]; show _ = t.val * 512 + (j 0).val; omega
  | ⟨1, _⟩ => show win0_15.index t 1 * 1024 + 1 * (j 1).val = _; rw [(idx_15 t).2]; show _ = (j 1).val; omega

/-- What point `t` writes back is its block of the result array. -/
theorem flushed_eq_15 (c : Dev nD) (t : Fin cfg0.N) :
    (dats m 0 c).flushed 15 t = (win0_15.blk t).view.read (Elt Ideal) (resultOf3 m c) := by
  rw [Value.flushed15]
  refine funext fun (j : S512x1024.Idx) => ?_
  show out0_15 (F := Ideal) (grid0.coords t) _ _ _ _ _ _ _ _ _ _ _ _ j = resultOf3 m c ((win0_15.blk t).view.emb j)
  rw [emb_15]
  idx_vars j
  rw [out_at_15, mixed_eq]
  simp only [blk3]
  rfl

/-- An index of the array is in point `t`'s block exactly when its row is one of the block's. -/
theorem mem_blk_15 (t : Fin cfg0.N) (i : S32768x1024.Idx) :
    i ∈ ((cfg0.win 15).blk t).view.set ↔ t.val * 512 ≤ (i 0 : Nat) ∧ (i 0 : Nat) < t.val * 512 + 512 := by
  show i ∈ ((View.whole main_v10_3).slice (win0_15.rect t)).set ↔ _
  rw [View.set_slice_whole, Rect.mem_set_unit]
  have h1 : (i 1 : Nat) < 1024 := (i 1).isLt
  refine ⟨fun h => ?_, fun h a => ?_⟩
  · have : win0_15.index t 0 * 512 ≤ (i 0 : Nat) ∧ (i 0 : Nat) < win0_15.index t 0 * 512 + 512 := h 0
    rw [(idx_15 t).1] at this; exact this
  · match a with
    | ⟨0, _⟩ => show win0_15.index t 0 * 512 ≤ (i 0 : Nat) ∧ (i 0 : Nat) < win0_15.index t 0 * 512 + 512
                rw [(idx_15 t).1]; exact h
    | ⟨1, _⟩ => show win0_15.index t 1 * 1024 ≤ (i 1 : Nat) ∧ (i 1 : Nat) < win0_15.index t 1 * 1024 + 1024
                rw [(idx_15 t).2, Nat.zero_mul, Nat.zero_add]; exact ⟨Nat.zero_le _, h1⟩

/-- The array after the run. -/
theorem array_eq_15 (c : Dev nD) : (dats m 0 c).arrAt 15 cfg0.N = resultOf3 m c :=
  (dats m 0 c).arrAt_eq_of_cover 15 (resultOf3 m c) (fun t _ => flushed_eq_15 m c t) fun i =>
    have h0 : (i 0 : Nat) < 32768 := (i 0).isLt
    ⟨(⟨(i 0 : Nat) / 512, by show (i 0 : Nat) / 512 < 64; omega⟩ : Fin grid0.N), flush0_15 _, (mem_blk_15 _ i).mpr (by
      show (i 0 : Nat) / 512 * 512 ≤ (i 0 : Nat) ∧ (i 0 : Nat) < (i 0 : Nat) / 512 * 512 + 512
      omega)⟩

/-- The learning rates of core `c`. -/
abbrev resultOf4 (c : Dev nD) : S32768x1024.Idx → EReal :=
  result4 (m ((c : Thread nD τ).loc main_arg0)) (m ((c : Thread nD τ).loc main_arg1)) (m ((c : Thread nD τ).loc main_arg6)) (m ((c : Thread nD τ).loc main_arg7)) (m ((c : Thread nD τ).loc main_arg8))

/-- Where element `j` of point `t`'s block lies in the array. -/
theorem emb_16 (t : Fin cfg0.N) (j : S512x1024.Idx) :
    (win0_16.blk t).view.emb j = ix2 (⟨t.val * 512 + (j 0).val, row_lt t (j 0)⟩ : Fin 32768) (j 1) := by
  funext a
  apply Fin.ext
  match a with
  | ⟨0, _⟩ => show win0_16.index t 0 * 512 + 1 * (j 0).val = _; rw [(idx_16 t).1]; show _ = t.val * 512 + (j 0).val; omega
  | ⟨1, _⟩ => show win0_16.index t 1 * 1024 + 1 * (j 1).val = _; rw [(idx_16 t).2]; show _ = (j 1).val; omega

/-- What point `t` writes back is its block of the result array. -/
theorem flushed_eq_16 (c : Dev nD) (t : Fin cfg0.N) :
    (dats m 0 c).flushed 16 t = (win0_16.blk t).view.read (Elt Ideal) (resultOf4 m c) := by
  rw [Value.flushed16]
  refine funext fun (j : S512x1024.Idx) => ?_
  show out0_16 (F := Ideal) (grid0.coords t) _ _ _ _ _ _ _ _ _ _ _ _ j = resultOf4 m c ((win0_16.blk t).view.emb j)
  rw [emb_16]
  idx_vars j
  rw [out_at_16, mixed_eq]
  simp only [blk7, blk8, blk9]
  rfl

/-- An index of the array is in point `t`'s block exactly when its row is one of the block's. -/
theorem mem_blk_16 (t : Fin cfg0.N) (i : S32768x1024.Idx) :
    i ∈ ((cfg0.win 16).blk t).view.set ↔ t.val * 512 ≤ (i 0 : Nat) ∧ (i 0 : Nat) < t.val * 512 + 512 := by
  show i ∈ ((View.whole main_v10_4).slice (win0_16.rect t)).set ↔ _
  rw [View.set_slice_whole, Rect.mem_set_unit]
  have h1 : (i 1 : Nat) < 1024 := (i 1).isLt
  refine ⟨fun h => ?_, fun h a => ?_⟩
  · have : win0_16.index t 0 * 512 ≤ (i 0 : Nat) ∧ (i 0 : Nat) < win0_16.index t 0 * 512 + 512 := h 0
    rw [(idx_16 t).1] at this; exact this
  · match a with
    | ⟨0, _⟩ => show win0_16.index t 0 * 512 ≤ (i 0 : Nat) ∧ (i 0 : Nat) < win0_16.index t 0 * 512 + 512
                rw [(idx_16 t).1]; exact h
    | ⟨1, _⟩ => show win0_16.index t 1 * 1024 ≤ (i 1 : Nat) ∧ (i 1 : Nat) < win0_16.index t 1 * 1024 + 1024
                rw [(idx_16 t).2, Nat.zero_mul, Nat.zero_add]; exact ⟨Nat.zero_le _, h1⟩

/-- The array after the run. -/
theorem array_eq_16 (c : Dev nD) : (dats m 0 c).arrAt 16 cfg0.N = resultOf4 m c :=
  (dats m 0 c).arrAt_eq_of_cover 16 (resultOf4 m c) (fun t _ => flushed_eq_16 m c t) fun i =>
    have h0 : (i 0 : Nat) < 32768 := (i 0).isLt
    ⟨(⟨(i 0 : Nat) / 512, by show (i 0 : Nat) / 512 < 64; omega⟩ : Fin grid0.N), flush0_16 _, (mem_blk_16 _ i).mpr (by
      show (i 0 : Nat) / 512 * 512 ≤ (i 0 : Nat) ∧ (i 0 : Nat) < (i 0 : Nat) / 512 * 512 + 512
      omega)⟩

/-- The gates of core `c`. -/
abbrev resultOf5 (c : Dev nD) : S32768x1024.Idx → EReal :=
  result5 (m ((c : Thread nD τ).loc main_arg0)) (m ((c : Thread nD τ).loc main_arg1)) (m ((c : Thread nD τ).loc main_arg9)) (m ((c : Thread nD τ).loc main_arg10))

/-- Where element `j` of point `t`'s block lies in the array. -/
theorem emb_17 (t : Fin cfg0.N) (j : S512x1024.Idx) :
    (win0_17.blk t).view.emb j = ix2 (⟨t.val * 512 + (j 0).val, row_lt t (j 0)⟩ : Fin 32768) (j 1) := by
  funext a
  apply Fin.ext
  match a with
  | ⟨0, _⟩ => show win0_17.index t 0 * 512 + 1 * (j 0).val = _; rw [(idx_17 t).1]; show _ = t.val * 512 + (j 0).val; omega
  | ⟨1, _⟩ => show win0_17.index t 1 * 1024 + 1 * (j 1).val = _; rw [(idx_17 t).2]; show _ = (j 1).val; omega

/-- What point `t` writes back is its block of the result array. -/
theorem flushed_eq_17 (c : Dev nD) (t : Fin cfg0.N) :
    (dats m 0 c).flushed 17 t = (win0_17.blk t).view.read (Elt Ideal) (resultOf5 m c) := by
  rw [Value.flushed17]
  refine funext fun (j : S512x1024.Idx) => ?_
  show out0_17 (F := Ideal) (grid0.coords t) _ _ _ _ _ _ _ _ _ _ _ _ j = resultOf5 m c ((win0_17.blk t).view.emb j)
  rw [emb_17]
  idx_vars j
  rw [out_at_17, mixed_eq]
  simp only [blk10, blk11]
  rfl

/-- An index of the array is in point `t`'s block exactly when its row is one of the block's. -/
theorem mem_blk_17 (t : Fin cfg0.N) (i : S32768x1024.Idx) :
    i ∈ ((cfg0.win 17).blk t).view.set ↔ t.val * 512 ≤ (i 0 : Nat) ∧ (i 0 : Nat) < t.val * 512 + 512 := by
  show i ∈ ((View.whole main_v10_5).slice (win0_17.rect t)).set ↔ _
  rw [View.set_slice_whole, Rect.mem_set_unit]
  have h1 : (i 1 : Nat) < 1024 := (i 1).isLt
  refine ⟨fun h => ?_, fun h a => ?_⟩
  · have : win0_17.index t 0 * 512 ≤ (i 0 : Nat) ∧ (i 0 : Nat) < win0_17.index t 0 * 512 + 512 := h 0
    rw [(idx_17 t).1] at this; exact this
  · match a with
    | ⟨0, _⟩ => show win0_17.index t 0 * 512 ≤ (i 0 : Nat) ∧ (i 0 : Nat) < win0_17.index t 0 * 512 + 512
                rw [(idx_17 t).1]; exact h
    | ⟨1, _⟩ => show win0_17.index t 1 * 1024 ≤ (i 1 : Nat) ∧ (i 1 : Nat) < win0_17.index t 1 * 1024 + 1024
                rw [(idx_17 t).2, Nat.zero_mul, Nat.zero_add]; exact ⟨Nat.zero_le _, h1⟩

/-- The array after the run. -/
theorem array_eq_17 (c : Dev nD) : (dats m 0 c).arrAt 17 cfg0.N = resultOf5 m c :=
  (dats m 0 c).arrAt_eq_of_cover 17 (resultOf5 m c) (fun t _ => flushed_eq_17 m c t) fun i =>
    have h0 : (i 0 : Nat) < 32768 := (i 0).isLt
    ⟨(⟨(i 0 : Nat) / 512, by show (i 0 : Nat) / 512 < 64; omega⟩ : Fin grid0.N), flush0_17 _, (mem_blk_17 _ i).mpr (by
      show (i 0 : Nat) / 512 * 512 ≤ (i 0 : Nat) ∧ (i 0 : Nat) < (i 0 : Nat) / 512 * 512 + 512
      omega)⟩

/-- The run, read. -/
theorem run : θ_run defs (onTc (τ := τ) (main (F := Ideal))) ⟨m, fun _ => 0, ρ⟩ fun r => ∀ c : Dev nD,
      r.2.mem ((c : Thread nD τ).loc main_v10_0) = resultOf0 m c
      ∧ r.2.mem ((c : Thread nD τ).loc main_v10_1) = resultOf1 m c
      ∧ r.2.mem ((c : Thread nD τ).loc main_v10_2) = resultOf2 m c
      ∧ r.2.mem ((c : Thread nD τ).loc main_v10_3) = resultOf3 m c
      ∧ r.2.mem ((c : Thread nD τ).loc main_v10_4) = resultOf4 m c
      ∧ r.2.mem ((c : Thread nD τ).loc main_v10_5) = resultOf5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10) :=
  (θ_run defs _ _).mono (fun _ h c => ⟨(h c).1.trans (array_eq_12 m c), (h c).2.1.trans (array_eq_13 m c), (h c).2.2.1.trans (array_eq_14 m c), (h c).2.2.2.1.trans (array_eq_15 m c), (h c).2.2.2.2.1.trans (array_eq_16 m c), (h c).2.2.2.2.2.1.trans (array_eq_17 m c), (h c).2.2.2.2.2.2⟩) (Value.run_blocks m ρ)

end Cert.PreIdeal.Val

end
-- ==== Proof.PreRefValue.lean ====
module

public import proofs.«01_k».proof.Proof.Gen.PreRefIdeal.Read
public import proofs.«01_k».proof.Proof.PreRows
public import Idealize.ShloMosaic.Lib.Pointwise

/-!
# The reference of the projections, row by row
-/

@[expose] public section

set_option maxRecDepth 16384

noncomputable section

namespace Cert.PreRefIdeal.RefValue

open Cert.PreRefIdeal Cert.PreRefIdeal.Gen Cert.PreRefIdeal.Read Idealize.ShloMosaic Idealize.ShloMosaic.TcCoe Idealize.SL.Sem
open Cert.Rows

variable (x0 : S8x4096x1024.Idx → EReal) (x1 : S6x1024.Idx → EReal) (x2 : S3x1024x1024.Idx → EReal) (x3 : S1024.Idx → EReal) (x4 : S1024x64.Idx → EReal) (x5 : S64x1024.Idx → EReal) (x6 : S1024.Idx → EReal) (x7 : S1024x64.Idx → EReal) (x8 : S64x1024.Idx → EReal) (x9 : S1024x160.Idx → EReal) (x10 : S160x1024.Idx → EReal)

/-- The row before minus the row. -/
theorem moved_at (p : Fin 8) (q : Fin 4096) (k : Fin 1024) :
    val_main_v2 (F := Ideal) x0 (ix3 p q k) = (if q.val = 0 then 0 else x0 (ix3 p (⟨q.val - 1, by omega⟩ : Fin 4096) k)) - x0 (ix3 p q k) := by
  pointwise [val_main_v2, val_main_v1, val_main_v0, val_main_call0_v0, val_main_c]
  have h0 : FloatOps.sitofp (F := Ideal) FTy.f32 (0#32 : BitVec 32) = 0 := by
    show (((0#32 : BitVec 32).toInt : ℝ) : EReal) = 0
    norm_num
  rw [h0]
  congr 1
  by_cases hq : q.val = 0
  · rw [if_pos hq, dif_neg (by omega)]
  · rw [if_neg hq, dif_pos (by omega)]

theorem ref_at_0 (R : Fin 32768) (j : Fin 1024) : val_main_v82 (F := Ideal) x0 x1 x2 (ix2 R j) = projRow (mixedAt (fun b t k => x0 (ix3 b t k)) (fun k => x1 (ix2 0 k)) R) (fun k l => x2 (ix3 0 k l)) j := by
  have e : idx_main_v82 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v82_apply, e]
  pointwise [val_main_v45, val_main_v44, val_main_v43, val_main_v42, val_main_v39, val_main_v40, val_main_v41, val_main_v8, val_main_v20, val_main_v26, val_main_v7, val_main_v19, val_main_v25, val_main_v6, val_main_v18, val_main_v24, val_main_v5, val_main_v17, val_main_v23, val_main_v4, val_main_v16, val_main_v22, val_main_v3, val_main_v15, val_main_v21, moved_at, mixedAt, shift, rowAt, prevAt, projRow, decayRow, logDecay, rateRow, gateRow, resRow, logi, absf_eq, log1p_eq, self_ne, half]

theorem ref_at_1 (R : Fin 32768) (j : Fin 1024) : val_main_v83 (F := Ideal) x0 x1 x3 x4 x5 (ix2 R j) = decayRow (mixedAt (fun b t k => x0 (ix3 b t k)) (fun k => x1 (ix2 1 k)) R) (fun k => x3 (ix1 k)) (fun k l => x4 (ix2 k l)) (fun k l => x5 (ix2 k l)) j := by
  have e : idx_main_v83 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v83_apply, e]
  pointwise [val_main_v81, val_main_v80, val_main_v60, val_main_v58, val_main_v59, val_main_v57, val_main_cst, val_main_call1_v4, val_main_call1_v6, val_main_call1_v11, val_main_call1_v3, val_main_v56, val_main_call1_v5, val_main_call1_v1, val_main_call1_v10, val_main_call1_v2, val_main_v55, val_main_call1_cst, val_main_call1_v0, val_main_call1_v9, val_main_v54, val_main_v52, val_main_call1_v8, val_main_v53, val_main_v51, val_main_call1_v7, val_main_v50, val_main_v14, val_main_v13, val_main_v12, val_main_v11, val_main_v10, val_main_v9, moved_at, mixedAt, shift, rowAt, prevAt, projRow, decayRow, logDecay, rateRow, gateRow, resRow, logi, absf_eq, log1p_eq, self_ne, half]

theorem ref_at_2 (R : Fin 32768) (j : Fin 1024) : val_main_v84 (F := Ideal) x0 x1 x2 (ix2 R j) = projRow (mixedAt (fun b t k => x0 (ix3 b t k)) (fun k => x1 (ix2 2 k)) R) (fun k l => x2 (ix3 1 k l)) j := by
  have e : idx_main_v84 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v84_apply, e]
  pointwise [val_main_v47, val_main_v46, val_main_v43, val_main_v42, val_main_v39, val_main_v40, val_main_v41, val_main_v8, val_main_v20, val_main_v26, val_main_v7, val_main_v19, val_main_v25, val_main_v6, val_main_v18, val_main_v24, val_main_v5, val_main_v17, val_main_v23, val_main_v4, val_main_v16, val_main_v22, val_main_v3, val_main_v15, val_main_v21, moved_at, mixedAt, shift, rowAt, prevAt, projRow, decayRow, logDecay, rateRow, gateRow, resRow, logi, absf_eq, log1p_eq, self_ne, half]

theorem ref_at_3 (R : Fin 32768) (j : Fin 1024) : val_main_v85 (F := Ideal) x0 x1 x2 (ix2 R j) = projRow (mixedAt (fun b t k => x0 (ix3 b t k)) (fun k => x1 (ix2 3 k)) R) (fun k l => x2 (ix3 2 k l)) j := by
  have e : idx_main_v85 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v85_apply, e]
  pointwise [val_main_v49, val_main_v48, val_main_v43, val_main_v42, val_main_v39, val_main_v40, val_main_v41, val_main_v8, val_main_v20, val_main_v26, val_main_v7, val_main_v19, val_main_v25, val_main_v6, val_main_v18, val_main_v24, val_main_v5, val_main_v17, val_main_v23, val_main_v4, val_main_v16, val_main_v22, val_main_v3, val_main_v15, val_main_v21, moved_at, mixedAt, shift, rowAt, prevAt, projRow, decayRow, logDecay, rateRow, gateRow, resRow, logi, absf_eq, log1p_eq, self_ne, half]

theorem ref_at_4 (R : Fin 32768) (j : Fin 1024) : val_main_v86 (F := Ideal) x0 x1 x6 x7 x8 (ix2 R j) = rateRow (mixedAt (fun b t k => x0 (ix3 b t k)) (fun k => x1 (ix2 4 k)) R) (fun k => x6 (ix1 k)) (fun k l => x7 (ix2 k l)) (fun k l => x8 (ix2 k l)) j := by
  have e : idx_main_v86 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v86_apply, e]
  pointwise [val_main_v71, val_main_v70, val_main_v69, val_main_cst_1, val_main_v68, val_main_v67, val_main_cst_0, val_main_v66, val_main_v65, val_main_v64, val_main_v62, val_main_v63, val_main_v61, val_main_v32, val_main_v31, val_main_v30, val_main_v29, val_main_v28, val_main_v27, moved_at, mixedAt, shift, rowAt, prevAt, projRow, decayRow, logDecay, rateRow, gateRow, resRow, logi, absf_eq, log1p_eq, self_ne, half]

theorem ref_at_5 (R : Fin 32768) (j : Fin 1024) : val_main_v87 (F := Ideal) x0 x1 x9 x10 (ix2 R j) = gateRow (mixedAt (fun b t k => x0 (ix3 b t k)) (fun k => x1 (ix2 5 k)) R) (fun k l => x9 (ix2 k l)) (fun k l => x10 (ix2 k l)) j := by
  have e : idx_main_v87 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v87_apply, e]
  pointwise [val_main_v79, val_main_v78, val_main_v77, val_main_v76, val_main_cst_3, val_main_v75, val_main_v74, val_main_cst_2, val_main_v73, val_main_v72, val_main_v38, val_main_v37, val_main_v36, val_main_v35, val_main_v34, val_main_v33, moved_at, mixedAt, shift, rowAt, prevAt, projRow, decayRow, logDecay, rateRow, gateRow, resRow, logi, absf_eq, log1p_eq, self_ne, half]

end Cert.PreRefIdeal.RefValue

end
-- ==== Proof.PreResBlock.lean ====
module

public import proofs.«01_k».proof.Proof.Gen.PreResIdeal.Value
public import proofs.«01_k».proof.Proof.PreRows
public import Idealize.ShloMosaic.Lib.Pipeline.ReadBack
public import Idealize.ShloMosaic.Lib.WordCmp

/-!
# One block of the projections' kernel, the layers after the first
-/

@[expose] public section

set_option maxRecDepth 16384

noncomputable section

namespace Cert.PreResIdeal.Val

open Cert.PreResIdeal Cert.PreResIdeal.Gen Idealize.ShloMosaic Idealize.ShloMosaic.TcCoe Idealize.SL.Sem
open Cert.Rows

theorem hz : (![0,0] : Fin 2 → Nat) = fun _ => 0 := funext fun a => by fin_cases a <;> rfl

/-- The row before row `r` of a block: the last of the eight rows `p` carries for the first one (nothing at a
    sequence's start), the block's own row otherwise. -/
def prev (i : grid0.Coords) (x : Vec Ideal S512x1024 .f32) (p : Vec Ideal S8x1024 .f32) (r : Fin 512) (k : Fin 1024) : EReal :=
  if r.val = 0 then p (ix2 7 k) * (if (i 0).val % 8 = 0 then 0 else 1) else x (ix2 (⟨r.val - 1, by omega⟩ : Fin 512) k)

/-- A block's row mixed with the one before it, by row `n` of the shares. -/
def mixed (i : grid0.Coords) (x : Vec Ideal S512x1024 .f32) (p : Vec Ideal S8x1024 .f32) (mu : Vec Ideal S6x1024 .f32) (n : Fin 6) (r : Fin 512) : Fin 1024 → EReal :=
  shift (fun k => x (ix2 r k)) (prev i x p r) (fun k => mu (ix2 n k))

section
variable (i : grid0.Coords) (x : Vec Ideal S512x1024 .f32) (p : Vec Ideal S8x1024 .f32)

theorem start_eq : ∀ n : Fin 64, (Scalar.cmpi .eq (Scalar.select (Scalar.andi (Scalar.xori (Scalar.cmpi .slt (Scalar.remsi (BitVec.ofNat 32 n.val) (Scalar.select (Scalar.cmpi .eq 8#32 0#32) 1#32 8#32)) 0#32) (Scalar.cmpi .slt (Scalar.select (Scalar.cmpi .eq 8#32 0#32) 1#32 8#32) 0#32)) (Scalar.cmpi .ne (Scalar.remsi (BitVec.ofNat 32 n.val) (Scalar.select (Scalar.cmpi .eq 8#32 0#32) 1#32 8#32)) 0#32)) (Scalar.addi (Scalar.remsi (BitVec.ofNat 32 n.val) (Scalar.select (Scalar.cmpi .eq 8#32 0#32) 1#32 8#32)) (Scalar.select (Scalar.cmpi .eq 8#32 0#32) 1#32 8#32)) (Scalar.remsi (BitVec.ofNat 32 n.val) (Scalar.select (Scalar.cmpi .eq 8#32 0#32) 1#32 8#32))) 0#32 : BitVec 1) = 1#1 ↔ n.val % 8 = 0 := by decide +kernel

theorem moved_at (r : Fin 512) (k : Fin 1024) :
    k0_pay5 i (View.ld x r0_0) (View.ld p r0_1) (ix2 r k) = prev i x p r k - x (ix2 r k) := by
  pointwise [k0_pay5, k0_pay4]
  congr 1
  have h0 : IntOp.cmpi .eq (BitVec.ofNat 32 r.val) 0#32 = (1#1 : BitVec 1) ↔ r.val = 0 :=
    (by decide +kernel : ∀ r : Fin 512, IntOp.cmpi .eq (BitVec.ofNat 32 r.val) 0#32 = (1#1 : BitVec 1) ↔ r.val = 0) r
  have h1 := start_eq (i 0)
  unfold prev
  by_cases hr : r.val = 0
  · refine (sel_pos _ _ (h0.mpr hr)).trans (Eq.trans ?_ (if_pos hr).symm)
    by_cases hi : (i 0).val % 8 = 0
    · exact (sel_pos _ _ (h1.mpr hi)).trans (by rw [if_pos hi, mul_zero])
    · exact (sel_neg _ _ fun h => hi (h1.mp h)).trans (by rw [if_neg hi, mul_one])
  · refine (sel_neg _ _ fun h => hr (h0.mp h)).trans (Eq.trans ?_ (if_neg hr).symm)
    refine congrArg (fun q => x (ix2 q k)) (Fin.ext ?_)
    show (r.val + 512 - 1) % 512 = r.val - 1
    omega
end

section
variable (i : grid0.Coords) (x0 : Vec Ideal S512x1024 .f32) (x1 : Vec Ideal S8x1024 .f32) (x2 : Vec Ideal S512x1024 .f32) (x3 : Vec Ideal S6x1024 .f32) (x4 : Vec Ideal S3x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1x1024 .f32) (x12 : Vec Ideal S1024x32 .bf16) (x13 : Vec Ideal S32x1024 .bf16) (x14 : Vec Ideal S1024x160 .bf16) (x15 : Vec Ideal S160x1024 .bf16)

theorem out_at_16 (r : Fin 512) (j : Fin 1024) : out0_16 i x0 x1 x2 x3 x4 x5 x6 x7 x8 x9 x10 x11 x12 x13 x14 x15 (ix2 r j) = projRow (mixed i x0 x1 x3 0 r) (fun k l => x4 (ix3 0 k l)) j := by
  unfold out0_16
  rw [View.canon_unit_zero hz]
  pointwise [k0_pay8, k0_pay6, k0_pay4, k0_pay7, moved_at, mixed, shift, projRow, decayRow, logDecay, rateRow, gateRow, resRow, logi, absf_eq, half, zero_sub, Nat.zero_add]

/-- Output 1 of the block, as a function of the index. -/
def G17 (i : grid0.Coords) (x0 : Vec Ideal S512x1024 .f32) (x1 : Vec Ideal S8x1024 .f32) (x2 : Vec Ideal S512x1024 .f32) (x3 : Vec Ideal S6x1024 .f32) (x4 : Vec Ideal S3x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1x1024 .f32) (x12 : Vec Ideal S1024x32 .bf16) (x13 : Vec Ideal S32x1024 .bf16) (x14 : Vec Ideal S1024x160 .bf16) (x15 : Vec Ideal S160x1024 .bf16) : S512x1024.Idx → EReal := fun y => decayRow (mixed i x0 x1 x3 1 (y 0)) (fun k => x5 (ix2 0 k)) (fun k l => x6 (ix2 k l)) (fun k l => x7 (ix2 k l)) (y 1)

theorem p17_0 (z : S512x256.Idx) : k0_pay20 (k0_pay18 (k0_pay42 i x0 x1 x2 x3 x4 x5 x6 x7 x8 x9 x10 x11 x12 x13 x14 x15) (View.ld x5 r0_18) (View.ld x7 r0_19)) (k0_pay19 (F := Ideal)) z = G17 i x0 x1 x2 x3 x4 x5 x6 x7 x8 x9 x10 x11 x12 x13 x14 x15 (r0_20.emb z) := by
  idx_vars z
  have e : r0_20.emb (ix2 z0 z1) = ix2 z0 (⟨768 + z1.val, by omega⟩ : Fin 1024) := by
    funext a
    apply Fin.ext
    match a with
    | ⟨0, _⟩ => show 0 + 1 * z0.val = z0.val; omega
    | ⟨1, _⟩ => show 768 + 1 * z1.val = 768 + z1.val; omega
  rw [e]
  pointwise [k0_pay20, k0_pay18, k0_pay42, k0_pay19, k0_pay9, k0_pay41, k0_pay7, k0_pay4, k0_pay6, moved_at, G17, mixed, shift, projRow, decayRow, logDecay, rateRow, gateRow, resRow, logi, absf_eq, half, zero_sub, Nat.zero_add]

theorem p17_1 (z : S512x256.Idx) : k0_pay17 (k0_pay42 i x0 x1 x2 x3 x4 x5 x6 x7 x8 x9 x10 x11 x12 x13 x14 x15) (View.ld x5 r0_15) (View.ld x7 r0_16) z = G17 i x0 x1 x2 x3 x4 x5 x6 x7 x8 x9 x10 x11 x12 x13 x14 x15 (r0_17.emb z) := by
  idx_vars z
  have e : r0_17.emb (ix2 z0 z1) = ix2 z0 (⟨512 + z1.val, by omega⟩ : Fin 1024) := by
    funext a
    apply Fin.ext
    match a with
    | ⟨0, _⟩ => show 0 + 1 * z0.val = z0.val; omega
    | ⟨1, _⟩ => show 512 + 1 * z1.val = 512 + z1.val; omega
  rw [e]
  pointwise [k0_pay17, k0_pay42, k0_pay9, k0_pay41, k0_pay7, k0_pay4, k0_pay6, moved_at, G17, mixed, shift, projRow, decayRow, logDecay, rateRow, gateRow, resRow, logi, absf_eq, half, zero_sub, Nat.zero_add]

theorem p17_2 (z : S512x256.Idx) : k0_pay16 (k0_pay42 i x0 x1 x2 x3 x4 x5 x6 x7 x8 x9 x10 x11 x12 x13 x14 x15) (View.ld x5 r0_12) (View.ld x7 r0_13) z = G17 i x0 x1 x2 x3 x4 x5 x6 x7 x8 x9 x10 x11 x12 x13 x14 x15 (r0_14.emb z) := by
  idx_vars z
  have e : r0_14.emb (ix2 z0 z1) = ix2 z0 (⟨256 + z1.val, by omega⟩ : Fin 1024) := by
    funext a
    apply Fin.ext
    match a with
    | ⟨0, _⟩ => show 0 + 1 * z0.val = z0.val; omega
    | ⟨1, _⟩ => show 256 + 1 * z1.val = 256 + z1.val; omega
  rw [e]
  pointwise [k0_pay16, k0_pay42, k0_pay9, k0_pay41, k0_pay7, k0_pay4, k0_pay6, moved_at, G17, mixed, shift, projRow, decayRow, logDecay, rateRow, gateRow, resRow, logi, absf_eq, half, zero_sub, Nat.zero_add]

theorem p17_3 (z : S512x256.Idx) : k0_pay15 (k0_pay13 (k0_pay41 i x0 x1 x2 x3 x4 x5 x6 x7 x8 x9 x10 x11 x12 x13 x14 x15) (View.ld x6 r0_6) (View.ld x5 r0_9) (View.ld x7 r0_10)) (k0_pay14 (k0_pay41 i x0 x1 x2 x3 x4 x5 x6 x7 x8 x9 x10 x11 x12 x13 x14 x15) (View.ld x6 r0_6) (View.ld x5 r0_9) (View.ld x7 r0_10)) (Scalar.ofBits (F := Ideal) .f32 0x00000000#32) z = G17 i x0 x1 x2 x3 x4 x5 x6 x7 x8 x9 x10 x11 x12 x13 x14 x15 (r0_11.emb z) := by
  idx_vars z
  have e : r0_11.emb (ix2 z0 z1) = ix2 z0 (⟨0 + z1.val, by omega⟩ : Fin 1024) := by
    funext a
    apply Fin.ext
    match a with
    | ⟨0, _⟩ => show 0 + 1 * z0.val = z0.val; omega
    | ⟨1, _⟩ => show 0 + 1 * z1.val = 0 + z1.val; omega
  rw [e]
  pointwise [k0_pay15, k0_pay13, k0_pay41, k0_pay14, k0_pay12, k0_pay7, k0_pay9, k0_pay4, k0_pay6, moved_at, G17, mixed, shift, projRow, decayRow, logDecay, rateRow, gateRow, resRow, logi, absf_eq, half, zero_sub, Nat.zero_add]

theorem out_at_17 (r : Fin 512) (j : Fin 1024) : out0_17 i x0 x1 x2 x3 x4 x5 x6 x7 x8 x9 x10 x11 x12 x13 x14 x15 (ix2 r j) = decayRow (mixed i x0 x1 x3 1 r) (fun k => x5 (ix2 0 k)) (fun k l => x6 (ix2 k l)) (fun k l => x7 (ix2 k l)) j := by
  have hL : View.PiecesOf (Val := Elt Ideal) (G17 i x0 x1 x2 x3 x4 x5 x6 x7 x8 x9 x10 x11 x12 x13 x14 x15) ([⟨r0_20, k0_pay20 (k0_pay18 (k0_pay42 i x0 x1 x2 x3 x4 x5 x6 x7 x8 x9 x10 x11 x12 x13 x14 x15) (View.ld x5 r0_18) (View.ld x7 r0_19)) (k0_pay19 (F := Ideal))⟩,
    ⟨r0_17, k0_pay17 (k0_pay42 i x0 x1 x2 x3 x4 x5 x6 x7 x8 x9 x10 x11 x12 x13 x14 x15) (View.ld x5 r0_15) (View.ld x7 r0_16)⟩,
    ⟨r0_14, k0_pay16 (k0_pay42 i x0 x1 x2 x3 x4 x5 x6 x7 x8 x9 x10 x11 x12 x13 x14 x15) (View.ld x5 r0_12) (View.ld x7 r0_13)⟩,
    ⟨r0_11, k0_pay15 (k0_pay13 (k0_pay41 i x0 x1 x2 x3 x4 x5 x6 x7 x8 x9 x10 x11 x12 x13 x14 x15) (View.ld x6 r0_6) (View.ld x5 r0_9) (View.ld x7 r0_10)) (k0_pay14 (k0_pay41 i x0 x1 x2 x3 x4 x5 x6 x7 x8 x9 x10 x11 x12 x13 x14 x15) (View.ld x6 r0_6) (View.ld x5 r0_9) (View.ld x7 r0_10)) (Scalar.ofBits (F := Ideal) .f32 0x00000000#32)⟩] : List (View.Piece (Elt Ideal) S512x1024 .f32)) := ⟨p17_0 i x0 x1 x2 x3 x4 x5 x6 x7 x8 x9 x10 x11 x12 x13 x14 x15, p17_1 i x0 x1 x2 x3 x4 x5 x6 x7 x8 x9 x10 x11 x12 x13 x14 x15, p17_2 i x0 x1 x2 x3 x4 x5 x6 x7 x8 x9 x10 x11 x12 x13 x14 x15, p17_3 i x0 x1 x2 x3 x4 x5 x6 x7 x8 x9 x10 x11 x12 x13 x14 x15, trivial⟩
  unfold out0_17
  exact View.canon_apply_of_pieces (Val := Elt Ideal) (G17 i x0 x1 x2 x3 x4 x5 x6 x7 x8 x9 x10 x11 x12 x13 x14 x15) _ hL.mem (ix2 r j) (cover0_17 (F := Ideal) _ _ _ _ (ix2 r j))

theorem out_at_18 (r : Fin 512) (j : Fin 1024) : out0_18 i x0 x1 x2 x3 x4 x5 x6 x7 x8 x9 x10 x11 x12 x13 x14 x15 (ix2 r j) = projRow (mixed i x0 x1 x3 2 r) (fun k l => x4 (ix3 1 k l)) j := by
  unfold out0_18
  rw [View.canon_unit_zero hz]
  pointwise [k0_pay10, k0_pay39, k0_pay40, k0_pay4, k0_pay6, k0_pay7, moved_at, mixed, shift, projRow, decayRow, logDecay, rateRow, gateRow, resRow, logi, absf_eq, half, zero_sub, Nat.zero_add]

/-- Output 3 of the block, as a function of the index. -/
def G19 (i : grid0.Coords) (x0 : Vec Ideal S512x1024 .f32) (x1 : Vec Ideal S8x1024 .f32) (x2 : Vec Ideal S512x1024 .f32) (x3 : Vec Ideal S6x1024 .f32) (x4 : Vec Ideal S3x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1x1024 .f32) (x12 : Vec Ideal S1024x32 .bf16) (x13 : Vec Ideal S32x1024 .bf16) (x14 : Vec Ideal S1024x160 .bf16) (x15 : Vec Ideal S160x1024 .bf16) : S512x1024.Idx → EReal := fun y => resRow (mixed i x0 x1 x3 3 (y 0)) (fun k => x2 (ix2 (y 0) k)) (fun k l => x4 (ix3 2 k l)) (fun k => x11 (ix2 0 k)) (fun k l => x12 (ix2 k l)) (fun k l => x13 (ix2 k l)) (y 1)

theorem p19_0 (z : S512x256.Idx) : k0_pay32 (k0_pay29 (k0_pay43 i x0 x1 x2 x3 x4 x5 x6 x7 x8 x9 x10 x11 x12 x13 x14 x15) (View.ld x4 r0_29)) (k0_pay30 (k0_pay44 i x0 x1 x2 x3 x4 x5 x6 x7 x8 x9 x10 x11 x12 x13 x14 x15) (View.ld x13 r0_30)) (k0_pay31 (View.ld x11 r0_18)) (View.ld x2 r0_20) z = G19 i x0 x1 x2 x3 x4 x5 x6 x7 x8 x9 x10 x11 x12 x13 x14 x15 (r0_20.emb z) := by
  idx_vars z
  have e : r0_20.emb (ix2 z0 z1) = ix2 z0 (⟨768 + z1.val, by omega⟩ : Fin 1024) := by
    funext a
    apply Fin.ext
    match a with
    | ⟨0, _⟩ => show 0 + 1 * z0.val = z0.val; omega
    | ⟨1, _⟩ => show 768 + 1 * z1.val = 768 + z1.val; omega
  rw [e]
  pointwise [k0_pay32, k0_pay29, k0_pay43, k0_pay30, k0_pay44, k0_pay31, k0_pay11, k0_pay39, k0_pay40, k0_pay22, k0_pay4, k0_pay6, k0_pay7, moved_at, G19, mixed, shift, projRow, decayRow, logDecay, rateRow, gateRow, resRow, logi, absf_eq, half, zero_sub, Nat.zero_add]

theorem p19_1 (z : S512x256.Idx) : k0_pay28 (k0_pay43 i x0 x1 x2 x3 x4 x5 x6 x7 x8 x9 x10 x11 x12 x13 x14 x15) (k0_pay44 i x0 x1 x2 x3 x4 x5 x6 x7 x8 x9 x10 x11 x12 x13 x14 x15) (View.ld x4 r0_27) (View.ld x11 r0_15) (View.ld x13 r0_28) (View.ld x2 r0_17) z = G19 i x0 x1 x2 x3 x4 x5 x6 x7 x8 x9 x10 x11 x12 x13 x14 x15 (r0_17.emb z) := by
  idx_vars z
  have e : r0_17.emb (ix2 z0 z1) = ix2 z0 (⟨512 + z1.val, by omega⟩ : Fin 1024) := by
    funext a
    apply Fin.ext
    match a with
    | ⟨0, _⟩ => show 0 + 1 * z0.val = z0.val; omega
    | ⟨1, _⟩ => show 512 + 1 * z1.val = 512 + z1.val; omega
  rw [e]
  pointwise [k0_pay28, k0_pay43, k0_pay44, k0_pay11, k0_pay39, k0_pay40, k0_pay22, k0_pay4, k0_pay6, k0_pay7, moved_at, G19, mixed, shift, projRow, decayRow, logDecay, rateRow, gateRow, resRow, logi, absf_eq, half, zero_sub, Nat.zero_add]

theorem p19_2 (z : S512x256.Idx) : k0_pay27 (k0_pay43 i x0 x1 x2 x3 x4 x5 x6 x7 x8 x9 x10 x11 x12 x13 x14 x15) (k0_pay44 i x0 x1 x2 x3 x4 x5 x6 x7 x8 x9 x10 x11 x12 x13 x14 x15) (View.ld x4 r0_25) (View.ld x11 r0_12) (View.ld x13 r0_26) (View.ld x2 r0_14) z = G19 i x0 x1 x2 x3 x4 x5 x6 x7 x8 x9 x10 x11 x12 x13 x14 x15 (r0_14.emb z) := by
  idx_vars z
  have e : r0_14.emb (ix2 z0 z1) = ix2 z0 (⟨256 + z1.val, by omega⟩ : Fin 1024) := by
    funext a
    apply Fin.ext
    match a with
    | ⟨0, _⟩ => show 0 + 1 * z0.val = z0.val; omega
    | ⟨1, _⟩ => show 256 + 1 * z1.val = 256 + z1.val; omega
  rw [e]
  pointwise [k0_pay27, k0_pay43, k0_pay44, k0_pay11, k0_pay39, k0_pay40, k0_pay22, k0_pay4, k0_pay6, k0_pay7, moved_at, G19, mixed, shift, projRow, decayRow, logDecay, rateRow, gateRow, resRow, logi, absf_eq, half, zero_sub, Nat.zero_add]

theorem p19_3 (z : S512x256.Idx) : k0_pay26 (k0_pay23 (k0_pay43 i x0 x1 x2 x3 x4 x5 x6 x7 x8 x9 x10 x11 x12 x13 x14 x15) (View.ld x4 r0_23)) (k0_pay24 (k0_pay43 i x0 x1 x2 x3 x4 x5 x6 x7 x8 x9 x10 x11 x12 x13 x14 x15) (View.ld x12 r0_22) (View.ld x13 r0_24)) (k0_pay25 (View.ld x11 r0_9)) (View.ld x2 r0_11) z = G19 i x0 x1 x2 x3 x4 x5 x6 x7 x8 x9 x10 x11 x12 x13 x14 x15 (r0_11.emb z) := by
  idx_vars z
  have e : r0_11.emb (ix2 z0 z1) = ix2 z0 (⟨0 + z1.val, by omega⟩ : Fin 1024) := by
    funext a
    apply Fin.ext
    match a with
    | ⟨0, _⟩ => show 0 + 1 * z0.val = z0.val; omega
    | ⟨1, _⟩ => show 0 + 1 * z1.val = 0 + z1.val; omega
  rw [e]
  pointwise [k0_pay26, k0_pay23, k0_pay43, k0_pay24, k0_pay25, k0_pay11, k0_pay39, k0_pay40, k0_pay22, k0_pay4, k0_pay6, k0_pay7, moved_at, G19, mixed, shift, projRow, decayRow, logDecay, rateRow, gateRow, resRow, logi, absf_eq, half, zero_sub, Nat.zero_add]

theorem out_at_19 (r : Fin 512) (j : Fin 1024) : out0_19 i x0 x1 x2 x3 x4 x5 x6 x7 x8 x9 x10 x11 x12 x13 x14 x15 (ix2 r j) = resRow (mixed i x0 x1 x3 3 r) (fun k => x2 (ix2 r k)) (fun k l => x4 (ix3 2 k l)) (fun k => x11 (ix2 0 k)) (fun k l => x12 (ix2 k l)) (fun k l => x13 (ix2 k l)) j := by
  have hL : View.PiecesOf (Val := Elt Ideal) (G19 i x0 x1 x2 x3 x4 x5 x6 x7 x8 x9 x10 x11 x12 x13 x14 x15) ([⟨r0_20, k0_pay32 (k0_pay29 (k0_pay43 i x0 x1 x2 x3 x4 x5 x6 x7 x8 x9 x10 x11 x12 x13 x14 x15) (View.ld x4 r0_29)) (k0_pay30 (k0_pay44 i x0 x1 x2 x3 x4 x5 x6 x7 x8 x9 x10 x11 x12 x13 x14 x15) (View.ld x13 r0_30)) (k0_pay31 (View.ld x11 r0_18)) (View.ld x2 r0_20)⟩,
    ⟨r0_17, k0_pay28 (k0_pay43 i x0 x1 x2 x3 x4 x5 x6 x7 x8 x9 x10 x11 x12 x13 x14 x15) (k0_pay44 i x0 x1 x2 x3 x4 x5 x6 x7 x8 x9 x10 x11 x12 x13 x14 x15) (View.ld x4 r0_27) (View.ld x11 r0_15) (View.ld x13 r0_28) (View.ld x2 r0_17)⟩,
    ⟨r0_14, k0_pay27 (k0_pay43 i x0 x1 x2 x3 x4 x5 x6 x7 x8 x9 x10 x11 x12 x13 x14 x15) (k0_pay44 i x0 x1 x2 x3 x4 x5 x6 x7 x8 x9 x10 x11 x12 x13 x14 x15) (View.ld x4 r0_25) (View.ld x11 r0_12) (View.ld x13 r0_26) (View.ld x2 r0_14)⟩,
    ⟨r0_11, k0_pay26 (k0_pay23 (k0_pay43 i x0 x1 x2 x3 x4 x5 x6 x7 x8 x9 x10 x11 x12 x13 x14 x15) (View.ld x4 r0_23)) (k0_pay24 (k0_pay43 i x0 x1 x2 x3 x4 x5 x6 x7 x8 x9 x10 x11 x12 x13 x14 x15) (View.ld x12 r0_22) (View.ld x13 r0_24)) (k0_pay25 (View.ld x11 r0_9)) (View.ld x2 r0_11)⟩] : List (View.Piece (Elt Ideal) S512x1024 .f32)) := ⟨p19_0 i x0 x1 x2 x3 x4 x5 x6 x7 x8 x9 x10 x11 x12 x13 x14 x15, p19_1 i x0 x1 x2 x3 x4 x5 x6 x7 x8 x9 x10 x11 x12 x13 x14 x15, p19_2 i x0 x1 x2 x3 x4 x5 x6 x7 x8 x9 x10 x11 x12 x13 x14 x15, p19_3 i x0 x1 x2 x3 x4 x5 x6 x7 x8 x9 x10 x11 x12 x13 x14 x15, trivial⟩
  unfold out0_19
  exact View.canon_apply_of_pieces (Val := Elt Ideal) (G19 i x0 x1 x2 x3 x4 x5 x6 x7 x8 x9 x10 x11 x12 x13 x14 x15) _ hL.mem (ix2 r j) (cover0_19 (F := Ideal) _ _ _ _ (ix2 r j))

/-- Output 4 of the block, as a function of the index. -/
def G20 (i : grid0.Coords) (x0 : Vec Ideal S512x1024 .f32) (x1 : Vec Ideal S8x1024 .f32) (x2 : Vec Ideal S512x1024 .f32) (x3 : Vec Ideal S6x1024 .f32) (x4 : Vec Ideal S3x1024x1024 .bf16) (x5 : Vec Ideal S1x1024 .f32) (x6 : Vec Ideal S1024x64 .bf16) (x7 : Vec Ideal S64x1024 .bf16) (x8 : Vec Ideal S1x1024 .f32) (x9 : Vec Ideal S1024x64 .bf16) (x10 : Vec Ideal S64x1024 .bf16) (x11 : Vec Ideal S1x1024 .f32) (x12 : Vec Ideal S1024x32 .bf16) (x13 : Vec Ideal S32x1024 .bf16) (x14 : Vec Ideal S1024x160 .bf16) (x15 : Vec Ideal S160x1024 .bf16) : S512x1024.Idx → EReal := fun y => rateRow (mixed i x0 x1 x3 4 (y 0)) (fun k => x8 (ix2 0 k)) (fun k l => x9 (ix2 k l)) (fun k l => x10 (ix2 k l)) (y 1)

theorem p20_0 (z : S512x256.Idx) : k0_pay2 (k0_pay45 i x0 x1 x2 x3 x4 x5 x6 x7 x8 x9 x10 x11 x12 x13 x14 x15) (View.ld x8 r0_18) (View.ld x10 r0_19) z = G20 i x0 x1 x2 x3 x4 x5 x6 x7 x8 x9 x10 x11 x12 x13 x14 x15 (r0_20.emb z) := by
  idx_vars z
  have e : r0_20.emb (ix2 z0 z1) = ix2 z0 (⟨768 + z1.val, by omega⟩ : Fin 1024) := by
    funext a
    apply Fin.ext
    match a with
    | ⟨0, _⟩ => show 0 + 1 * z0.val = z0.val; omega
    | ⟨1, _⟩ => show 768 + 1 * z1.val = 768 + z1.val; omega
  rw [e]
  pointwise [k0_pay2, k0_pay45, k0_pay33, k0_pay21, k0_pay39, k0_pay40, k0_pay4, k0_pay6, k0_pay7, moved_at, G20, mixed, shift, projRow, decayRow, logDecay, rateRow, gateRow, resRow, logi, absf_eq, half, zero_sub, Nat.zero_add]

theorem p20_1 (z : S512x256.Idx) : k0_pay1 (k0_pay38 (k0_pay45 i x0 x1 x2 x3 x4 x5 x6 x7 x8 x9 x10 x11 x12 x13 x14 x15) (View.ld x8 r0_15) (View.ld x10 r0_16)) z = G20 i x0 x1 x2 x3 x4 x5 x6 x7 x8 x9 x10 x11 x12 x13 x14 x15 (r0_17.emb z) := by
  idx_vars z
  have e : r0_17.emb (ix2 z0 z1) = ix2 z0 (⟨512 + z1.val, by omega⟩ : Fin 1024) := by
    funext a
    apply Fin.ext
    match a with
    | ⟨0, _⟩ => show 0 + 1 * z0.val = z0.val; omega
    | ⟨1, _⟩ => show 512 + 1 * z1.val = 512 + z1.val; omega
  rw [e]
  pointwise [k0_pay1, k0_pay38, k0_pay45, k0_pay33, k0_pay21, k0_pay39, k0_pay40, k0_pay4, k0_pay6, k0_pay7, moved_at, G20, mixed, shift, projRow, decayRow, logDecay, rateRow, gateRow, resRow, logi, absf_eq, half, zero_sub, Nat.zero_add]

theorem p20_2 (z : S512x256.Idx) : k0_pay37 (k0_pay45 i x0 x1 x2 x3 x4 x5 x6 x7 x8 x9 x10 x11 x12 x13 x14 x15) (View.ld x8 r0_12) (View.ld x10 r0_13) z = G20 i x0 x1 x2 x3 x4 x5 x6 x7 x8 x9 x10 x11 x12 x13 x14 x15 (r0_14.emb z) := by
  idx_vars z
  have e : r0_14.emb (ix2 z0 z1) = ix2 z0 (⟨256 + z1.val, by omega⟩ : Fin 1024) := by
    funext a
    apply Fin.ext
    match a with
    | ⟨0, _⟩ => show 0 + 1 * z0.val = z0.val; omega
    | ⟨1, _⟩ => show 256 + 1 * z1.val = 256 + z1.val; omega
  rw [e]
  pointwise [k0_pay37, k0_pay45, k0_pay33, k0_pay21, k0_pay39, k0_pay40, k0_pay4, k0_pay6, k0_pay7, moved_at, G20, mixed, shift, projRow, decayRow, logDecay, rateRow, gateRow, resRow, logi, absf_eq, half, zero_sub, Nat.zero_add]

theorem p20_3 (z : S512x256.Idx) : k0_pay36 (k0_pay45 i x0 x1 x2 x3 x4 x5 x6 x7 x8 x9 x10 x11 x12 x13 x14 x15) (k0_pay35 (View.ld x8 r0_9)) (View.ld x10 r0_10) z = G20 i x0 x1 x2 x3 x4 x5 x6 x7 x8 x9 x10 x11 x12 x13 x14 x15 (r0_11.emb z) := by
  idx_vars z
  have e : r0_11.emb (ix2 z0 z1) = ix2 z0 (⟨0 + z1.val, by omega⟩ : Fin 1024) := by
    funext a
    apply Fin.ext
    match a with
    | ⟨0, _⟩ => show 0 + 1 * z0.val = z0.val; omega
    | ⟨1, _⟩ => show 0 + 1 * z1.val = 0 + z1.val; omega
  rw [e]
  pointwise [k0_pay36, k0_pay45, k0_pay35, k0_pay33, k0_pay21, k0_pay39, k0_pay40, k0_pay4, k0_pay6, k0_pay7, moved_at, G20, mixed, shift, projRow, decayRow, logDecay, rateRow, gateRow, resRow, logi, absf_eq, half, zero_sub, Nat.zero_add]

theorem out_at_20 (r : Fin 512) (j : Fin 1024) : out0_20 i x0 x1 x2 x3 x4 x5 x6 x7 x8 x9 x10 x11 x12 x13 x14 x15 (ix2 r j) = rateRow (mixed i x0 x1 x3 4 r) (fun k => x8 (ix2 0 k)) (fun k l => x9 (ix2 k l)) (fun k l => x10 (ix2 k l)) j := by
  have hL : View.PiecesOf (Val := Elt Ideal) (G20 i x0 x1 x2 x3 x4 x5 x6 x7 x8 x9 x10 x11 x12 x13 x14 x15) ([⟨r0_20, k0_pay2 (k0_pay45 i x0 x1 x2 x3 x4 x5 x6 x7 x8 x9 x10 x11 x12 x13 x14 x15) (View.ld x8 r0_18) (View.ld x10 r0_19)⟩,
    ⟨r0_17, k0_pay1 (k0_pay38 (k0_pay45 i x0 x1 x2 x3 x4 x5 x6 x7 x8 x9 x10 x11 x12 x13 x14 x15) (View.ld x8 r0_15) (View.ld x10 r0_16))⟩,
    ⟨r0_14, k0_pay37 (k0_pay45 i x0 x1 x2 x3 x4 x5 x6 x7 x8 x9 x10 x11 x12 x13 x14 x15) (View.ld x8 r0_12) (View.ld x10 r0_13)⟩,
    ⟨r0_11, k0_pay36 (k0_pay45 i x0 x1 x2 x3 x4 x5 x6 x7 x8 x9 x10 x11 x12 x13 x14 x15) (k0_pay35 (View.ld x8 r0_9)) (View.ld x10 r0_10)⟩] : List (View.Piece (Elt Ideal) S512x1024 .f32)) := ⟨p20_0 i x0 x1 x2 x3 x4 x5 x6 x7 x8 x9 x10 x11 x12 x13 x14 x15, p20_1 i x0 x1 x2 x3 x4 x5 x6 x7 x8 x9 x10 x11 x12 x13 x14 x15, p20_2 i x0 x1 x2 x3 x4 x5 x6 x7 x8 x9 x10 x11 x12 x13 x14 x15, p20_3 i x0 x1 x2 x3 x4 x5 x6 x7 x8 x9 x10 x11 x12 x13 x14 x15, trivial⟩
  unfold out0_20
  exact View.canon_apply_of_pieces (Val := Elt Ideal) (G20 i x0 x1 x2 x3 x4 x5 x6 x7 x8 x9 x10 x11 x12 x13 x14 x15) _ hL.mem (ix2 r j) (cover0_20 (F := Ideal) _ _ _ _ (ix2 r j))

theorem out_at_21 (r : Fin 512) (j : Fin 1024) : out0_21 i x0 x1 x2 x3 x4 x5 x6 x7 x8 x9 x10 x11 x12 x13 x14 x15 (ix2 r j) = gateRow (mixed i x0 x1 x3 5 r) (fun k l => x14 (ix2 k l)) (fun k l => x15 (ix2 k l)) j := by
  unfold out0_21
  rw [View.canon_unit_zero hz]
  pointwise [k0_pay3, k0_pay34, k0_pay39, k0_pay40, k0_pay4, k0_pay6, k0_pay7, moved_at, mixed, shift, projRow, decayRow, logDecay, rateRow, gateRow, resRow, logi, absf_eq, half, zero_sub, Nat.zero_add]

end

end Cert.PreResIdeal.Val

end
-- ==== Proof.PreResArray.lean ====
module

public import proofs.«01_k».proof.Proof.PreResBlock

/-!
# The arrays the projections' kernel leaves, the layers after the first
-/

@[expose] public section

set_option maxRecDepth 16384

noncomputable section

namespace Cert.PreResIdeal.Val

open Cert.PreResIdeal Cert.PreResIdeal.Gen Idealize.ShloMosaic Idealize.ShloMosaic.TcCoe Idealize.SL.Sem
open Idealize.ShloMosaic.Pipeline (Dat)
open Idealize.ShloMosaic.StableHlo
open Cert.Rows

/-- The receptances, from the arguments. -/
def result0 (x : S8x4096x1024.Idx → EReal) (mu : S6x1024.Idx → EReal) (w : S3x1024x1024.Idx → EReal) : S32768x1024.Idx → EReal := fun i => projRow (mixedAt (fun b t k => x (ix3 b t k)) (fun k => mu (ix2 0 k)) (i 0)) (fun k l => w (ix3 0 k l)) (i 1)

/-- The decays' logarithms, from the arguments. -/
def result1 (x : S8x4096x1024.Idx → EReal) (mu : S6x1024.Idx → EReal) (w0 : S1024.Idx → EReal) (w1 : S1024x64.Idx → EReal) (w2 : S64x1024.Idx → EReal) : S32768x1024.Idx → EReal := fun i => decayRow (mixedAt (fun b t k => x (ix3 b t k)) (fun k => mu (ix2 1 k)) (i 0)) (fun k => w0 (ix1 k)) (fun k l => w1 (ix2 k l)) (fun k l => w2 (ix2 k l)) (i 1)

/-- The keys, from the arguments. -/
def result2 (x : S8x4096x1024.Idx → EReal) (mu : S6x1024.Idx → EReal) (w : S3x1024x1024.Idx → EReal) : S32768x1024.Idx → EReal := fun i => projRow (mixedAt (fun b t k => x (ix3 b t k)) (fun k => mu (ix2 2 k)) (i 0)) (fun k l => w (ix3 1 k l)) (i 1)

/-- The values, from the arguments. -/
def result3 (x : S8x4096x1024.Idx → EReal) (vf : S8x4096x1024.Idx → EReal) (mu : S6x1024.Idx → EReal) (w : S3x1024x1024.Idx → EReal) (v0 : S1024.Idx → EReal) (v1 : S1024x32.Idx → EReal) (v2 : S32x1024.Idx → EReal) : S32768x1024.Idx → EReal := fun i => resRow (mixedAt (fun b t k => x (ix3 b t k)) (fun k => mu (ix2 3 k)) (i 0)) (fun k => rowAt (fun b t k => vf (ix3 b t k)) (i 0) k) (fun k l => w (ix3 2 k l)) (fun k => v0 (ix1 k)) (fun k l => v1 (ix2 k l)) (fun k l => v2 (ix2 k l)) (i 1)

/-- The learning rates, from the arguments. -/
def result4 (x : S8x4096x1024.Idx → EReal) (mu : S6x1024.Idx → EReal) (a0 : S1024.Idx → EReal) (a1 : S1024x64.Idx → EReal) (a2 : S64x1024.Idx → EReal) : S32768x1024.Idx → EReal := fun i => rateRow (mixedAt (fun b t k => x (ix3 b t k)) (fun k => mu (ix2 4 k)) (i 0)) (fun k => a0 (ix1 k)) (fun k l => a1 (ix2 k l)) (fun k l => a2 (ix2 k l)) (i 1)

/-- The gates, from the arguments. -/
def result5 (x : S8x4096x1024.Idx → EReal) (mu : S6x1024.Idx → EReal) (g1 : S1024x160.Idx → EReal) (g2 : S160x1024.Idx → EReal) : S32768x1024.Idx → EReal := fun i => gateRow (mixedAt (fun b t k => x (ix3 b t k)) (fun k => mu (ix2 5 k)) (i 0)) (fun k l => g1 (ix2 k l)) (fun k l => g2 (ix2 k l)) (i 1)

variable (m : (ℓ : Loc nD τ sig) → Buf (Elt Ideal) ℓ) (ρ : Dev nD → PrngReg)

theorem idx_0 : ∀ t : Fin cfg0.N, win0_0.index t 0 = t.val ∧ win0_0.index t 1 = 0 :=
  (by decide +kernel : ∀ t : Fin grid0.N, win0_0.index t 0 = t.val ∧ win0_0.index t 1 = 0)
theorem idx_1 : ∀ t : Fin cfg0.N, win0_1.index t 0 = t.val * 64 - 1 ∧ win0_1.index t 1 = 0 :=
  (by decide +kernel : ∀ t : Fin grid0.N, win0_1.index t 0 = t.val * 64 - 1 ∧ win0_1.index t 1 = 0)
theorem idx_2 : ∀ t : Fin cfg0.N, win0_2.index t 0 = t.val ∧ win0_2.index t 1 = 0 :=
  (by decide +kernel : ∀ t : Fin grid0.N, win0_2.index t 0 = t.val ∧ win0_2.index t 1 = 0)
theorem idx_3 : ∀ t : Fin cfg0.N, win0_3.index t 0 = 0 ∧ win0_3.index t 1 = 0 :=
  (by decide +kernel : ∀ t : Fin grid0.N, win0_3.index t 0 = 0 ∧ win0_3.index t 1 = 0)
theorem idx_4 : ∀ t : Fin cfg0.N, win0_4.index t 0 = 0 ∧ win0_4.index t 1 = 0 ∧ win0_4.index t 2 = 0 :=
  (by decide +kernel : ∀ t : Fin grid0.N, win0_4.index t 0 = 0 ∧ win0_4.index t 1 = 0 ∧ win0_4.index t 2 = 0)
theorem idx_5 : ∀ t : Fin cfg0.N, win0_5.index t 0 = 0 ∧ win0_5.index t 1 = 0 :=
  (by decide +kernel : ∀ t : Fin grid0.N, win0_5.index t 0 = 0 ∧ win0_5.index t 1 = 0)
theorem idx_6 : ∀ t : Fin cfg0.N, win0_6.index t 0 = 0 ∧ win0_6.index t 1 = 0 :=
  (by decide +kernel : ∀ t : Fin grid0.N, win0_6.index t 0 = 0 ∧ win0_6.index t 1 = 0)
theorem idx_7 : ∀ t : Fin cfg0.N, win0_7.index t 0 = 0 ∧ win0_7.index t 1 = 0 :=
  (by decide +kernel : ∀ t : Fin grid0.N, win0_7.index t 0 = 0 ∧ win0_7.index t 1 = 0)
theorem idx_8 : ∀ t : Fin cfg0.N, win0_8.index t 0 = 0 ∧ win0_8.index t 1 = 0 :=
  (by decide +kernel : ∀ t : Fin grid0.N, win0_8.index t 0 = 0 ∧ win0_8.index t 1 = 0)
theorem idx_9 : ∀ t : Fin cfg0.N, win0_9.index t 0 = 0 ∧ win0_9.index t 1 = 0 :=
  (by decide +kernel : ∀ t : Fin grid0.N, win0_9.index t 0 = 0 ∧ win0_9.index t 1 = 0)
theorem idx_10 : ∀ t : Fin cfg0.N, win0_10.index t 0 = 0 ∧ win0_10.index t 1 = 0 :=
  (by decide +kernel : ∀ t : Fin grid0.N, win0_10.index t 0 = 0 ∧ win0_10.index t 1 = 0)
theorem idx_11 : ∀ t : Fin cfg0.N, win0_11.index t 0 = 0 ∧ win0_11.index t 1 = 0 :=
  (by decide +kernel : ∀ t : Fin grid0.N, win0_11.index t 0 = 0 ∧ win0_11.index t 1 = 0)
theorem idx_12 : ∀ t : Fin cfg0.N, win0_12.index t 0 = 0 ∧ win0_12.index t 1 = 0 :=
  (by decide +kernel : ∀ t : Fin grid0.N, win0_12.index t 0 = 0 ∧ win0_12.index t 1 = 0)
theorem idx_13 : ∀ t : Fin cfg0.N, win0_13.index t 0 = 0 ∧ win0_13.index t 1 = 0 :=
  (by decide +kernel : ∀ t : Fin grid0.N, win0_13.index t 0 = 0 ∧ win0_13.index t 1 = 0)
theorem idx_14 : ∀ t : Fin cfg0.N, win0_14.index t 0 = 0 ∧ win0_14.index t 1 = 0 :=
  (by decide +kernel : ∀ t : Fin grid0.N, win0_14.index t 0 = 0 ∧ win0_14.index t 1 = 0)
theorem idx_15 : ∀ t : Fin cfg0.N, win0_15.index t 0 = 0 ∧ win0_15.index t 1 = 0 :=
  (by decide +kernel : ∀ t : Fin grid0.N, win0_15.index t 0 = 0 ∧ win0_15.index t 1 = 0)
theorem idx_16 : ∀ t : Fin cfg0.N, win0_16.index t 0 = t.val ∧ win0_16.index t 1 = 0 :=
  (by decide +kernel : ∀ t : Fin grid0.N, win0_16.index t 0 = t.val ∧ win0_16.index t 1 = 0)
theorem idx_17 : ∀ t : Fin cfg0.N, win0_17.index t 0 = t.val ∧ win0_17.index t 1 = 0 :=
  (by decide +kernel : ∀ t : Fin grid0.N, win0_17.index t 0 = t.val ∧ win0_17.index t 1 = 0)
theorem idx_18 : ∀ t : Fin cfg0.N, win0_18.index t 0 = t.val ∧ win0_18.index t 1 = 0 :=
  (by decide +kernel : ∀ t : Fin grid0.N, win0_18.index t 0 = t.val ∧ win0_18.index t 1 = 0)
theorem idx_19 : ∀ t : Fin cfg0.N, win0_19.index t 0 = t.val ∧ win0_19.index t 1 = 0 :=
  (by decide +kernel : ∀ t : Fin grid0.N, win0_19.index t 0 = t.val ∧ win0_19.index t 1 = 0)
theorem idx_20 : ∀ t : Fin cfg0.N, win0_20.index t 0 = t.val ∧ win0_20.index t 1 = 0 :=
  (by decide +kernel : ∀ t : Fin grid0.N, win0_20.index t 0 = t.val ∧ win0_20.index t 1 = 0)
theorem idx_21 : ∀ t : Fin cfg0.N, win0_21.index t 0 = t.val ∧ win0_21.index t 1 = 0 :=
  (by decide +kernel : ∀ t : Fin grid0.N, win0_21.index t 0 = t.val ∧ win0_21.index t 1 = 0)

theorem coords_eq : ∀ t : Fin cfg0.N, ((grid0.coords t) 0).val = t.val :=
  (by decide +kernel : ∀ t : Fin grid0.N, ((grid0.coords t) 0).val = t.val)

/-- Row `R` of an argument, its two leading axes laid end to end. -/
def rowOf (x : S8x4096x1024.Idx → EReal) (R : Fin 32768) (k : Fin 1024) : EReal :=
  x (ix3 (⟨R.val / 4096, by omega⟩ : Fin 8) (⟨R.val % 4096, by omega⟩ : Fin 4096) k)

theorem row_lt (t : Fin cfg0.N) (r : Fin 512) : t.val * 512 + r.val < 32768 := by
  have h : t.val < 64 := t.isLt
  omega

/-- Window 0's block at point `t` holds rows `512 t` to `512 t + 511` of argument 0. -/
theorem blk0 (c : Dev nD) (t : Fin cfg0.N) (r : Fin 512) (k : Fin 1024) :
    (iblk m c 0 t : Vec Ideal S512x1024 .f32) (ix2 r k) = rowOf (m ((c : Thread nD τ).loc main_arg0)) ⟨t.val * 512 + r.val, row_lt t r⟩ k := by
  unfold iblk
  rw [View.read_apply]
  show V m c main_v3 _ = _
  have e : (V m c main_v3 : S32768x1024.Idx → EReal) = shapeCast S32768x1024 (m ((c : Thread nD τ).loc main_arg0)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 + r.val) / 4096 * 4096 + (t.val * 512 + r.val) % 4096) * 1024 + k.val
    = (win0_0.index t 0 * 512 + 1 * r.val) * 1024 + (win0_0.index t 1 * 1024 + 1 * k.val)
  rw [(idx_0 t).1, (idx_0 t).2]; omega

/-- The eight rows staged next to point `t`'s block end with the row before the block. -/
theorem blk1 (c : Dev nD) (t : Fin cfg0.N) (h : t.val ≠ 0) (k : Fin 1024) :
    (iblk m c 1 t : Vec Ideal S8x1024 .f32) (ix2 7 k) = rowOf (m ((c : Thread nD τ).loc main_arg0)) ⟨t.val * 512 - 1, by have := row_lt t 0; omega⟩ k := by
  unfold iblk
  rw [View.read_apply]
  show V m c main_v3 _ = _
  have e : (V m c main_v3 : S32768x1024.Idx → EReal) = shapeCast S32768x1024 (m ((c : Thread nD τ).loc main_arg0)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 - 1) / 4096 * 4096 + (t.val * 512 - 1) % 4096) * 1024 + k.val
    = (win0_1.index t 0 * 8 + 1 * 7) * 1024 + (win0_1.index t 1 * 1024 + 1 * k.val)
  rw [(idx_1 t).1, (idx_1 t).2]; omega

/-- Window 2's block at point `t` holds rows `512 t` to `512 t + 511` of argument 1. -/
theorem blk2 (c : Dev nD) (t : Fin cfg0.N) (r : Fin 512) (k : Fin 1024) :
    (iblk m c 2 t : Vec Ideal S512x1024 .f32) (ix2 r k) = rowOf (m ((c : Thread nD τ).loc main_arg1)) ⟨t.val * 512 + r.val, row_lt t r⟩ k := by
  unfold iblk
  rw [View.read_apply]
  show V m c main_v4 _ = _
  have e : (V m c main_v4 : S32768x1024.Idx → EReal) = shapeCast S32768x1024 (m ((c : Thread nD τ).loc main_arg1)) shapeCasts_S8x4096x1024_S32768x1024 := by
    unfold V; after_results; rfl
  rw [e]
  refine shapeCast_apply _ _ _ _ ?_
  show (S8x4096x1024.rowMajor _).val = (S32768x1024.rowMajor _).val
  rw [Shape.rowMajor_val_three, Shape.rowMajor_val_two]
  show ((t.val * 512 + r.val) / 4096 * 4096 + (t.val * 512 + r.val) % 4096) * 1024 + k.val
    = (win0_2.index t 0 * 512 + 1 * r.val) * 1024 + (win0_2.index t 1 * 1024 + 1 * k.val)
  rw [(idx_2 t).1, (idx_2 t).2]; omega

theorem blk3 (c : Dev nD) (t : Fin cfg0.N) (r : Fin 6) (k : Fin 1024) :
    (iblk m c 3 t : Vec Ideal S6x1024 .f32) (ix2 r k) = m ((c : Thread nD τ).loc main_arg2) (ix2 r k) := by
  unfold iblk
  rw [View.read_apply]
  show V m c main_arg2 _ = _
  have e : (V m c main_arg2 : S6x1024.Idx → EReal) = (m ((c : Thread nD τ).loc main_arg2)) := by
    unfold V; after_results
  rw [e]
  congr 1
  funext a
  apply Fin.ext
  match a with
  | ⟨0, _⟩ => show win0_3.index t 0 * 6 + 1 * r.val = r.val; rw [(idx_3 t).1]; omega
  | ⟨1, _⟩ => show win0_3.index t 1 * 1024 + 1 * k.val = k.val; rw [(idx_3 t).2]; omega

theorem blk4 (c : Dev nD) (t : Fin cfg0.N) (r : Fin 3) (k : Fin 1024) (l : Fin 1024) :
    (iblk m c 4 t : Vec Ideal S3x1024x1024 .bf16) (ix3 r k l) = m ((c : Thread nD τ).loc main_arg3) (ix3 r k l) := by
  unfold iblk
  rw [View.read_apply]
  show V m c main_v5 _ = _
  have e : (V m c main_v5 : S3x1024x1024.Idx → EReal) = (m ((c : Thread nD τ).loc main_arg3)) := by
    unfold V; after_results; rfl
  rw [e]
  congr 1
  funext a
  apply Fin.ext
  match a with
  | ⟨0, _⟩ => show win0_4.index t 0 * 3 + 1 * r.val = r.val; rw [(idx_4 t).1]; omega
  | ⟨1, _⟩ => show win0_4.index t 1 * 1024 + 1 * k.val = k.val; rw [(idx_4 t).2.1]; omega
  | ⟨2, _⟩ => show win0_4.index t 2 * 1024 + 1 * l.val = l.val; rw [(idx_4 t).2.2]; omega

theorem blk5 (c : Dev nD) (t : Fin cfg0.N) (k : Fin 1024) :
    (iblk m c 5 t : Vec Ideal S1x1024 .f32) (ix2 0 k) = m ((c : Thread nD τ).loc main_arg4) (ix1 k) := by
  unfold iblk
  rw [View.read_apply]
  show V m c main_v6 _ = _
  have e : (V m c main_v6 : S1x1024.Idx → EReal) = shapeCast S1x1024 (m ((c : Thread nD τ).loc main_arg4)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_5.index t 0 * 1 + 1 * 0) * 1024 + (win0_5.index t 1 * 1024 + 1 * k.val)
  rw [(idx_5 t).1, (idx_5 t).2]; omega

theorem blk6 (c : Dev nD) (t : Fin cfg0.N) (r : Fin 1024) (k : Fin 64) :
    (iblk m c 6 t : Vec Ideal S1024x64 .bf16) (ix2 r k) = m ((c : Thread nD τ).loc main_arg5) (ix2 r k) := by
  unfold iblk
  rw [View.read_apply]
  show V m c main_v7 _ = _
  have e : (V m c main_v7 : S1024x64.Idx → EReal) = (m ((c : Thread nD τ).loc main_arg5)) := by
    unfold V; after_results; rfl
  rw [e]
  congr 1
  funext a
  apply Fin.ext
  match a with
  | ⟨0, _⟩ => show win0_6.index t 0 * 1024 + 1 * r.val = r.val; rw [(idx_6 t).1]; omega
  | ⟨1, _⟩ => show win0_6.index t 1 * 64 + 1 * k.val = k.val; rw [(idx_6 t).2]; omega

theorem blk7 (c : Dev nD) (t : Fin cfg0.N) (r : Fin 64) (k : Fin 1024) :
    (iblk m c 7 t : Vec Ideal S64x1024 .bf16) (ix2 r k) = m ((c : Thread nD τ).loc main_arg6) (ix2 r k) := by
  unfold iblk
  rw [View.read_apply]
  show V m c main_v8 _ = _
  have e : (V m c main_v8 : S64x1024.Idx → EReal) = (m ((c : Thread nD τ).loc main_arg6)) := by
    unfold V; after_results; rfl
  rw [e]
  congr 1
  funext a
  apply Fin.ext
  match a with
  | ⟨0, _⟩ => show win0_7.index t 0 * 64 + 1 * r.val = r.val; rw [(idx_7 t).1]; omega
  | ⟨1, _⟩ => show win0_7.index t 1 * 1024 + 1 * k.val = k.val; rw [(idx_7 t).2]; omega

theorem blk8 (c : Dev nD) (t : Fin cfg0.N) (k : Fin 1024) :
    (iblk m c 8 t : Vec Ideal S1x1024 .f32) (ix2 0 k) = m ((c : Thread nD τ).loc main_arg7) (ix1 k) := by
  unfold iblk
  rw [View.read_apply]
  show V m c main_v9 _ = _
  have e : (V m c main_v9 : S1x1024.Idx → EReal) = shapeCast S1x1024 (m ((c : Thread nD τ).loc main_arg7)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_8.index t 0 * 1 + 1 * 0) * 1024 + (win0_8.index t 1 * 1024 + 1 * k.val)
  rw [(idx_8 t).1, (idx_8 t).2]; omega

theorem blk9 (c : Dev nD) (t : Fin cfg0.N) (r : Fin 1024) (k : Fin 64) :
    (iblk m c 9 t : Vec Ideal S1024x64 .bf16) (ix2 r k) = m ((c : Thread nD τ).loc main_arg8) (ix2 r k) := by
  unfold iblk
  rw [View.read_apply]
  show V m c main_v10 _ = _
  have e : (V m c main_v10 : S1024x64.Idx → EReal) = (m ((c : Thread nD τ).loc main_arg8)) := by
    unfold V; after_results; rfl
  rw [e]
  congr 1
  funext a
  apply Fin.ext
  match a with
  | ⟨0, _⟩ => show win0_9.index t 0 * 1024 + 1 * r.val = r.val; rw [(idx_9 t).1]; omega
  | ⟨1, _⟩ => show win0_9.index t 1 * 64 + 1 * k.val = k.val; rw [(idx_9 t).2]; omega

theorem blk10 (c : Dev nD) (t : Fin cfg0.N) (r : Fin 64) (k : Fin 1024) :
    (iblk m c 10 t : Vec Ideal S64x1024 .bf16) (ix2 r k) = m ((c : Thread nD τ).loc main_arg9) (ix2 r k) := by
  unfold iblk
  rw [View.read_apply]
  show V m c main_v11 _ = _
  have e : (V m c main_v11 : S64x1024.Idx → EReal) = (m ((c : Thread nD τ).loc main_arg9)) := by
    unfold V; after_results; rfl
  rw [e]
  congr 1
  funext a
  apply Fin.ext
  match a with
  | ⟨0, _⟩ => show win0_10.index t 0 * 64 + 1 * r.val = r.val; rw [(idx_10 t).1]; omega
  | ⟨1, _⟩ => show win0_10.index t 1 * 1024 + 1 * k.val = k.val; rw [(idx_10 t).2]; omega

theorem blk11 (c : Dev nD) (t : Fin cfg0.N) (k : Fin 1024) :
    (iblk m c 11 t : Vec Ideal S1x1024 .f32) (ix2 0 k) = m ((c : Thread nD τ).loc main_arg10) (ix1 k) := by
  unfold iblk
  rw [View.read_apply]
  show V m c main_v0 _ = _
  have e : (V m c main_v0 : S1x1024.Idx → EReal) = shapeCast S1x1024 (m ((c : Thread nD τ).loc main_arg10)) shapeCasts_S1024_S1x1024 := by
    unfold V; after_results; rfl
  rw [e]
  refine shapeCast_apply _ _ _ _ ?_
  show (S1024.rowMajor _).val = (S1x1024.rowMajor _).val
  rw [Shape.rowMajor_val_one, Shape.rowMajor_val_two]
  show k.val = (win0_11.index t 0 * 1 + 1 * 0) * 1024 + (win0_11.index t 1 * 1024 + 1 * k.val)
  rw [(idx_11 t).1, (idx_11 t).2]; omega

theorem blk12 (c : Dev nD) (t : Fin cfg0.N) (r : Fin 1024) (k : Fin 32) :
    (iblk m c 12 t : Vec Ideal S1024x32 .bf16) (ix2 r k) = m ((c : Thread nD τ).loc main_arg11) (ix2 r k) := by
  unfold iblk
  rw [View.read_apply]
  show V m c main_v1 _ = _
  have e : (V m c main_v1 : S1024x32.Idx → EReal) = (m ((c : Thread nD τ).loc main_arg11)) := by
    unfold V; after_results; rfl
  rw [e]
  congr 1
  funext a
  apply Fin.ext
  match a with
  | ⟨0, _⟩ => show win0_12.index t 0 * 1024 + 1 * r.val = r.val; rw [(idx_12 t).1]; omega
  | ⟨1, _⟩ => show win0_12.index t 1 * 32 + 1 * k.val = k.val; rw [(idx_12 t).2]; omega

theorem blk13 (c : Dev nD) (t : Fin cfg0.N) (r : Fin 32) (k : Fin 1024) :
    (iblk m c 13 t : Vec Ideal S32x1024 .bf16) (ix2 r k) = m ((c : Thread nD τ).loc main_arg12) (ix2 r k) := by
  unfold iblk
  rw [View.read_apply]
  show V m c main_v2 _ = _
  have e : (V m c main_v2 : S32x1024.Idx → EReal) = (m ((c : Thread nD τ).loc main_arg12)) := by
    unfold V; after_results; rfl
  rw [e]
  congr 1
  funext a
  apply Fin.ext
  match a with
  | ⟨0, _⟩ => show win0_13.index t 0 * 32 + 1 * r.val = r.val; rw [(idx_13 t).1]; omega
  | ⟨1, _⟩ => show win0_13.index t 1 * 1024 + 1 * k.val = k.val; rw [(idx_13 t).2]; omega

theorem blk14 (c : Dev nD) (t : Fin cfg0.N) (r : Fin 1024) (k : Fin 160) :
    (iblk m c 14 t : Vec Ideal S1024x160 .bf16) (ix2 r k) = m ((c : Thread nD τ).loc main_arg13) (ix2 r k) := by
  unfold iblk
  rw [View.read_apply]
  show V m c main_v12 _ = _
  have e : (V m c main_v12 : S1024x160.Idx → EReal) = (m ((c : Thread nD τ).loc main_arg13)) := by
    unfold V; after_results; rfl
  rw [e]
  congr 1
  funext a
  apply Fin.ext
  match a with
  | ⟨0, _⟩ => show win0_14.index t 0 * 1024 + 1 * r.val = r.val; rw [(idx_14 t).1]; omega
  | ⟨1, _⟩ => show win0_14.index t 1 * 160 + 1 * k.val = k.val; rw [(idx_14 t).2]; omega

theorem blk15 (c : Dev nD) (t : Fin cfg0.N) (r : Fin 160) (k : Fin 1024) :
    (iblk m c 15 t : Vec Ideal S160x1024 .bf16) (ix2 r k) = m ((c : Thread nD τ).loc main_arg14) (ix2 r k) := by
  unfold iblk
  rw [View.read_apply]
  show V m c main_v13 _ = _
  have e : (V m c main_v13 : S160x1024.Idx → EReal) = (m ((c : Thread nD τ).loc main_arg14)) := by
    unfold V; after_results; rfl
  rw [e]
  congr 1
  funext a
  apply Fin.ext
  match a with
  | ⟨0, _⟩ => show win0_15.index t 0 * 160 + 1 * r.val = r.val; rw [(idx_15 t).1]; omega
  | ⟨1, _⟩ => show win0_15.index t 1 * 1024 + 1 * k.val = k.val; rw [(idx_15 t).2]; omega

/-- The row before row `r` of point `t`'s block is the row before it in the array. -/
theorem prev_eq (c : Dev nD) (t : Fin cfg0.N) (r : Fin 512) (k : Fin 1024) :
    prev (grid0.coords t) (iblk m c 0 t) (iblk m c 1 t) r k = prevAt (fun b t k => m ((c : Thread nD τ).loc main_arg0) (ix3 b t k)) ⟨t.val * 512 + r.val, row_lt t r⟩ k := by
  unfold prev prevAt
  rw [coords_eq]
  by_cases hr : r.val = 0
  · rw [if_pos hr]
    by_cases h8 : t.val % 8 = 0
    · rw [if_pos h8, mul_zero, if_pos (by show (t.val * 512 + r.val) % 4096 = 0; omega)]
    · rw [if_neg h8, mul_one, if_neg (by show ¬(t.val * 512 + r.val) % 4096 = 0; omega), blk1 m c t (by omega)]
      unfold rowOf
      refine congrArg₂ (fun a b => (m ((c : Thread nD τ).loc main_arg0)) (ix3 a b k)) (Fin.ext ?_) (Fin.ext ?_)
      · show (t.val * 512 - 1) / 4096 = (t.val * 512 + r.val) / 4096; omega
      · show (t.val * 512 - 1) % 4096 = (t.val * 512 + r.val) % 4096 - 1; omega
  · rw [if_neg hr, if_neg (by show ¬(t.val * 512 + r.val) % 4096 = 0; omega), blk0]
    unfold rowOf
    refine congrArg₂ (fun a b => (m ((c : Thread nD τ).loc main_arg0)) (ix3 a b k)) (Fin.ext ?_) (Fin.ext ?_)
    · show (t.val * 512 + (r.val - 1)) / 4096 = (t.val * 512 + r.val) / 4096; omega
    · show (t.val * 512 + (r.val - 1)) % 4096 = (t.val * 512 + r.val) % 4096 - 1; omega

theorem mixed_eq (c : Dev nD) (t : Fin cfg0.N) (n : Fin 6) (r : Fin 512) :
    mixed (grid0.coords t) (iblk m c 0 t) (iblk m c 1 t) (iblk m c 3 t) n r
      = mixedAt (fun b t k => m ((c : Thread nD τ).loc main_arg0) (ix3 b t k)) (fun k => (m ((c : Thread nD τ).loc main_arg2)) (ix2 n k)) ⟨t.val * 512 + r.val, row_lt t r⟩ := by
  funext k
  unfold mixed mixedAt shift
  beta_reduce
  rw [prev_eq, blk0, blk3]
  rfl

/-- The receptances of core `c`. -/
abbrev resultOf0 (c : Dev nD) : S32768x1024.Idx → EReal :=
  result0 (m ((c : Thread nD τ).loc main_arg0)) (m ((c : Thread nD τ).loc main_arg2)) (m ((c : Thread nD τ).loc main_arg3))

/-- Where element `j` of point `t`'s block lies in the array. -/
theorem emb_16 (t : Fin cfg0.N) (j : S512x1024.Idx) :
    (win0_16.blk t).view.emb j = ix2 (⟨t.val * 512 + (j 0).val, row_lt t (j 0)⟩ : Fin 32768) (j 1) := by
  funext a
  apply Fin.ext
  match a with
  | ⟨0, _⟩ => show win0_16.index t 0 * 512 + 1 * (j 0).val = _; rw [(idx_16 t).1]; show _ = t.val * 512 + (j 0).val; omega
  | ⟨1, _⟩ => show win0_16.index t 1 * 1024 + 1 * (j 1).val = _; rw [(idx_16 t).2]; show _ = (j 1).val; omega

/-- What point `t` writes back is its block of the result array. -/
theorem flushed_eq_16 (c : Dev nD) (t : Fin cfg0.N) :
    (dats m 0 c).flushed 16 t = (win0_16.blk t).view.read (Elt Ideal) (resultOf0 m c) := by
  rw [Value.flushed16]
  refine funext fun (j : S512x1024.Idx) => ?_
  show out0_16 (F := Ideal) (grid0.coords t) _ _ _ _ _ _ _ _ _ _ _ _ _ _ _ _ j = resultOf0 m c ((win0_16.blk t).view.emb j)
  rw [emb_16]
  idx_vars j
  rw [out_at_16, mixed_eq]
  simp only [blk4]
  rfl

/-- An index of the array is in point `t`'s block exactly when its row is one of the block's. -/
theorem mem_blk_16 (t : Fin cfg0.N) (i : S32768x1024.Idx) :
    i ∈ ((cfg0.win 16).blk t).view.set ↔ t.val * 512 ≤ (i 0 : Nat) ∧ (i 0 : Nat) < t.val * 512 + 512 := by
  show i ∈ ((View.whole main_v14_0).slice (win0_16.rect t)).set ↔ _
  rw [View.set_slice_whole, Rect.mem_set_unit]
  have h1 : (i 1 : Nat) < 1024 := (i 1).isLt
  refine ⟨fun h => ?_, fun h a => ?_⟩
  · have : win0_16.index t 0 * 512 ≤ (i 0 : Nat) ∧ (i 0 : Nat) < win0_16.index t 0 * 512 + 512 := h 0
    rw [(idx_16 t).1] at this; exact this
  · match a with
    | ⟨0, _⟩ => show win0_16.index t 0 * 512 ≤ (i 0 : Nat) ∧ (i 0 : Nat) < win0_16.index t 0 * 512 + 512
                rw [(idx_16 t).1]; exact h
    | ⟨1, _⟩ => show win0_16.index t 1 * 1024 ≤ (i 1 : Nat) ∧ (i 1 : Nat) < win0_16.index t 1 * 1024 + 1024
                rw [(idx_16 t).2, Nat.zero_mul, Nat.zero_add]; exact ⟨Nat.zero_le _, h1⟩

/-- The array after the run. -/
theorem array_eq_16 (c : Dev nD) : (dats m 0 c).arrAt 16 cfg0.N = resultOf0 m c :=
  (dats m 0 c).arrAt_eq_of_cover 16 (resultOf0 m c) (fun t _ => flushed_eq_16 m c t) fun i =>
    have h0 : (i 0 : Nat) < 32768 := (i 0).isLt
    ⟨(⟨(i 0 : Nat) / 512, by show (i 0 : Nat) / 512 < 64; omega⟩ : Fin grid0.N), flush0_16 _, (mem_blk_16 _ i).mpr (by
      show (i 0 : Nat) / 512 * 512 ≤ (i 0 : Nat) ∧ (i 0 : Nat) < (i 0 : Nat) / 512 * 512 + 512
      omega)⟩

/-- The decays' logarithms of core `c`. -/
abbrev resultOf1 (c : Dev nD) : S32768x1024.Idx → EReal :=
  result1 (m ((c : Thread nD τ).loc main_arg0)) (m ((c : Thread nD τ).loc main_arg2)) (m ((c : Thread nD τ).loc main_arg4)) (m ((c : Thread nD τ).loc main_arg5)) (m ((c : Thread nD τ).loc main_arg6))

/-- Where element `j` of point `t`'s block lies in the array. -/
theorem emb_17 (t : Fin cfg0.N) (j : S512x1024.Idx) :
    (win0_17.blk t).view.emb j = ix2 (⟨t.val * 512 + (j 0).val, row_lt t (j 0)⟩ : Fin 32768) (j 1) := by
  funext a
  apply Fin.ext
  match a with
  | ⟨0, _⟩ => show win0_17.index t 0 * 512 + 1 * (j 0).val = _; rw [(idx_17 t).1]; show _ = t.val * 512 + (j 0).val; omega
  | ⟨1, _⟩ => show win0_17.index t 1 * 1024 + 1 * (j 1).val = _; rw [(idx_17 t).2]; show _ = (j 1).val; omega

/-- What point `t` writes back is its block of the result array. -/
theorem flushed_eq_17 (c : Dev nD) (t : Fin cfg0.N) :
    (dats m 0 c).flushed 17 t = (win0_17.blk t).view.read (Elt Ideal) (resultOf1 m c) := by
  rw [Value.flushed17]
  refine funext fun (j : S512x1024.Idx) => ?_
  show out0_17 (F := Ideal) (grid0.coords t) _ _ _ _ _ _ _ _ _ _ _ _ _ _ _ _ j = resultOf1 m c ((win0_17.blk t).view.emb j)
  rw [emb_17]
  idx_vars j
  rw [out_at_17, mixed_eq]
  simp only [blk5, blk6, blk7]
  rfl

/-- An index of the array is in point `t`'s block exactly when its row is one of the block's. -/
theorem mem_blk_17 (t : Fin cfg0.N) (i : S32768x1024.Idx) :
    i ∈ ((cfg0.win 17).blk t).view.set ↔ t.val * 512 ≤ (i 0 : Nat) ∧ (i 0 : Nat) < t.val * 512 + 512 := by
  show i ∈ ((View.whole main_v14_1).slice (win0_17.rect t)).set ↔ _
  rw [View.set_slice_whole, Rect.mem_set_unit]
  have h1 : (i 1 : Nat) < 1024 := (i 1).isLt
  refine ⟨fun h => ?_, fun h a => ?_⟩
  · have : win0_17.index t 0 * 512 ≤ (i 0 : Nat) ∧ (i 0 : Nat) < win0_17.index t 0 * 512 + 512 := h 0
    rw [(idx_17 t).1] at this; exact this
  · match a with
    | ⟨0, _⟩ => show win0_17.index t 0 * 512 ≤ (i 0 : Nat) ∧ (i 0 : Nat) < win0_17.index t 0 * 512 + 512
                rw [(idx_17 t).1]; exact h
    | ⟨1, _⟩ => show win0_17.index t 1 * 1024 ≤ (i 1 : Nat) ∧ (i 1 : Nat) < win0_17.index t 1 * 1024 + 1024
                rw [(idx_17 t).2, Nat.zero_mul, Nat.zero_add]; exact ⟨Nat.zero_le _, h1⟩

/-- The array after the run. -/
theorem array_eq_17 (c : Dev nD) : (dats m 0 c).arrAt 17 cfg0.N = resultOf1 m c :=
  (dats m 0 c).arrAt_eq_of_cover 17 (resultOf1 m c) (fun t _ => flushed_eq_17 m c t) fun i =>
    have h0 : (i 0 : Nat) < 32768 := (i 0).isLt
    ⟨(⟨(i 0 : Nat) / 512, by show (i 0 : Nat) / 512 < 64; omega⟩ : Fin grid0.N), flush0_17 _, (mem_blk_17 _ i).mpr (by
      show (i 0 : Nat) / 512 * 512 ≤ (i 0 : Nat) ∧ (i 0 : Nat) < (i 0 : Nat) / 512 * 512 + 512
      omega)⟩

/-- The keys of core `c`. -/
abbrev resultOf2 (c : Dev nD) : S32768x1024.Idx → EReal :=
  result2 (m ((c : Thread nD τ).loc main_arg0)) (m ((c : Thread nD τ).loc main_arg2)) (m ((c : Thread nD τ).loc main_arg3))

/-- Where element `j` of point `t`'s block lies in the array. -/
theorem emb_18 (t : Fin cfg0.N) (j : S512x1024.Idx) :
    (win0_18.blk t).view.emb j = ix2 (⟨t.val * 512 + (j 0).val, row_lt t (j 0)⟩ : Fin 32768) (j 1) := by
  funext a
  apply Fin.ext
  match a with
  | ⟨0, _⟩ => show win0_18.index t 0 * 512 + 1 * (j 0).val = _; rw [(idx_18 t).1]; show _ = t.val * 512 + (j 0).val; omega
  | ⟨1, _⟩ => show win0_18.index t 1 * 1024 + 1 * (j 1).val = _; rw [(idx_18 t).2]; show _ = (j 1).val; omega

/-- What point `t` writes back is its block of the result array. -/
theorem flushed_eq_18 (c : Dev nD) (t : Fin cfg0.N) :
    (dats m 0 c).flushed 18 t = (win0_18.blk t).view.read (Elt Ideal) (resultOf2 m c) := by
  rw [Value.flushed18]
  refine funext fun (j : S512x1024.Idx) => ?_
  show out0_18 (F := Ideal) (grid0.coords t) _ _ _ _ _ _ _ _ _ _ _ _ _ _ _ _ j = resultOf2 m c ((win0_18.blk t).view.emb j)
  rw [emb_18]
  idx_vars j
  rw [out_at_18, mixed_eq]
  simp only [blk4]
  rfl

/-- An index of the array is in point `t`'s block exactly when its row is one of the block's. -/
theorem mem_blk_18 (t : Fin cfg0.N) (i : S32768x1024.Idx) :
    i ∈ ((cfg0.win 18).blk t).view.set ↔ t.val * 512 ≤ (i 0 : Nat) ∧ (i 0 : Nat) < t.val * 512 + 512 := by
  show i ∈ ((View.whole main_v14_2).slice (win0_18.rect t)).set ↔ _
  rw [View.set_slice_whole, Rect.mem_set_unit]
  have h1 : (i 1 : Nat) < 1024 := (i 1).isLt
  refine ⟨fun h => ?_, fun h a => ?_⟩
  · have : win0_18.index t 0 * 512 ≤ (i 0 : Nat) ∧ (i 0 : Nat) < win0_18.index t 0 * 512 + 512 := h 0
    rw [(idx_18 t).1] at this; exact this
  · match a with
    | ⟨0, _⟩ => show win0_18.index t 0 * 512 ≤ (i 0 : Nat) ∧ (i 0 : Nat) < win0_18.index t 0 * 512 + 512
                rw [(idx_18 t).1]; exact h
    | ⟨1, _⟩ => show win0_18.index t 1 * 1024 ≤ (i 1 : Nat) ∧ (i 1 : Nat) < win0_18.index t 1 * 1024 + 1024
                rw [(idx_18 t).2, Nat.zero_mul, Nat.zero_add]; exact ⟨Nat.zero_le _, h1⟩

/-- The array after the run. -/
theorem array_eq_18 (c : Dev nD) : (dats m 0 c).arrAt 18 cfg0.N = resultOf2 m c :=
  (dats m 0 c).arrAt_eq_of_cover 18 (resultOf2 m c) (fun t _ => flushed_eq_18 m c t) fun i =>
    have h0 : (i 0 : Nat) < 32768 := (i 0).isLt
    ⟨(⟨(i 0 : Nat) / 512, by show (i 0 : Nat) / 512 < 64; omega⟩ : Fin grid0.N), flush0_18 _, (mem_blk_18 _ i).mpr (by
      show (i 0 : Nat) / 512 * 512 ≤ (i 0 : Nat) ∧ (i 0 : Nat) < (i 0 : Nat) / 512 * 512 + 512
      omega)⟩

/-- The values of core `c`. -/
abbrev resultOf3 (c : Dev nD) : S32768x1024.Idx → EReal :=
  result3 (m ((c : Thread nD τ).loc main_arg0)) (m ((c : Thread nD τ).loc main_arg1)) (m ((c : Thread nD τ).loc main_arg2)) (m ((c : Thread nD τ).loc main_arg3)) (m ((c : Thread nD τ).loc main_arg10)) (m ((c : Thread nD τ).loc main_arg11)) (m ((c : Thread nD τ).loc main_arg12))

/-- Where element `j` of point `t`'s block lies in the array. -/
theorem emb_19 (t : Fin cfg0.N) (j : S512x1024.Idx) :
    (win0_19.blk t).view.emb j = ix2 (⟨t.val * 512 + (j 0).val, row_lt t (j 0)⟩ : Fin 32768) (j 1) := by
  funext a
  apply Fin.ext
  match a with
  | ⟨0, _⟩ => show win0_19.index t 0 * 512 + 1 * (j 0).val = _; rw [(idx_19 t).1]; show _ = t.val * 512 + (j 0).val; omega
  | ⟨1, _⟩ => show win0_19.index t 1 * 1024 + 1 * (j 1).val = _; rw [(idx_19 t).2]; show _ = (j 1).val; omega

/-- What point `t` writes back is its block of the result array. -/
theorem flushed_eq_19 (c : Dev nD) (t : Fin cfg0.N) :
    (dats m 0 c).flushed 19 t = (win0_19.blk t).view.read (Elt Ideal) (resultOf3 m c) := by
  rw [Value.flushed19]
  refine funext fun (j : S512x1024.Idx) => ?_
  show out0_19 (F := Ideal) (grid0.coords t) _ _ _ _ _ _ _ _ _ _ _ _ _ _ _ _ j = resultOf3 m c ((win0_19.blk t).view.emb j)
  rw [emb_19]
  idx_vars j
  rw [out_at_19, mixed_eq]
  simp only [blk2, blk4, blk11, blk12, blk13]
  rfl

/-- An index of the array is in point `t`'s block exactly when its row is one of the block's. -/
theorem mem_blk_19 (t : Fin cfg0.N) (i : S32768x1024.Idx) :
    i ∈ ((cfg0.win 19).blk t).view.set ↔ t.val * 512 ≤ (i 0 : Nat) ∧ (i 0 : Nat) < t.val * 512 + 512 := by
  show i ∈ ((View.whole main_v14_3).slice (win0_19.rect t)).set ↔ _
  rw [View.set_slice_whole, Rect.mem_set_unit]
  have h1 : (i 1 : Nat) < 1024 := (i 1).isLt
  refine ⟨fun h => ?_, fun h a => ?_⟩
  · have : win0_19.index t 0 * 512 ≤ (i 0 : Nat) ∧ (i 0 : Nat) < win0_19.index t 0 * 512 + 512 := h 0
    rw [(idx_19 t).1] at this; exact this
  · match a with
    | ⟨0, _⟩ => show win0_19.index t 0 * 512 ≤ (i 0 : Nat) ∧ (i 0 : Nat) < win0_19.index t 0 * 512 + 512
                rw [(idx_19 t).1]; exact h
    | ⟨1, _⟩ => show win0_19.index t 1 * 1024 ≤ (i 1 : Nat) ∧ (i 1 : Nat) < win0_19.index t 1 * 1024 + 1024
                rw [(idx_19 t).2, Nat.zero_mul, Nat.zero_add]; exact ⟨Nat.zero_le _, h1⟩

/-- The array after the run. -/
theorem array_eq_19 (c : Dev nD) : (dats m 0 c).arrAt 19 cfg0.N = resultOf3 m c :=
  (dats m 0 c).arrAt_eq_of_cover 19 (resultOf3 m c) (fun t _ => flushed_eq_19 m c t) fun i =>
    have h0 : (i 0 : Nat) < 32768 := (i 0).isLt
    ⟨(⟨(i 0 : Nat) / 512, by show (i 0 : Nat) / 512 < 64; omega⟩ : Fin grid0.N), flush0_19 _, (mem_blk_19 _ i).mpr (by
      show (i 0 : Nat) / 512 * 512 ≤ (i 0 : Nat) ∧ (i 0 : Nat) < (i 0 : Nat) / 512 * 512 + 512
      omega)⟩

/-- The learning rates of core `c`. -/
abbrev resultOf4 (c : Dev nD) : S32768x1024.Idx → EReal :=
  result4 (m ((c : Thread nD τ).loc main_arg0)) (m ((c : Thread nD τ).loc main_arg2)) (m ((c : Thread nD τ).loc main_arg7)) (m ((c : Thread nD τ).loc main_arg8)) (m ((c : Thread nD τ).loc main_arg9))

/-- Where element `j` of point `t`'s block lies in the array. -/
theorem emb_20 (t : Fin cfg0.N) (j : S512x1024.Idx) :
    (win0_20.blk t).view.emb j = ix2 (⟨t.val * 512 + (j 0).val, row_lt t (j 0)⟩ : Fin 32768) (j 1) := by
  funext a
  apply Fin.ext
  match a with
  | ⟨0, _⟩ => show win0_20.index t 0 * 512 + 1 * (j 0).val = _; rw [(idx_20 t).1]; show _ = t.val * 512 + (j 0).val; omega
  | ⟨1, _⟩ => show win0_20.index t 1 * 1024 + 1 * (j 1).val = _; rw [(idx_20 t).2]; show _ = (j 1).val; omega

/-- What point `t` writes back is its block of the result array. -/
theorem flushed_eq_20 (c : Dev nD) (t : Fin cfg0.N) :
    (dats m 0 c).flushed 20 t = (win0_20.blk t).view.read (Elt Ideal) (resultOf4 m c) := by
  rw [Value.flushed20]
  refine funext fun (j : S512x1024.Idx) => ?_
  show out0_20 (F := Ideal) (grid0.coords t) _ _ _ _ _ _ _ _ _ _ _ _ _ _ _ _ j = resultOf4 m c ((win0_20.blk t).view.emb j)
  rw [emb_20]
  idx_vars j
  rw [out_at_20, mixed_eq]
  simp only [blk8, blk9, blk10]
  rfl

/-- An index of the array is in point `t`'s block exactly when its row is one of the block's. -/
theorem mem_blk_20 (t : Fin cfg0.N) (i : S32768x1024.Idx) :
    i ∈ ((cfg0.win 20).blk t).view.set ↔ t.val * 512 ≤ (i 0 : Nat) ∧ (i 0 : Nat) < t.val * 512 + 512 := by
  show i ∈ ((View.whole main_v14_4).slice (win0_20.rect t)).set ↔ _
  rw [View.set_slice_whole, Rect.mem_set_unit]
  have h1 : (i 1 : Nat) < 1024 := (i 1).isLt
  refine ⟨fun h => ?_, fun h a => ?_⟩
  · have : win0_20.index t 0 * 512 ≤ (i 0 : Nat) ∧ (i 0 : Nat) < win0_20.index t 0 * 512 + 512 := h 0
    rw [(idx_20 t).1] at this; exact this
  · match a with
    | ⟨0, _⟩ => show win0_20.index t 0 * 512 ≤ (i 0 : Nat) ∧ (i 0 : Nat) < win0_20.index t 0 * 512 + 512
                rw [(idx_20 t).1]; exact h
    | ⟨1, _⟩ => show win0_20.index t 1 * 1024 ≤ (i 1 : Nat) ∧ (i 1 : Nat) < win0_20.index t 1 * 1024 + 1024
                rw [(idx_20 t).2, Nat.zero_mul, Nat.zero_add]; exact ⟨Nat.zero_le _, h1⟩

/-- The array after the run. -/
theorem array_eq_20 (c : Dev nD) : (dats m 0 c).arrAt 20 cfg0.N = resultOf4 m c :=
  (dats m 0 c).arrAt_eq_of_cover 20 (resultOf4 m c) (fun t _ => flushed_eq_20 m c t) fun i =>
    have h0 : (i 0 : Nat) < 32768 := (i 0).isLt
    ⟨(⟨(i 0 : Nat) / 512, by show (i 0 : Nat) / 512 < 64; omega⟩ : Fin grid0.N), flush0_20 _, (mem_blk_20 _ i).mpr (by
      show (i 0 : Nat) / 512 * 512 ≤ (i 0 : Nat) ∧ (i 0 : Nat) < (i 0 : Nat) / 512 * 512 + 512
      omega)⟩

/-- The gates of core `c`. -/
abbrev resultOf5 (c : Dev nD) : S32768x1024.Idx → EReal :=
  result5 (m ((c : Thread nD τ).loc main_arg0)) (m ((c : Thread nD τ).loc main_arg2)) (m ((c : Thread nD τ).loc main_arg13)) (m ((c : Thread nD τ).loc main_arg14))

/-- Where element `j` of point `t`'s block lies in the array. -/
theorem emb_21 (t : Fin cfg0.N) (j : S512x1024.Idx) :
    (win0_21.blk t).view.emb j = ix2 (⟨t.val * 512 + (j 0).val, row_lt t (j 0)⟩ : Fin 32768) (j 1) := by
  funext a
  apply Fin.ext
  match a with
  | ⟨0, _⟩ => show win0_21.index t 0 * 512 + 1 * (j 0).val = _; rw [(idx_21 t).1]; show _ = t.val * 512 + (j 0).val; omega
  | ⟨1, _⟩ => show win0_21.index t 1 * 1024 + 1 * (j 1).val = _; rw [(idx_21 t).2]; show _ = (j 1).val; omega

/-- What point `t` writes back is its block of the result array. -/
theorem flushed_eq_21 (c : Dev nD) (t : Fin cfg0.N) :
    (dats m 0 c).flushed 21 t = (win0_21.blk t).view.read (Elt Ideal) (resultOf5 m c) := by
  rw [Value.flushed21]
  refine funext fun (j : S512x1024.Idx) => ?_
  show out0_21 (F := Ideal) (grid0.coords t) _ _ _ _ _ _ _ _ _ _ _ _ _ _ _ _ j = resultOf5 m c ((win0_21.blk t).view.emb j)
  rw [emb_21]
  idx_vars j
  rw [out_at_21, mixed_eq]
  simp only [blk14, blk15]
  rfl

/-- An index of the array is in point `t`'s block exactly when its row is one of the block's. -/
theorem mem_blk_21 (t : Fin cfg0.N) (i : S32768x1024.Idx) :
    i ∈ ((cfg0.win 21).blk t).view.set ↔ t.val * 512 ≤ (i 0 : Nat) ∧ (i 0 : Nat) < t.val * 512 + 512 := by
  show i ∈ ((View.whole main_v14_5).slice (win0_21.rect t)).set ↔ _
  rw [View.set_slice_whole, Rect.mem_set_unit]
  have h1 : (i 1 : Nat) < 1024 := (i 1).isLt
  refine ⟨fun h => ?_, fun h a => ?_⟩
  · have : win0_21.index t 0 * 512 ≤ (i 0 : Nat) ∧ (i 0 : Nat) < win0_21.index t 0 * 512 + 512 := h 0
    rw [(idx_21 t).1] at this; exact this
  · match a with
    | ⟨0, _⟩ => show win0_21.index t 0 * 512 ≤ (i 0 : Nat) ∧ (i 0 : Nat) < win0_21.index t 0 * 512 + 512
                rw [(idx_21 t).1]; exact h
    | ⟨1, _⟩ => show win0_21.index t 1 * 1024 ≤ (i 1 : Nat) ∧ (i 1 : Nat) < win0_21.index t 1 * 1024 + 1024
                rw [(idx_21 t).2, Nat.zero_mul, Nat.zero_add]; exact ⟨Nat.zero_le _, h1⟩

/-- The array after the run. -/
theorem array_eq_21 (c : Dev nD) : (dats m 0 c).arrAt 21 cfg0.N = resultOf5 m c :=
  (dats m 0 c).arrAt_eq_of_cover 21 (resultOf5 m c) (fun t _ => flushed_eq_21 m c t) fun i =>
    have h0 : (i 0 : Nat) < 32768 := (i 0).isLt
    ⟨(⟨(i 0 : Nat) / 512, by show (i 0 : Nat) / 512 < 64; omega⟩ : Fin grid0.N), flush0_21 _, (mem_blk_21 _ i).mpr (by
      show (i 0 : Nat) / 512 * 512 ≤ (i 0 : Nat) ∧ (i 0 : Nat) < (i 0 : Nat) / 512 * 512 + 512
      omega)⟩

/-- The run, read. -/
theorem run : θ_run defs (onTc (τ := τ) (main (F := Ideal))) ⟨m, fun _ => 0, ρ⟩ fun r => ∀ c : Dev nD,
      r.2.mem ((c : Thread nD τ).loc main_v14_0) = resultOf0 m c
      ∧ r.2.mem ((c : Thread nD τ).loc main_v14_1) = resultOf1 m c
      ∧ r.2.mem ((c : Thread nD τ).loc main_v14_2) = resultOf2 m c
      ∧ r.2.mem ((c : Thread nD τ).loc main_v14_3) = resultOf3 m c
      ∧ r.2.mem ((c : Thread nD τ).loc main_v14_4) = resultOf4 m c
      ∧ r.2.mem ((c : Thread nD τ).loc main_v14_5) = resultOf5 m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14) :=
  (θ_run defs _ _).mono (fun _ h c => ⟨(h c).1.trans (array_eq_16 m c), (h c).2.1.trans (array_eq_17 m c), (h c).2.2.1.trans (array_eq_18 m c), (h c).2.2.2.1.trans (array_eq_19 m c), (h c).2.2.2.2.1.trans (array_eq_20 m c), (h c).2.2.2.2.2.1.trans (array_eq_21 m c), (h c).2.2.2.2.2.2⟩) (Value.run_blocks m ρ)

end Cert.PreResIdeal.Val

end
-- ==== Proof.PreResRefValue.lean ====
module

public import proofs.«01_k».proof.Proof.Gen.PreResRefIdeal.Read
public import proofs.«01_k».proof.Proof.PreRows
public import Idealize.ShloMosaic.Lib.Pointwise

/-!
# The reference of the projections, the layers after the first, row by row
-/

@[expose] public section

set_option maxRecDepth 16384

noncomputable section

namespace Cert.PreResRefIdeal.RefValue

open Cert.PreResRefIdeal Cert.PreResRefIdeal.Gen Cert.PreResRefIdeal.Read Idealize.ShloMosaic Idealize.ShloMosaic.TcCoe Idealize.SL.Sem
open Cert.Rows

variable (x0 : S8x4096x1024.Idx → EReal) (x1 : S8x4096x1024.Idx → EReal) (x2 : S6x1024.Idx → EReal) (x3 : S3x1024x1024.Idx → EReal) (x4 : S1024.Idx → EReal) (x5 : S1024x64.Idx → EReal) (x6 : S64x1024.Idx → EReal) (x7 : S1024.Idx → EReal) (x8 : S1024x64.Idx → EReal) (x9 : S64x1024.Idx → EReal) (x10 : S1024.Idx → EReal) (x11 : S1024x32.Idx → EReal) (x12 : S32x1024.Idx → EReal) (x13 : S1024x160.Idx → EReal) (x14 : S160x1024.Idx → EReal)

/-- The row before minus the row. -/
theorem moved_at (p : Fin 8) (q : Fin 4096) (k : Fin 1024) :
    val_main_v2 (F := Ideal) x0 (ix3 p q k) = (if q.val = 0 then 0 else x0 (ix3 p (⟨q.val - 1, by omega⟩ : Fin 4096) k)) - x0 (ix3 p q k) := by
  pointwise [val_main_v2, val_main_v1, val_main_v0, val_main_call0_v0, val_main_c]
  have h0 : FloatOps.sitofp (F := Ideal) FTy.f32 (0#32 : BitVec 32) = 0 := by
    show (((0#32 : BitVec 32).toInt : ℝ) : EReal) = 0
    norm_num
  rw [h0]
  congr 1
  by_cases hq : q.val = 0
  · rw [if_pos hq, dif_neg (by omega)]
  · rw [if_neg hq, dif_pos (by omega)]

theorem ref_at_0 (R : Fin 32768) (j : Fin 1024) : val_main_v96 (F := Ideal) x0 x2 x3 (ix2 R j) = projRow (mixedAt (fun b t k => x0 (ix3 b t k)) (fun k => x2 (ix2 0 k)) R) (fun k l => x3 (ix3 0 k l)) j := by
  have e : idx_main_v96 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v96_apply, e]
  pointwise [val_main_v45, val_main_v44, val_main_v43, val_main_v42, val_main_v39, val_main_v40, val_main_v41, val_main_v8, val_main_v20, val_main_v26, val_main_v7, val_main_v19, val_main_v25, val_main_v6, val_main_v18, val_main_v24, val_main_v5, val_main_v17, val_main_v23, val_main_v4, val_main_v16, val_main_v22, val_main_v3, val_main_v15, val_main_v21, moved_at, mixedAt, shift, rowAt, prevAt, projRow, decayRow, logDecay, rateRow, gateRow, resRow, logi, absf_eq, log1p_eq, self_ne, half]

theorem ref_at_1 (R : Fin 32768) (j : Fin 1024) : val_main_v97 (F := Ideal) x0 x2 x4 x5 x6 (ix2 R j) = decayRow (mixedAt (fun b t k => x0 (ix3 b t k)) (fun k => x2 (ix2 1 k)) R) (fun k => x4 (ix1 k)) (fun k l => x5 (ix2 k l)) (fun k l => x6 (ix2 k l)) j := by
  have e : idx_main_v97 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v97_apply, e]
  pointwise [val_main_v95, val_main_v94, val_main_v60, val_main_v58, val_main_v59, val_main_v57, val_main_cst, val_main_call1_v4, val_main_call1_v6, val_main_call1_v11, val_main_call1_v3, val_main_v56, val_main_call1_v5, val_main_call1_v1, val_main_call1_v10, val_main_call1_v2, val_main_v55, val_main_call1_cst, val_main_call1_v0, val_main_call1_v9, val_main_v54, val_main_v52, val_main_call1_v8, val_main_v53, val_main_v51, val_main_call1_v7, val_main_v50, val_main_v14, val_main_v13, val_main_v12, val_main_v11, val_main_v10, val_main_v9, moved_at, mixedAt, shift, rowAt, prevAt, projRow, decayRow, logDecay, rateRow, gateRow, resRow, logi, absf_eq, log1p_eq, self_ne, half]

theorem ref_at_2 (R : Fin 32768) (j : Fin 1024) : val_main_v98 (F := Ideal) x0 x2 x3 (ix2 R j) = projRow (mixedAt (fun b t k => x0 (ix3 b t k)) (fun k => x2 (ix2 2 k)) R) (fun k l => x3 (ix3 1 k l)) j := by
  have e : idx_main_v98 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v98_apply, e]
  pointwise [val_main_v47, val_main_v46, val_main_v43, val_main_v42, val_main_v39, val_main_v40, val_main_v41, val_main_v8, val_main_v20, val_main_v26, val_main_v7, val_main_v19, val_main_v25, val_main_v6, val_main_v18, val_main_v24, val_main_v5, val_main_v17, val_main_v23, val_main_v4, val_main_v16, val_main_v22, val_main_v3, val_main_v15, val_main_v21, moved_at, mixedAt, shift, rowAt, prevAt, projRow, decayRow, logDecay, rateRow, gateRow, resRow, logi, absf_eq, log1p_eq, self_ne, half]

/-- The row the values are projected from. -/
theorem mixed_at_3 (p : Fin 8) (q : Fin 4096) (k : Fin 1024) :
    val_main_v26 (F := Ideal) x0 x2 (ix3 p q k)
      = shift (fun k => x0 (ix3 p q k)) (fun k => if q.val = 0 then 0 else x0 (ix3 p (⟨q.val - 1, by omega⟩ : Fin 4096) k)) (fun k => x2 (ix2 3 k)) k := by
  pointwise [val_main_v26, val_main_v25, val_main_v24, val_main_v23, val_main_v22, val_main_v21, moved_at, shift]

/-- The values before the residual. -/
theorem values_at (p : Fin 8) (q : Fin 4096) (j : Fin 1024) :
    val_main_v49 (F := Ideal) x0 x2 x3 (ix3 p q j) = projRow (fun k => val_main_v26 (F := Ideal) x0 x2 (ix3 p q k)) (fun k l => x3 (ix3 2 k l)) j := by
  pointwise [val_main_v49, val_main_v48, val_main_v43, val_main_v42, val_main_v39, val_main_v40, val_main_v41, projRow]

/-- The share of the first layer's values. -/
theorem share_at (p : Fin 8) (q : Fin 4096) (j : Fin 1024) :
    val_main_v83 (F := Ideal) x0 x2 x10 x11 x12 (ix3 p q j) = rateRow (fun k => val_main_v26 (F := Ideal) x0 x2 (ix3 p q k)) (fun k => x10 (ix1 k)) (fun k l => x11 (ix2 k l)) (fun k l => x12 (ix2 k l)) j := by
  pointwise [val_main_v83, val_main_v82, val_main_v81, val_main_cst_3, val_main_v80, val_main_v79, val_main_cst_2, val_main_v78, val_main_v77, val_main_v76, val_main_v74, val_main_v75, val_main_v73, rateRow, logi]

theorem moved_values_at (p : Fin 8) (q : Fin 4096) (j : Fin 1024) :
    val_main_v85 (F := Ideal) x0 x1 x2 x3 x10 x11 x12 (ix3 p q j)
      = resRow (fun k => val_main_v26 (F := Ideal) x0 x2 (ix3 p q k)) (fun k => x1 (ix3 p q k)) (fun k l => x3 (ix3 2 k l)) (fun k => x10 (ix1 k)) (fun k l => x11 (ix2 k l)) (fun k l => x12 (ix2 k l)) j := by
  rw [val_main_v85_apply, val_main_v84_apply, val_main_v72_apply, values_at, share_at]
  unfold resRow
  generalize projRow _ _ j = a
  generalize rateRow _ _ _ _ j = b
  rfl

theorem ref_at_3 (R : Fin 32768) (j : Fin 1024) : val_main_v99 (F := Ideal) x0 x1 x2 x3 x10 x11 x12 (ix2 R j) = resRow (mixedAt (fun b t k => x0 (ix3 b t k)) (fun k => x2 (ix2 3 k)) R) (fun k => rowAt (fun b t k => x1 (ix3 b t k)) R k) (fun k l => x3 (ix3 2 k l)) (fun k => x10 (ix1 k)) (fun k l => x11 (ix2 k l)) (fun k l => x12 (ix2 k l)) j := by
  have e : idx_main_v99 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v99_apply, e]
  have h : (fun k => val_main_v26 (F := Ideal) x0 x2 (ix3 (⟨R.val / 4096, by omega⟩ : Fin 8) (⟨R.val % 4096, by omega⟩ : Fin 4096) k)) = mixedAt (fun b t k => x0 (ix3 b t k)) (fun k => x2 (ix2 3 k)) R :=
    funext fun k => mixed_at_3 x0 x2 _ _ k
  rw [moved_values_at, h]
  simp only [rowAt]

theorem ref_at_4 (R : Fin 32768) (j : Fin 1024) : val_main_v100 (F := Ideal) x0 x2 x7 x8 x9 (ix2 R j) = rateRow (mixedAt (fun b t k => x0 (ix3 b t k)) (fun k => x2 (ix2 4 k)) R) (fun k => x7 (ix1 k)) (fun k l => x8 (ix2 k l)) (fun k l => x9 (ix2 k l)) j := by
  have e : idx_main_v100 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v100_apply, e]
  pointwise [val_main_v71, val_main_v70, val_main_v69, val_main_cst_1, val_main_v68, val_main_v67, val_main_cst_0, val_main_v66, val_main_v65, val_main_v64, val_main_v62, val_main_v63, val_main_v61, val_main_v32, val_main_v31, val_main_v30, val_main_v29, val_main_v28, val_main_v27, moved_at, mixedAt, shift, rowAt, prevAt, projRow, decayRow, logDecay, rateRow, gateRow, resRow, logi, absf_eq, log1p_eq, self_ne, half]

theorem ref_at_5 (R : Fin 32768) (j : Fin 1024) : val_main_v101 (F := Ideal) x0 x2 x13 x14 (ix2 R j) = gateRow (mixedAt (fun b t k => x0 (ix3 b t k)) (fun k => x2 (ix2 5 k)) R) (fun k l => x13 (ix2 k l)) (fun k l => x14 (ix2 k l)) j := by
  have e : idx_main_v101 (ix2 R j) = ix3 (⟨R.val / 4096, by omega⟩ : Fin 8) (⟨R.val % 4096, by omega⟩ : Fin 4096) j := by
    funext a
    apply Fin.ext
    match a with
    | ⟨0, _⟩ => show (R.val * 1024 + j.val) / 4194304 = R.val / 4096; omega
    | ⟨1, _⟩ => show (R.val * 1024 + j.val) / 1024 % 4096 = R.val % 4096; omega
    | ⟨2, _⟩ => show (R.val * 1024 + j.val) % 1024 = j.val; omega
  rw [val_main_v101_apply, e]
  pointwise [val_main_v93, val_main_v92, val_main_v91, val_main_v90, val_main_cst_5, val_main_v89, val_main_v88, val_main_cst_4, val_main_v87, val_main_v86, val_main_v38, val_main_v37, val_main_v36, val_main_v35, val_main_v34, val_main_v33, moved_at, mixedAt, shift, rowAt, prevAt, projRow, decayRow, logDecay, rateRow, gateRow, resRow, logi, absf_eq, log1p_eq, self_ne, half]

end Cert.PreResRefIdeal.RefValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.SgArray
public import proofs.«01_k».proof.Proof.SgRefValue
public import proofs.«01_k».proof.Proof.SgFinite
public import proofs.«01_k».proof.Proof.Gen.Ffn
public import proofs.«01_k».proof.Proof.Gen.Ffn.Skeleton
public import proofs.«01_k».proof.Proof.Gen.Ffn.Launch
public import proofs.«01_k».proof.Proof.Gen.Ffn.Points
public import proofs.«01_k».proof.Proof.Gen.Ffn.Frame
public import proofs.«01_k».proof.Proof.Gen.FfnIdeal
public import proofs.«01_k».proof.Proof.Gen.FfnIdeal.Skeleton
public import proofs.«01_k».proof.Proof.Gen.FfnIdeal.Launch
public import proofs.«01_k».proof.Proof.Gen.FfnIdeal.Points
public import proofs.«01_k».proof.Proof.Gen.FfnIdeal.Frame
public import proofs.«01_k».proof.Proof.Gen.FfnIdeal.Value
public import proofs.«01_k».proof.Proof.Gen.FfnRefIdeal
public import proofs.«01_k».proof.Proof.Gen.FfnRefIdeal.Run
public import proofs.«01_k».proof.Proof.Gen.FfnRefIdeal.Read
public import proofs.«01_k».proof.Proof.FfnArray
public import proofs.«01_k».proof.Proof.FfnRefValue
public import proofs.«01_k».proof.Proof.Gen.Mix
public import proofs.«01_k».proof.Proof.Gen.Mix.Skeleton
public import proofs.«01_k».proof.Proof.Gen.Mix.Launch
public import proofs.«01_k».proof.Proof.Gen.Mix.Points
public import proofs.«01_k».proof.Proof.Gen.Mix.Frame
public import proofs.«01_k».proof.Proof.Gen.MixIdeal
public import proofs.«01_k».proof.Proof.Gen.MixIdeal.Skeleton
public import proofs.«01_k».proof.Proof.Gen.MixIdeal.Launch
public import proofs.«01_k».proof.Proof.Gen.MixIdeal.Points
public import proofs.«01_k».proof.Proof.Gen.MixIdeal.Frame
public import proofs.«01_k».proof.Proof.Gen.MixIdeal.Value
public import proofs.«01_k».proof.Proof.Gen.MixRefIdeal
public import proofs.«01_k».proof.Proof.Gen.MixRefIdeal.Run
public import proofs.«01_k».proof.Proof.Gen.MixRefIdeal.Read
public import proofs.«01_k».proof.Proof.MixArray
public import proofs.«01_k».proof.Proof.MixRefValue
public import proofs.«01_k».proof.Proof.Gen.Pre
public import proofs.«01_k».proof.Proof.Gen.Pre.Skeleton
public import proofs.«01_k».proof.Proof.Gen.Pre.Launch
public import proofs.«01_k».proof.Proof.Gen.Pre.Points
public import proofs.«01_k».proof.Proof.Gen.Pre.Frame
public import proofs.«01_k».proof.Proof.Gen.PreIdeal
public import proofs.«01_k».proof.Proof.Gen.PreIdeal.Skeleton
public import proofs.«01_k».proof.Proof.Gen.PreIdeal.Launch
public import proofs.«01_k».proof.Proof.Gen.PreIdeal.Points
public import proofs.«01_k».proof.Proof.Gen.PreIdeal.Frame
public import proofs.«01_k».proof.Proof.Gen.PreIdeal.Value
public import proofs.«01_k».proof.Proof.Gen.PreRefIdeal
public import proofs.«01_k».proof.Proof.Gen.PreRefIdeal.Run
public import proofs.«01_k».proof.Proof.Gen.PreRefIdeal.Read
public import proofs.«01_k».proof.Proof.PreArray
public import proofs.«01_k».proof.Proof.PreRefValue
public import proofs.«01_k».proof.Proof.Gen.PreRes
public import proofs.«01_k».proof.Proof.Gen.PreRes.Skeleton
public import proofs.«01_k».proof.Proof.Gen.PreRes.Launch
public import proofs.«01_k».proof.Proof.Gen.PreRes.Points
public import proofs.«01_k».proof.Proof.Gen.PreRes.Frame
public import proofs.«01_k».proof.Proof.Gen.PreResIdeal
public import proofs.«01_k».proof.Proof.Gen.PreResIdeal.Skeleton
public import proofs.«01_k».proof.Proof.Gen.PreResIdeal.Launch
public import proofs.«01_k».proof.Proof.Gen.PreResIdeal.Points
public import proofs.«01_k».proof.Proof.Gen.PreResIdeal.Frame
public import proofs.«01_k».proof.Proof.Gen.PreResIdeal.Value
public import proofs.«01_k».proof.Proof.Gen.PreResRefIdeal
public import proofs.«01_k».proof.Proof.Gen.PreResRefIdeal.Run
public import proofs.«01_k».proof.Proof.Gen.PreResRefIdeal.Read
public import proofs.«01_k».proof.Proof.PreResArray
public import proofs.«01_k».proof.Proof.PreResRefValue
public import proofs.«01_k».proof.Proof.Gen.Wkv
public import proofs.«01_k».proof.Proof.Gen.Wkv.Skeleton
public import proofs.«01_k».proof.Proof.Gen.Wkv.Launch
public import proofs.«01_k».proof.Proof.Gen.Wkv.Points
public import proofs.«01_k».proof.Proof.Gen.Wkv.Frame
public import proofs.«01_k».proof.Proof.Gen.WkvIdeal
public import proofs.«01_k».proof.Proof.Gen.WkvIdeal.Skeleton
public import proofs.«01_k».proof.Proof.Gen.WkvIdeal.Launch
public import proofs.«01_k».proof.Proof.Gen.WkvIdeal.Points
public import proofs.«01_k».proof.Proof.Gen.WkvIdeal.Frame
public import Idealize.ShloMosaic.Adequacy
public import Idealize.ShloMosaic.Init

@[expose] public section

noncomputable section

namespace Cert.Proof

open Idealize.ShloMosaic Idealize.ShloMosaic.TcCoe Idealize.SL.Sem

/-- The frame of the printed spatial-gating kernel. -/
theorem frame_sg : Cert.quiescent_Kernel := fun m ρ _ => Cert.Kernel.Gen.frame m ρ

/-- The frame of its idealization. -/
theorem frame_sg_ideal : Cert.quiescent_KernelIdeal := fun m ρ _ => Cert.KernelIdeal.Gen.frame m ρ

/-- The frame of its idealization where the precondition holds. -/
theorem frame_sg_ideal_finite : Cert.quiescent_KernelIdeal_pre_finite := fun m ρ _ => Cert.KernelIdeal.Gen.frame m ρ

/-- The frame of its reference. -/
theorem frame_sg_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The frame of its reference where the precondition holds. -/
theorem frame_sg_ref_finite : Cert.quiescent_ReferenceIdeal_pre_finite := fun m ρ _ => frame_sg_ref m ρ trivial

/-- The named constant rounds to the word the kernel writes. -/
theorem preserves_sg : Cert.preserves_Kernel_KernelIdeal :=
  IdealRules.named_const.statement Cert.KernelIdeal.κ "gelu_cubic" .f32 0x3D122279#32 ((80338380498831 / 2251799813685248 : ℝ) : EReal) rfl

/-- The two agree: both are `sgRow`, with two forms of the activation that agree on real numbers. -/
theorem value_sg : Cert.algebraic_KernelIdeal_ReferenceIdeal_pre_finite := fun m ρ m' ρ' hp hag =>
  ⟨fun c => Cert.KernelIdeal.Val.resultOf m c, Cert.KernelIdeal.Val.run m ρ,
    (θ_run Cert.ReferenceIdeal.defs _ _).mono (fun _ h c => ⟨(h c).1.trans (by
      rw [Cert.ReferenceIdeal.Read.val_main_v85_eq, show StableHlo.launchContents m' c (Proc.devRef .tc Cert.ReferenceIdeal.main_arg0) = _ from (hag c).1,
        show StableHlo.launchContents m' c (Proc.devRef .tc Cert.ReferenceIdeal.main_arg1) = _ from (hag c).2.1,
        show StableHlo.launchContents m' c (Proc.devRef .tc Cert.ReferenceIdeal.main_arg2) = _ from (hag c).2.2.1,
        show StableHlo.launchContents m' c (Proc.devRef .tc Cert.ReferenceIdeal.main_arg3) = _ from (hag c).2.2.2.1,
        show StableHlo.launchContents m' c (Proc.devRef .tc Cert.ReferenceIdeal.main_arg4) = _ from (hag c).2.2.2.2.1,
        show StableHlo.launchContents m' c (Proc.devRef .tc Cert.ReferenceIdeal.main_arg5) = _ from (hag c).2.2.2.2.2.1,
        show StableHlo.launchContents m' c (Proc.devRef .tc Cert.ReferenceIdeal.main_arg6) = _ from (hag c).2.2.2.2.2.2.1,
        show StableHlo.launchContents m' c (Proc.devRef .tc Cert.ReferenceIdeal.main_arg7) = _ from (hag c).2.2.2.2.2.2.2.1,
        show StableHlo.launchContents m' c (Proc.devRef .tc Cert.ReferenceIdeal.main_arg8) = _ from (hag c).2.2.2.2.2.2.2.2.1,
        show StableHlo.launchContents m' c (Proc.devRef .tc Cert.ReferenceIdeal.main_arg9) = _ from (hag c).2.2.2.2.2.2.2.2.2]
      funext i
      idx_vars i
      refine (Cert.ReferenceIdeal.RefValue.ref_at _ _ _ _ _ _ _ _ _ _ _ _).trans ?_
      refine (Cert.Rows.sgRow_congr _ _ _ _ _ _ _ _ _ _ _ _ fun t n => ?_).symm
      exact Cert.Rows.preact_real _ _ _ _ (fun k => Cert.Pre_finite.real_x _ _ _ _ _ _ _ _ _ _ (hp c).1 _)
        (fun k => Cert.Pre_finite.real_w _ _ _ _ _ _ _ _ _ _ (hp c).2.1 _)
        (Cert.Pre_finite.real_o _ _ _ _ _ _ _ _ _ _ (hp c).2.2 _)), (h c).2⟩) (Cert.ReferenceIdeal.Value.run m' ρ')⟩

/-- The frame of the printed feed-forward kernel. -/
theorem frame_ffn : Cert.quiescent_Ffn := fun m ρ _ => Cert.Ffn.Gen.frame m ρ

/-- The frame of the idealized feed-forward kernel. -/
theorem frame_ffn_ideal : Cert.quiescent_FfnIdeal := fun m ρ _ => Cert.FfnIdeal.Gen.frame m ρ

/-- The frame of the feed-forward reference. -/
theorem frame_ffn_ref : Cert.quiescent_FfnRefIdeal := fun m ρ _ =>
  (θ_run Cert.FfnRefIdeal.defs _ _).mono (fun r h => ⟨fun c => (h c).2, sem_eq_zero_of_no_sems (by decide) r.2⟩)
    (Cert.FfnRefIdeal.Value.run m ρ)

/-- The two agree: row by row both are `ffnRow`. -/
theorem value_ffn : Cert.algebraic_FfnIdeal_FfnRefIdeal := fun m ρ m' ρ' _ hag =>
  ⟨fun c => Cert.FfnIdeal.Val.resultOf m c, Cert.FfnIdeal.Val.run m ρ,
    (θ_run Cert.FfnRefIdeal.defs _ _).mono (fun _ h c => ⟨(h c).1.trans (by
      rw [Cert.FfnRefIdeal.Read.val_main_v33_eq, (hag c).1, (hag c).2.1, (hag c).2.2.1, (hag c).2.2.2.1, (hag c).2.2.2.2]
      funext i
      idx_vars i
      exact Cert.FfnRefIdeal.RefValue.ref_at _ _ _ _ _ _ _), (h c).2⟩) (Cert.FfnRefIdeal.Value.run m' ρ')⟩

/-- The frame of the printed channel mixer with the output projection. -/
theorem frame_mix : Cert.quiescent_Mix := fun m ρ _ => Cert.Mix.Gen.frame m ρ

/-- The frame of its idealization. -/
theorem frame_mix_ideal : Cert.quiescent_MixIdeal := fun m ρ _ => Cert.MixIdeal.Gen.frame m ρ

/-- The frame of its reference. -/
theorem frame_mix_ref : Cert.quiescent_MixRefIdeal := fun m ρ _ =>
  (θ_run Cert.MixRefIdeal.defs _ _).mono (fun r h => ⟨fun c => (h c).2, sem_eq_zero_of_no_sems (by decide) r.2⟩)
    (Cert.MixRefIdeal.Value.run m ρ)

/-- The two agree: row by row both are `ffnRow` of `mixRow`. -/
theorem value_mix : Cert.algebraic_MixIdeal_MixRefIdeal := fun m ρ m' ρ' _ hag =>
  ⟨fun c => Cert.MixIdeal.Val.resultOf m c, Cert.MixIdeal.Val.run m ρ,
    (θ_run Cert.MixRefIdeal.defs _ _).mono (fun _ h c => ⟨(h c).1.trans (by
      rw [Cert.MixRefIdeal.Read.val_main_v62_eq, show StableHlo.launchContents m' c (Proc.devRef .tc Cert.MixRefIdeal.main_arg0) = _ from (hag c).1,
        show StableHlo.launchContents m' c (Proc.devRef .tc Cert.MixRefIdeal.main_arg1) = _ from (hag c).2.1,
        show StableHlo.launchContents m' c (Proc.devRef .tc Cert.MixRefIdeal.main_arg2) = _ from (hag c).2.2.1,
        show StableHlo.launchContents m' c (Proc.devRef .tc Cert.MixRefIdeal.main_arg3) = _ from (hag c).2.2.2.1,
        show StableHlo.launchContents m' c (Proc.devRef .tc Cert.MixRefIdeal.main_arg4) = _ from (hag c).2.2.2.2.1,
        show StableHlo.launchContents m' c (Proc.devRef .tc Cert.MixRefIdeal.main_arg5) = _ from (hag c).2.2.2.2.2.1,
        show StableHlo.launchContents m' c (Proc.devRef .tc Cert.MixRefIdeal.main_arg6) = _ from (hag c).2.2.2.2.2.2.1,
        show StableHlo.launchContents m' c (Proc.devRef .tc Cert.MixRefIdeal.main_arg7) = _ from (hag c).2.2.2.2.2.2.2.1,
        show StableHlo.launchContents m' c (Proc.devRef .tc Cert.MixRefIdeal.main_arg8) = _ from (hag c).2.2.2.2.2.2.2.2.1,
        show StableHlo.launchContents m' c (Proc.devRef .tc Cert.MixRefIdeal.main_arg9) = _ from (hag c).2.2.2.2.2.2.2.2.2]
      funext i
      idx_vars i
      exact Cert.MixRefIdeal.RefValue.ref_at _ _ _ _ _ _ _ _ _ _ _ _), (h c).2⟩) (Cert.MixRefIdeal.Value.run m' ρ')⟩

/-- The frame of the printed pre-recurrence projections. -/
theorem frame_pre : Cert.quiescent_Pre := fun m ρ _ => Cert.Pre.Gen.frame m ρ

/-- The frame of their idealization. -/
theorem frame_pre_ideal : Cert.quiescent_PreIdeal := fun m ρ _ => Cert.PreIdeal.Gen.frame m ρ

/-- The frame of their reference. -/
theorem frame_pre_ref : Cert.quiescent_PreRefIdeal := fun m ρ _ =>
  (θ_run Cert.PreRefIdeal.defs _ _).mono (fun r h => ⟨fun c => (h c).2.2.2.2.2.2, sem_eq_zero_of_no_sems (by decide) r.2⟩)
    (Cert.PreRefIdeal.Value.run m ρ)

/-- The six results agree, row by row. -/
theorem value_pre : Cert.algebraic_PreIdeal_PreRefIdeal := fun m ρ m' ρ' _ hag =>
  ⟨fun c => Cert.PreIdeal.Val.resultOf0 m c, fun c => Cert.PreIdeal.Val.resultOf1 m c, fun c => Cert.PreIdeal.Val.resultOf2 m c, fun c => Cert.PreIdeal.Val.resultOf3 m c, fun c => Cert.PreIdeal.Val.resultOf4 m c, fun c => Cert.PreIdeal.Val.resultOf5 m c, Cert.PreIdeal.Val.run m ρ,
    (θ_run Cert.PreRefIdeal.defs _ _).mono (fun _ h c => ⟨(h c).1.trans (by
        rw [Cert.PreRefIdeal.Read.val_main_v82_eq, (hag c).1, (hag c).2.1, (hag c).2.2.1]
        funext i
        idx_vars i
        exact Cert.PreRefIdeal.RefValue.ref_at_0 _ _ _ _ _),
      (h c).2.1.trans (by
        rw [Cert.PreRefIdeal.Read.val_main_v83_eq, (hag c).1, (hag c).2.1, (hag c).2.2.2.1, (hag c).2.2.2.2.1, (hag c).2.2.2.2.2.1]
        funext i
        idx_vars i
        exact Cert.PreRefIdeal.RefValue.ref_at_1 _ _ _ _ _ _ _),
      (h c).2.2.1.trans (by
        rw [Cert.PreRefIdeal.Read.val_main_v84_eq, (hag c).1, (hag c).2.1, (hag c).2.2.1]
        funext i
        idx_vars i
        exact Cert.PreRefIdeal.RefValue.ref_at_2 _ _ _ _ _),
      (h c).2.2.2.1.trans (by
        rw [Cert.PreRefIdeal.Read.val_main_v85_eq, (hag c).1, (hag c).2.1, (hag c).2.2.1]
        funext i
        idx_vars i
        exact Cert.PreRefIdeal.RefValue.ref_at_3 _ _ _ _ _),
      (h c).2.2.2.2.1.trans (by
        rw [Cert.PreRefIdeal.Read.val_main_v86_eq, (hag c).1, (hag c).2.1, (hag c).2.2.2.2.2.2.1, (hag c).2.2.2.2.2.2.2.1, (hag c).2.2.2.2.2.2.2.2.1]
        funext i
        idx_vars i
        exact Cert.PreRefIdeal.RefValue.ref_at_4 _ _ _ _ _ _ _),
      (h c).2.2.2.2.2.1.trans (by
        rw [Cert.PreRefIdeal.Read.val_main_v87_eq, (hag c).1, (hag c).2.1, (hag c).2.2.2.2.2.2.2.2.2.1, (hag c).2.2.2.2.2.2.2.2.2.2]
        funext i
        idx_vars i
        exact Cert.PreRefIdeal.RefValue.ref_at_5 _ _ _ _ _ _),
      (h c).2.2.2.2.2.2⟩) (Cert.PreRefIdeal.Value.run m' ρ')⟩

/-- The frame of the printed pre-recurrence projections with the value residual. -/
theorem frame_res : Cert.quiescent_PreRes := fun m ρ _ => Cert.PreRes.Gen.frame m ρ

/-- The frame of their idealization. -/
theorem frame_res_ideal : Cert.quiescent_PreResIdeal := fun m ρ _ => Cert.PreResIdeal.Gen.frame m ρ

/-- The frame of their reference. -/
theorem frame_res_ref : Cert.quiescent_PreResRefIdeal := fun m ρ _ =>
  (θ_run Cert.PreResRefIdeal.defs _ _).mono (fun r h => ⟨fun c => (h c).2.2.2.2.2.2, sem_eq_zero_of_no_sems (by decide) r.2⟩)
    (Cert.PreResRefIdeal.Value.run m ρ)

/-- The six results agree, row by row. -/
theorem value_res : Cert.algebraic_PreResIdeal_PreResRefIdeal := fun m ρ m' ρ' _ hag =>
  ⟨fun c => Cert.PreResIdeal.Val.resultOf0 m c, fun c => Cert.PreResIdeal.Val.resultOf1 m c, fun c => Cert.PreResIdeal.Val.resultOf2 m c, fun c => Cert.PreResIdeal.Val.resultOf3 m c, fun c => Cert.PreResIdeal.Val.resultOf4 m c, fun c => Cert.PreResIdeal.Val.resultOf5 m c, Cert.PreResIdeal.Val.run m ρ,
    (θ_run Cert.PreResRefIdeal.defs _ _).mono (fun _ h c => ⟨(h c).1.trans (by
        rw [Cert.PreResRefIdeal.Read.val_main_v96_eq, (hag c).1, (hag c).2.2.1, (hag c).2.2.2.1]
        funext i
        idx_vars i
        exact Cert.PreResRefIdeal.RefValue.ref_at_0 _ _ _ _ _),
      (h c).2.1.trans (by
        rw [Cert.PreResRefIdeal.Read.val_main_v97_eq, (hag c).1, (hag c).2.2.1, (hag c).2.2.2.2.1, (hag c).2.2.2.2.2.1, (hag c).2.2.2.2.2.2.1]
        funext i
        idx_vars i
        exact Cert.PreResRefIdeal.RefValue.ref_at_1 _ _ _ _ _ _ _),
      (h c).2.2.1.trans (by
        rw [Cert.PreResRefIdeal.Read.val_main_v98_eq, (hag c).1, (hag c).2.2.1, (hag c).2.2.2.1]
        funext i
        idx_vars i
        exact Cert.PreResRefIdeal.RefValue.ref_at_2 _ _ _ _ _),
      (h c).2.2.2.1.trans (by
        rw [Cert.PreResRefIdeal.Read.val_main_v99_eq, (hag c).1, (hag c).2.1, (hag c).2.2.1, (hag c).2.2.2.1, (hag c).2.2.2.2.2.2.2.2.2.2.1, (hag c).2.2.2.2.2.2.2.2.2.2.2.1, (hag c).2.2.2.2.2.2.2.2.2.2.2.2.1]
        funext i
        idx_vars i
        exact Cert.PreResRefIdeal.RefValue.ref_at_3 _ _ _ _ _ _ _ _ _),
      (h c).2.2.2.2.1.trans (by
        rw [Cert.PreResRefIdeal.Read.val_main_v100_eq, (hag c).1, (hag c).2.2.1, (hag c).2.2.2.2.2.2.2.1, (hag c).2.2.2.2.2.2.2.2.1, (hag c).2.2.2.2.2.2.2.2.2.1]
        funext i
        idx_vars i
        exact Cert.PreResRefIdeal.RefValue.ref_at_4 _ _ _ _ _ _ _),
      (h c).2.2.2.2.2.1.trans (by
        rw [Cert.PreResRefIdeal.Read.val_main_v101_eq, (hag c).1, (hag c).2.2.1, (hag c).2.2.2.2.2.2.2.2.2.2.2.2.2.1, (hag c).2.2.2.2.2.2.2.2.2.2.2.2.2.2]
        funext i
        idx_vars i
        exact Cert.PreResRefIdeal.RefValue.ref_at_5 _ _ _ _ _ _),
      (h c).2.2.2.2.2.2⟩) (Cert.PreResRefIdeal.Value.run m' ρ')⟩

/-- The frame of the printed recurrence. -/
theorem frame_wkv : Cert.quiescent_Wkv := fun m ρ _ => Cert.Wkv.Gen.frame m ρ

/-- The frame of its idealization. -/
theorem frame_wkv_ideal : Cert.quiescent_WkvIdeal := fun m ρ _ => Cert.WkvIdeal.Gen.frame m ρ

theorem claim : Cert.Claim := ⟨Cert.Kernel.Gen.facts, Cert.KernelIdeal.Gen.facts, Cert.ReferenceIdeal.Gen.facts,
  Cert.Ffn.Gen.facts, Cert.FfnIdeal.Gen.facts, Cert.FfnRefIdeal.Gen.facts,
  Cert.Mix.Gen.facts, Cert.MixIdeal.Gen.facts, Cert.MixRefIdeal.Gen.facts,
  Cert.Pre.Gen.facts, Cert.PreIdeal.Gen.facts, Cert.PreRefIdeal.Gen.facts,
  Cert.PreRes.Gen.facts, Cert.PreResIdeal.Gen.facts, Cert.PreResRefIdeal.Gen.facts, Cert.Wkv.Gen.facts, Cert.WkvIdeal.Gen.facts, Cert.Pre_finite.Gen.facts,
  frame_sg, frame_sg_ideal, frame_sg_ideal_finite, frame_sg_ref, frame_sg_ref_finite,
  frame_ffn, frame_ffn_ideal, frame_ffn_ref, frame_mix, frame_mix_ideal, frame_mix_ref,
  frame_pre, frame_pre_ideal, frame_pre_ref, frame_res, frame_res_ideal, frame_res_ref, frame_wkv, frame_wkv_ideal,
  preserves_sg, value_sg, trivial, value_ffn, trivial, value_mix, trivial, value_pre, trivial, value_res, trivial⟩

end Cert.Proof

end
